-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Prepare (m : (ℓ : Loc Cert.Prepare.nD Cert.Prepare.τ Cert.Prepare.sig) → Buf (Elt Bits) ℓ) : Prop :=
  True

def Pre_PrepareIdeal (m : (ℓ : Loc Cert.PrepareIdeal.nD Cert.PrepareIdeal.τ Cert.PrepareIdeal.sig) → Buf (Elt Ideal) ℓ) : Prop :=
  True

def Pre_PrepareReferenceIdeal (m : (ℓ : Loc Cert.PrepareReferenceIdeal.nD Cert.PrepareReferenceIdeal.τ Cert.PrepareReferenceIdeal.sig) → Buf (Elt Ideal) ℓ) : Prop :=
  True

def Pre_PrepareS (m : (ℓ : Loc Cert.PrepareS.nD Cert.PrepareS.τ Cert.PrepareS.sig) → Buf (Elt Bits) ℓ) : Prop :=
  True

def Pre_PrepareSIdeal (m : (ℓ : Loc Cert.PrepareSIdeal.nD Cert.PrepareSIdeal.τ Cert.PrepareSIdeal.sig) → Buf (Elt Ideal) ℓ) : Prop :=
  True

def Pre_PrepareSReferenceIdeal (m : (ℓ : Loc Cert.PrepareSReferenceIdeal.nD Cert.PrepareSReferenceIdeal.τ Cert.PrepareSReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def quiescent_Prepare [hPrepare : Cert.Prepare.Facts] : Prop :=
  ∀ (m : (ℓ : Loc Cert.Prepare.nD Cert.Prepare.τ Cert.Prepare.sig) → Buf (Elt Bits) ℓ) (g : Dev Cert.Prepare.nD → PrngReg), Pre_Prepare m →
    θ_run (Cert.Prepare.defs (F := Bits)) (onTc (τ := Cert.Prepare.τ) (Cert.Prepare.main (F := Bits))) ⟨m, fun _ => 0, g⟩ (fun r => (∀ c : Dev Cert.Prepare.nD,
      r.2.mem ((c.tc : Thread Cert.Prepare.nD Cert.Prepare.τ).loc Cert.Prepare.main_arg0) = m ((c.tc : Thread Cert.Prepare.nD Cert.Prepare.τ).loc Cert.Prepare.main_arg0)
      ∧ r.2.mem ((c.tc : Thread Cert.Prepare.nD Cert.Prepare.τ).loc Cert.Prepare.main_arg1) = m ((c.tc : Thread Cert.Prepare.nD Cert.Prepare.τ).loc Cert.Prepare.main_arg1)
      ∧ r.2.mem ((c.tc : Thread Cert.Prepare.nD Cert.Prepare.τ).loc Cert.Prepare.main_arg2) = m ((c.tc : Thread Cert.Prepare.nD Cert.Prepare.τ).loc Cert.Prepare.main_arg2)
      ∧ r.2.mem ((c.tc : Thread Cert.Prepare.nD Cert.Prepare.τ).loc Cert.Prepare.main_arg3) = m ((c.tc : Thread Cert.Prepare.nD Cert.Prepare.τ).loc Cert.Prepare.main_arg3)
      ∧ r.2.mem ((c.tc : Thread Cert.Prepare.nD Cert.Prepare.τ).loc Cert.Prepare.main_arg4) = m ((c.tc : Thread Cert.Prepare.nD Cert.Prepare.τ).loc Cert.Prepare.main_arg4)
      ∧ r.2.mem ((c.tc : Thread Cert.Prepare.nD Cert.Prepare.τ).loc Cert.Prepare.main_arg5) = m ((c.tc : Thread Cert.Prepare.nD Cert.Prepare.τ).loc Cert.Prepare.main_arg5))
      ∧ r.2.sem = fun _ => 0)

def quiescent_PrepareIdeal [hPrepareIdeal : Cert.PrepareIdeal.Facts] : Prop :=
  ∀ (m : (ℓ : Loc Cert.PrepareIdeal.nD Cert.PrepareIdeal.τ Cert.PrepareIdeal.sig) → Buf (Elt Ideal) ℓ) (g : Dev Cert.PrepareIdeal.nD → PrngReg), Pre_PrepareIdeal m →
    θ_run (Cert.PrepareIdeal.defs (F := Ideal)) (onTc (τ := Cert.PrepareIdeal.τ) (Cert.PrepareIdeal.main (F := Ideal))) ⟨m, fun _ => 0, g⟩ (fun r => (∀ c : Dev Cert.PrepareIdeal.nD,
      r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
      ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
      ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
      ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
      ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
      ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5))
      ∧ r.2.sem = fun _ => 0)

def quiescent_PrepareReferenceIdeal [hPrepareReferenceIdeal : Cert.PrepareReferenceIdeal.Facts] : Prop :=
  ∀ (m : (ℓ : Loc Cert.PrepareReferenceIdeal.nD Cert.PrepareReferenceIdeal.τ Cert.PrepareReferenceIdeal.sig) → Buf (Elt Ideal) ℓ) (g : Dev Cert.PrepareReferenceIdeal.nD → PrngReg), Pre_PrepareReferenceIdeal m →
    θ_run (Cert.PrepareReferenceIdeal.defs (F := Ideal)) (onTc (τ := Cert.PrepareReferenceIdeal.τ) (Cert.PrepareReferenceIdeal.main (F := Ideal))) ⟨m, fun _ => 0, g⟩ (fun r => (∀ c : Dev Cert.PrepareReferenceIdeal.nD,
      r.2.mem ((c.tc : Thread Cert.PrepareReferenceIdeal.nD Cert.PrepareReferenceIdeal.τ).loc Cert.PrepareReferenceIdeal.main_arg0) = m ((c.tc : Thread Cert.PrepareReferenceIdeal.nD Cert.PrepareReferenceIdeal.τ).loc Cert.PrepareReferenceIdeal.main_arg0)
      ∧ r.2.mem ((c.tc : Thread Cert.PrepareReferenceIdeal.nD Cert.PrepareReferenceIdeal.τ).loc Cert.PrepareReferenceIdeal.main_arg1) = m ((c.tc : Thread Cert.PrepareReferenceIdeal.nD Cert.PrepareReferenceIdeal.τ).loc Cert.PrepareReferenceIdeal.main_arg1)
      ∧ r.2.mem ((c.tc : Thread Cert.PrepareReferenceIdeal.nD Cert.PrepareReferenceIdeal.τ).loc Cert.PrepareReferenceIdeal.main_arg2) = m ((c.tc : Thread Cert.PrepareReferenceIdeal.nD Cert.PrepareReferenceIdeal.τ).loc Cert.PrepareReferenceIdeal.main_arg2)
      ∧ r.2.mem ((c.tc : Thread Cert.PrepareReferenceIdeal.nD Cert.PrepareReferenceIdeal.τ).loc Cert.PrepareReferenceIdeal.main_arg3) = m ((c.tc : Thread Cert.PrepareReferenceIdeal.nD Cert.PrepareReferenceIdeal.τ).loc Cert.PrepareReferenceIdeal.main_arg3)
      ∧ r.2.mem ((c.tc : Thread Cert.PrepareReferenceIdeal.nD Cert.PrepareReferenceIdeal.τ).loc Cert.PrepareReferenceIdeal.main_arg4) = m ((c.tc : Thread Cert.PrepareReferenceIdeal.nD Cert.PrepareReferenceIdeal.τ).loc Cert.PrepareReferenceIdeal.main_arg4)
      ∧ r.2.mem ((c.tc : Thread Cert.PrepareReferenceIdeal.nD Cert.PrepareReferenceIdeal.τ).loc Cert.PrepareReferenceIdeal.main_arg5) = m ((c.tc : Thread Cert.PrepareReferenceIdeal.nD Cert.PrepareReferenceIdeal.τ).loc Cert.PrepareReferenceIdeal.main_arg5))
      ∧ r.2.sem = fun _ => 0)

def quiescent_PrepareS [hPrepareS : Cert.PrepareS.Facts] : Prop :=
  ∀ (m : (ℓ : Loc Cert.PrepareS.nD Cert.PrepareS.τ Cert.PrepareS.sig) → Buf (Elt Bits) ℓ) (g : Dev Cert.PrepareS.nD → PrngReg), Pre_PrepareS m →
    θ_run (Cert.PrepareS.defs (F := Bits)) (onTc (τ := Cert.PrepareS.τ) (Cert.PrepareS.main (F := Bits))) ⟨m, fun _ => 0, g⟩ (fun r => (∀ c : Dev Cert.PrepareS.nD,
      r.2.mem ((c.tc : Thread Cert.PrepareS.nD Cert.PrepareS.τ).loc Cert.PrepareS.main_arg0) = m ((c.tc : Thread Cert.PrepareS.nD Cert.PrepareS.τ).loc Cert.PrepareS.main_arg0)
      ∧ r.2.mem ((c.tc : Thread Cert.PrepareS.nD Cert.PrepareS.τ).loc Cert.PrepareS.main_arg1) = m ((c.tc : Thread Cert.PrepareS.nD Cert.PrepareS.τ).loc Cert.PrepareS.main_arg1)
      ∧ r.2.mem ((c.tc : Thread Cert.PrepareS.nD Cert.PrepareS.τ).loc Cert.PrepareS.main_arg2) = m ((c.tc : Thread Cert.PrepareS.nD Cert.PrepareS.τ).loc Cert.PrepareS.main_arg2)
      ∧ r.2.mem ((c.tc : Thread Cert.PrepareS.nD Cert.PrepareS.τ).loc Cert.PrepareS.main_arg3) = m ((c.tc : Thread Cert.PrepareS.nD Cert.PrepareS.τ).loc Cert.PrepareS.main_arg3)
      ∧ r.2.mem ((c.tc : Thread Cert.PrepareS.nD Cert.PrepareS.τ).loc Cert.PrepareS.main_arg4) = m ((c.tc : Thread Cert.PrepareS.nD Cert.PrepareS.τ).loc Cert.PrepareS.main_arg4))
      ∧ r.2.sem = fun _ => 0)

def quiescent_PrepareSIdeal [hPrepareSIdeal : Cert.PrepareSIdeal.Facts] : Prop :=
  ∀ (m : (ℓ : Loc Cert.PrepareSIdeal.nD Cert.PrepareSIdeal.τ Cert.PrepareSIdeal.sig) → Buf (Elt Ideal) ℓ) (g : Dev Cert.PrepareSIdeal.nD → PrngReg), Pre_PrepareSIdeal m →
    θ_run (Cert.PrepareSIdeal.defs (F := Ideal)) (onTc (τ := Cert.PrepareSIdeal.τ) (Cert.PrepareSIdeal.main (F := Ideal))) ⟨m, fun _ => 0, g⟩ (fun r => (∀ c : Dev Cert.PrepareSIdeal.nD,
      r.2.mem ((c.tc : Thread Cert.PrepareSIdeal.nD Cert.PrepareSIdeal.τ).loc Cert.PrepareSIdeal.main_arg0) = m ((c.tc : Thread Cert.PrepareSIdeal.nD Cert.PrepareSIdeal.τ).loc Cert.PrepareSIdeal.main_arg0)
      ∧ r.2.mem ((c.tc : Thread Cert.PrepareSIdeal.nD Cert.PrepareSIdeal.τ).loc Cert.PrepareSIdeal.main_arg1) = m ((c.tc : Thread Cert.PrepareSIdeal.nD Cert.PrepareSIdeal.τ).loc Cert.PrepareSIdeal.main_arg1)
      ∧ r.2.mem ((c.tc : Thread Cert.PrepareSIdeal.nD Cert.PrepareSIdeal.τ).loc Cert.PrepareSIdeal.main_arg2) = m ((c.tc : Thread Cert.PrepareSIdeal.nD Cert.PrepareSIdeal.τ).loc Cert.PrepareSIdeal.main_arg2)
      ∧ r.2.mem ((c.tc : Thread Cert.PrepareSIdeal.nD Cert.PrepareSIdeal.τ).loc Cert.PrepareSIdeal.main_arg3) = m ((c.tc : Thread Cert.PrepareSIdeal.nD Cert.PrepareSIdeal.τ).loc Cert.PrepareSIdeal.main_arg3)
      ∧ r.2.mem ((c.tc : Thread Cert.PrepareSIdeal.nD Cert.PrepareSIdeal.τ).loc Cert.PrepareSIdeal.main_arg4) = m ((c.tc : Thread Cert.PrepareSIdeal.nD Cert.PrepareSIdeal.τ).loc Cert.PrepareSIdeal.main_arg4))
      ∧ r.2.sem = fun _ => 0)

def quiescent_PrepareSReferenceIdeal [hPrepareSReferenceIdeal : Cert.PrepareSReferenceIdeal.Facts] : Prop :=
  ∀ (m : (ℓ : Loc Cert.PrepareSReferenceIdeal.nD Cert.PrepareSReferenceIdeal.τ Cert.PrepareSReferenceIdeal.sig) → Buf (Elt Ideal) ℓ) (g : Dev Cert.PrepareSReferenceIdeal.nD → PrngReg), Pre_PrepareSReferenceIdeal m →
    θ_run (Cert.PrepareSReferenceIdeal.defs (F := Ideal)) (onTc (τ := Cert.PrepareSReferenceIdeal.τ) (Cert.PrepareSReferenceIdeal.main (F := Ideal))) ⟨m, fun _ => 0, g⟩ (fun r => (∀ c : Dev Cert.PrepareSReferenceIdeal.nD,
      r.2.mem ((c.tc : Thread Cert.PrepareSReferenceIdeal.nD Cert.PrepareSReferenceIdeal.τ).loc Cert.PrepareSReferenceIdeal.main_arg0) = m ((c.tc : Thread Cert.PrepareSReferenceIdeal.nD Cert.PrepareSReferenceIdeal.τ).loc Cert.PrepareSReferenceIdeal.main_arg0)
      ∧ r.2.mem ((c.tc : Thread Cert.PrepareSReferenceIdeal.nD Cert.PrepareSReferenceIdeal.τ).loc Cert.PrepareSReferenceIdeal.main_arg1) = m ((c.tc : Thread Cert.PrepareSReferenceIdeal.nD Cert.PrepareSReferenceIdeal.τ).loc Cert.PrepareSReferenceIdeal.main_arg1)
      ∧ r.2.mem ((c.tc : Thread Cert.PrepareSReferenceIdeal.nD Cert.PrepareSReferenceIdeal.τ).loc Cert.PrepareSReferenceIdeal.main_arg2) = m ((c.tc : Thread Cert.PrepareSReferenceIdeal.nD Cert.PrepareSReferenceIdeal.τ).loc Cert.PrepareSReferenceIdeal.main_arg2)
      ∧ r.2.mem ((c.tc : Thread Cert.PrepareSReferenceIdeal.nD Cert.PrepareSReferenceIdeal.τ).loc Cert.PrepareSReferenceIdeal.main_arg3) = m ((c.tc : Thread Cert.PrepareSReferenceIdeal.nD Cert.PrepareSReferenceIdeal.τ).loc Cert.PrepareSReferenceIdeal.main_arg3)
      ∧ r.2.mem ((c.tc : Thread Cert.PrepareSReferenceIdeal.nD Cert.PrepareSReferenceIdeal.τ).loc Cert.PrepareSReferenceIdeal.main_arg4) = m ((c.tc : Thread Cert.PrepareSReferenceIdeal.nD Cert.PrepareSReferenceIdeal.τ).loc Cert.PrepareSReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v1_0)) (v1 : (c : Dev Cert.ProjectIdeal.nD) → Buf (Elt Ideal) ((c.tc : Thread Cert.ProjectIdeal.nD Cert.ProjectIdeal.τ).loc Cert.ProjectIdeal.main_v1_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v1_0) = v0 c
          ∧ r.2.mem ((c.tc : Thread Cert.ProjectIdeal.nD Cert.ProjectIdeal.τ).loc Cert.ProjectIdeal.main_v1_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v20) = v0 c
          ∧ r.2.mem ((c.tc : Thread Cert.ProjectReferenceIdeal.nD Cert.ProjectReferenceIdeal.τ).loc Cert.ProjectReferenceIdeal.main_v22) = v1 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4))

def preserves_Prepare_PrepareIdeal : Prop :=
  True

def algebraic_PrepareIdeal_PrepareReferenceIdeal [hPrepareIdeal : Cert.PrepareIdeal.Facts] [hPrepareReferenceIdeal : Cert.PrepareReferenceIdeal.Facts] : Prop :=
  ∀ (m : (ℓ : Loc Cert.PrepareIdeal.nD Cert.PrepareIdeal.τ Cert.PrepareIdeal.sig) → Buf (Elt Ideal) ℓ) (g : Dev Cert.PrepareIdeal.nD → PrngReg)
    (m' : (ℓ : Loc Cert.PrepareReferenceIdeal.nD Cert.PrepareReferenceIdeal.τ Cert.PrepareReferenceIdeal.sig) → Buf (Elt Ideal) ℓ) (g' : Dev Cert.PrepareReferenceIdeal.nD → PrngReg), Pre_PrepareIdeal m →
    (∀ c : Dev Cert.PrepareIdeal.nD,
      m' ((c.tc : Thread Cert.PrepareReferenceIdeal.nD Cert.PrepareReferenceIdeal.τ).loc Cert.PrepareReferenceIdeal.main_arg0) = m ((c.tc : Thread Cert.PrepareIdeal.nD Cert.PrepareIdeal.τ).loc Cert.PrepareIdeal.main_arg0)
      ∧ m' ((c.tc : Thread Cert.PrepareReferenceIdeal.nD Cert.PrepareReferenceIdeal.τ).loc Cert.PrepareReferenceIdeal.main_arg1) = m ((c.tc : Thread Cert.PrepareIdeal.nD Cert.PrepareIdeal.τ).loc Cert.PrepareIdeal.main_arg1)
      ∧ m' ((c.tc : Thread Cert.PrepareReferenceIdeal.nD Cert.PrepareReferenceIdeal.τ).loc Cert.PrepareReferenceIdeal.main_arg2) = m ((c.tc : Thread Cert.PrepareIdeal.nD Cert.PrepareIdeal.τ).loc Cert.PrepareIdeal.main_arg2)
      ∧ m' ((c.tc : Thread Cert.PrepareReferenceIdeal.nD Cert.PrepareReferenceIdeal.τ).loc Cert.PrepareReferenceIdeal.main_arg3) = m ((c.tc : Thread Cert.PrepareIdeal.nD Cert.PrepareIdeal.τ).loc Cert.PrepareIdeal.main_arg3)
      ∧ m' ((c.tc : Thread Cert.PrepareReferenceIdeal.nD Cert.PrepareReferenceIdeal.τ).loc Cert.PrepareReferenceIdeal.main_arg4) = m ((c.tc : Thread Cert.PrepareIdeal.nD Cert.PrepareIdeal.τ).loc Cert.PrepareIdeal.main_arg4)
      ∧ m' ((c.tc : Thread Cert.PrepareReferenceIdeal.nD Cert.PrepareReferenceIdeal.τ).loc Cert.PrepareReferenceIdeal.main_arg5) = m ((c.tc : Thread Cert.PrepareIdeal.nD Cert.PrepareIdeal.τ).loc Cert.PrepareIdeal.main_arg5)) →
    ∃ (v0 : (c : Dev Cert.PrepareIdeal.nD) → Buf (Elt Ideal) ((c.tc : Thread Cert.PrepareIdeal.nD Cert.PrepareIdeal.τ).loc Cert.PrepareIdeal.main_v37_0)) (v1 : (c : Dev Cert.PrepareIdeal.nD) → Buf (Elt Ideal) ((c.tc : Thread Cert.PrepareIdeal.nD Cert.PrepareIdeal.τ).loc Cert.PrepareIdeal.main_v37_1)) (v2 : (c : Dev Cert.PrepareIdeal.nD) → Buf (Elt Ideal) ((c.tc : Thread Cert.PrepareIdeal.nD Cert.PrepareIdeal.τ).loc Cert.PrepareIdeal.main_v37_2)) (v3 : (c : Dev Cert.PrepareIdeal.nD) → Buf (Elt Ideal) ((c.tc : Thread Cert.PrepareIdeal.nD Cert.PrepareIdeal.τ).loc Cert.PrepareIdeal.main_v37_3)) (v4 : (c : Dev Cert.PrepareIdeal.nD) → Buf (Elt Ideal) ((c.tc : Thread Cert.PrepareIdeal.nD Cert.PrepareIdeal.τ).loc Cert.PrepareIdeal.main_v37_4)),
      θ_run (Cert.PrepareIdeal.defs (F := Ideal)) (onTc (τ := Cert.PrepareIdeal.τ) (Cert.PrepareIdeal.main (F := Ideal))) ⟨m, fun _ => 0, g⟩ (fun r => ∀ c : Dev Cert.PrepareIdeal.nD,
          r.2.mem ((c.tc : Thread Cert.PrepareIdeal.nD Cert.PrepareIdeal.τ).loc Cert.PrepareIdeal.main_v37_0) = v0 c
          ∧ r.2.mem ((c.tc : Thread Cert.PrepareIdeal.nD Cert.PrepareIdeal.τ).loc Cert.PrepareIdeal.main_v37_1) = v1 c
          ∧ r.2.mem ((c.tc : Thread Cert.PrepareIdeal.nD Cert.PrepareIdeal.τ).loc Cert.PrepareIdeal.main_v37_2) = v2 c
          ∧ r.2.mem ((c.tc : Thread Cert.PrepareIdeal.nD Cert.PrepareIdeal.τ).loc Cert.PrepareIdeal.main_v37_3) = v3 c
          ∧ r.2.mem ((c.tc : Thread Cert.PrepareIdeal.nD Cert.PrepareIdeal.τ).loc Cert.PrepareIdeal.main_v37_4) = v4 c
          ∧ r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
          ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
          ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
          ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
          ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
          ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5))
      ∧ θ_run (Cert.PrepareReferenceIdeal.defs (F := Ideal)) (onTc (τ := Cert.PrepareReferenceIdeal.τ) (Cert.PrepareReferenceIdeal.main (F := Ideal))) ⟨m', fun _ => 0, g'⟩ (fun r => ∀ c : Dev Cert.PrepareReferenceIdeal.nD,
          r.2.mem ((c.tc : Thread Cert.PrepareReferenceIdeal.nD Cert.PrepareReferenceIdeal.τ).loc Cert.PrepareReferenceIdeal.main_v109) = v0 c
          ∧ r.2.mem ((c.tc : Thread Cert.PrepareReferenceIdeal.nD Cert.PrepareReferenceIdeal.τ).loc Cert.PrepareReferenceIdeal.main_v110) = v1 c
          ∧ r.2.mem ((c.tc : Thread Cert.PrepareReferenceIdeal.nD Cert.PrepareReferenceIdeal.τ).loc Cert.PrepareReferenceIdeal.main_v111) = v2 c
          ∧ r.2.mem ((c.tc : Thread Cert.PrepareReferenceIdeal.nD Cert.PrepareReferenceIdeal.τ).loc Cert.PrepareReferenceIdeal.main_v26) = v3 c
          ∧ r.2.mem ((c.tc : Thread Cert.PrepareReferenceIdeal.nD Cert.PrepareReferenceIdeal.τ).loc Cert.PrepareReferenceIdeal.main_v50) = v4 c
          ∧ r.2.mem ((c.tc : Thread Cert.PrepareReferenceIdeal.nD Cert.PrepareReferenceIdeal.τ).loc Cert.PrepareReferenceIdeal.main_arg0) = m' ((c.tc : Thread Cert.PrepareReferenceIdeal.nD Cert.PrepareReferenceIdeal.τ).loc Cert.PrepareReferenceIdeal.main_arg0)
          ∧ r.2.mem ((c.tc : Thread Cert.PrepareReferenceIdeal.nD Cert.PrepareReferenceIdeal.τ).loc Cert.PrepareReferenceIdeal.main_arg1) = m' ((c.tc : Thread Cert.PrepareReferenceIdeal.nD Cert.PrepareReferenceIdeal.τ).loc Cert.PrepareReferenceIdeal.main_arg1)
          ∧ r.2.mem ((c.tc : Thread Cert.PrepareReferenceIdeal.nD Cert.PrepareReferenceIdeal.τ).loc Cert.PrepareReferenceIdeal.main_arg2) = m' ((c.tc : Thread Cert.PrepareReferenceIdeal.nD Cert.PrepareReferenceIdeal.τ).loc Cert.PrepareReferenceIdeal.main_arg2)
          ∧ r.2.mem ((c.tc : Thread Cert.PrepareReferenceIdeal.nD Cert.PrepareReferenceIdeal.τ).loc Cert.PrepareReferenceIdeal.main_arg3) = m' ((c.tc : Thread Cert.PrepareReferenceIdeal.nD Cert.PrepareReferenceIdeal.τ).loc Cert.PrepareReferenceIdeal.main_arg3)
          ∧ r.2.mem ((c.tc : Thread Cert.PrepareReferenceIdeal.nD Cert.PrepareReferenceIdeal.τ).loc Cert.PrepareReferenceIdeal.main_arg4) = m' ((c.tc : Thread Cert.PrepareReferenceIdeal.nD Cert.PrepareReferenceIdeal.τ).loc Cert.PrepareReferenceIdeal.main_arg4)
          ∧ r.2.mem ((c.tc : Thread Cert.PrepareReferenceIdeal.nD Cert.PrepareReferenceIdeal.τ).loc Cert.PrepareReferenceIdeal.main_arg5) = m' ((c.tc : Thread Cert.PrepareReferenceIdeal.nD Cert.PrepareReferenceIdeal.τ).loc Cert.PrepareReferenceIdeal.main_arg5))

def preserves_PrepareS_PrepareSIdeal : Prop :=
  True

def algebraic_PrepareSIdeal_PrepareSReferenceIdeal [hPrepareSIdeal : Cert.PrepareSIdeal.Facts] [hPrepareSReferenceIdeal : Cert.PrepareSReferenceIdeal.Facts] : Prop :=
  ∀ (m : (ℓ : Loc Cert.PrepareSIdeal.nD Cert.PrepareSIdeal.τ Cert.PrepareSIdeal.sig) → Buf (Elt Ideal) ℓ) (g : Dev Cert.PrepareSIdeal.nD → PrngReg)
    (m' : (ℓ : Loc Cert.PrepareSReferenceIdeal.nD Cert.PrepareSReferenceIdeal.τ Cert.PrepareSReferenceIdeal.sig) → Buf (Elt Ideal) ℓ) (g' : Dev Cert.PrepareSReferenceIdeal.nD → PrngReg), Pre_PrepareSIdeal m →
    (∀ c : Dev Cert.PrepareSIdeal.nD,
      m' ((c.tc : Thread Cert.PrepareSReferenceIdeal.nD Cert.PrepareSReferenceIdeal.τ).loc Cert.PrepareSReferenceIdeal.main_arg0) = m ((c.tc : Thread Cert.PrepareSIdeal.nD Cert.PrepareSIdeal.τ).loc Cert.PrepareSIdeal.main_arg0)
      ∧ m' ((c.tc : Thread Cert.PrepareSReferenceIdeal.nD Cert.PrepareSReferenceIdeal.τ).loc Cert.PrepareSReferenceIdeal.main_arg1) = m ((c.tc : Thread Cert.PrepareSIdeal.nD Cert.PrepareSIdeal.τ).loc Cert.PrepareSIdeal.main_arg1)
      ∧ m' ((c.tc : Thread Cert.PrepareSReferenceIdeal.nD Cert.PrepareSReferenceIdeal.τ).loc Cert.PrepareSReferenceIdeal.main_arg2) = m ((c.tc : Thread Cert.PrepareSIdeal.nD Cert.PrepareSIdeal.τ).loc Cert.PrepareSIdeal.main_arg2)
      ∧ m' ((c.tc : Thread Cert.PrepareSReferenceIdeal.nD Cert.PrepareSReferenceIdeal.τ).loc Cert.PrepareSReferenceIdeal.main_arg3) = m ((c.tc : Thread Cert.PrepareSIdeal.nD Cert.PrepareSIdeal.τ).loc Cert.PrepareSIdeal.main_arg3)
      ∧ m' ((c.tc : Thread Cert.PrepareSReferenceIdeal.nD Cert.PrepareSReferenceIdeal.τ).loc Cert.PrepareSReferenceIdeal.main_arg4) = m ((c.tc : Thread Cert.PrepareSIdeal.nD Cert.PrepareSIdeal.τ).loc Cert.PrepareSIdeal.main_arg4)) →
    ∃ (v0 : (c : Dev Cert.PrepareSIdeal.nD) → Buf (Elt Ideal) ((c.tc : Thread Cert.PrepareSIdeal.nD Cert.PrepareSIdeal.τ).loc Cert.PrepareSIdeal.main_v36_0)) (v1 : (c : Dev Cert.PrepareSIdeal.nD) → Buf (Elt Ideal) ((c.tc : Thread Cert.PrepareSIdeal.nD Cert.PrepareSIdeal.τ).loc Cert.PrepareSIdeal.main_v36_1)) (v2 : (c : Dev Cert.PrepareSIdeal.nD) → Buf (Elt Ideal) ((c.tc : Thread Cert.PrepareSIdeal.nD Cert.PrepareSIdeal.τ).loc Cert.PrepareSIdeal.main_v36_2)) (v3 : (c : Dev Cert.PrepareSIdeal.nD) → Buf (Elt Ideal) ((c.tc : Thread Cert.PrepareSIdeal.nD Cert.PrepareSIdeal.τ).loc Cert.PrepareSIdeal.main_v36_3)),
      θ_run (Cert.PrepareSIdeal.defs (F := Ideal)) (onTc (τ := Cert.PrepareSIdeal.τ) (Cert.PrepareSIdeal.main (F := Ideal))) ⟨m, fun _ => 0, g⟩ (fun r => ∀ c : Dev Cert.PrepareSIdeal.nD,
          r.2.mem ((c.tc : Thread Cert.PrepareSIdeal.nD Cert.PrepareSIdeal.τ).loc Cert.PrepareSIdeal.main_v36_0) = v0 c
          ∧ r.2.mem ((c.tc : Thread Cert.PrepareSIdeal.nD Cert.PrepareSIdeal.τ).loc Cert.PrepareSIdeal.main_v36_1) = v1 c
          ∧ r.2.mem ((c.tc : Thread Cert.PrepareSIdeal.nD Cert.PrepareSIdeal.τ).loc Cert.PrepareSIdeal.main_v36_2) = v2 c
          ∧ r.2.mem ((c.tc : Thread Cert.PrepareSIdeal.nD Cert.PrepareSIdeal.τ).loc Cert.PrepareSIdeal.main_v36_3) = v3 c
          ∧ r.2.mem ((c.tc : Thread Cert.PrepareSIdeal.nD Cert.PrepareSIdeal.τ).loc Cert.PrepareSIdeal.main_arg0) = m ((c.tc : Thread Cert.PrepareSIdeal.nD Cert.PrepareSIdeal.τ).loc Cert.PrepareSIdeal.main_arg0)
          ∧ r.2.mem ((c.tc : Thread Cert.PrepareSIdeal.nD Cert.PrepareSIdeal.τ).loc Cert.PrepareSIdeal.main_arg1) = m ((c.tc : Thread Cert.PrepareSIdeal.nD Cert.PrepareSIdeal.τ).loc Cert.PrepareSIdeal.main_arg1)
          ∧ r.2.mem ((c.tc : Thread Cert.PrepareSIdeal.nD Cert.PrepareSIdeal.τ).loc Cert.PrepareSIdeal.main_arg2) = m ((c.tc : Thread Cert.PrepareSIdeal.nD Cert.PrepareSIdeal.τ).loc Cert.PrepareSIdeal.main_arg2)
          ∧ r.2.mem ((c.tc : Thread Cert.PrepareSIdeal.nD Cert.PrepareSIdeal.τ).loc Cert.PrepareSIdeal.main_arg3) = m ((c.tc : Thread Cert.PrepareSIdeal.nD Cert.PrepareSIdeal.τ).loc Cert.PrepareSIdeal.main_arg3)
          ∧ r.2.mem ((c.tc : Thread Cert.PrepareSIdeal.nD Cert.PrepareSIdeal.τ).loc Cert.PrepareSIdeal.main_arg4) = m ((c.tc : Thread Cert.PrepareSIdeal.nD Cert.PrepareSIdeal.τ).loc Cert.PrepareSIdeal.main_arg4))
      ∧ θ_run (Cert.PrepareSReferenceIdeal.defs (F := Ideal)) (onTc (τ := Cert.PrepareSReferenceIdeal.τ) (Cert.PrepareSReferenceIdeal.main (F := Ideal))) ⟨m', fun _ => 0, g'⟩ (fun r => ∀ c : Dev Cert.PrepareSReferenceIdeal.nD,
          r.2.mem ((c.tc : Thread Cert.PrepareSReferenceIdeal.nD Cert.PrepareSReferenceIdeal.τ).loc Cert.PrepareSReferenceIdeal.main_v92) = v0 c
          ∧ r.2.mem ((c.tc : Thread Cert.PrepareSReferenceIdeal.nD Cert.PrepareSReferenceIdeal.τ).loc Cert.PrepareSReferenceIdeal.main_v93) = v1 c
          ∧ r.2.mem ((c.tc : Thread Cert.PrepareSReferenceIdeal.nD Cert.PrepareSReferenceIdeal.τ).loc Cert.PrepareSReferenceIdeal.main_v26) = v2 c
          ∧ r.2.mem ((c.tc : Thread Cert.PrepareSReferenceIdeal.nD Cert.PrepareSReferenceIdeal.τ).loc Cert.PrepareSReferenceIdeal.main_v53) = v3 c
          ∧ r.2.mem ((c.tc : Thread Cert.PrepareSReferenceIdeal.nD Cert.PrepareSReferenceIdeal.τ).loc Cert.PrepareSReferenceIdeal.main_arg0) = m' ((c.tc : Thread Cert.PrepareSReferenceIdeal.nD Cert.PrepareSReferenceIdeal.τ).loc Cert.PrepareSReferenceIdeal.main_arg0)
          ∧ r.2.mem ((c.tc : Thread Cert.PrepareSReferenceIdeal.nD Cert.PrepareSReferenceIdeal.τ).loc Cert.PrepareSReferenceIdeal.main_arg1) = m' ((c.tc : Thread Cert.PrepareSReferenceIdeal.nD Cert.PrepareSReferenceIdeal.τ).loc Cert.PrepareSReferenceIdeal.main_arg1)
          ∧ r.2.mem ((c.tc : Thread Cert.PrepareSReferenceIdeal.nD Cert.PrepareSReferenceIdeal.τ).loc Cert.PrepareSReferenceIdeal.main_arg2) = m' ((c.tc : Thread Cert.PrepareSReferenceIdeal.nD Cert.PrepareSReferenceIdeal.τ).loc Cert.PrepareSReferenceIdeal.main_arg2)
          ∧ r.2.mem ((c.tc : Thread Cert.PrepareSReferenceIdeal.nD Cert.PrepareSReferenceIdeal.τ).loc Cert.PrepareSReferenceIdeal.main_arg3) = m' ((c.tc : Thread Cert.PrepareSReferenceIdeal.nD Cert.PrepareSReferenceIdeal.τ).loc Cert.PrepareSReferenceIdeal.main_arg3)
          ∧ r.2.mem ((c.tc : Thread Cert.PrepareSReferenceIdeal.nD Cert.PrepareSReferenceIdeal.τ).loc Cert.PrepareSReferenceIdeal.main_arg4) = m' ((c.tc : Thread Cert.PrepareSReferenceIdeal.nD Cert.PrepareSReferenceIdeal.τ).loc Cert.PrepareSReferenceIdeal.main_arg4))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hPrepare : Cert.Prepare.Facts) (hPrepareIdeal : Cert.PrepareIdeal.Facts) (hPrepareReferenceIdeal : Cert.PrepareReferenceIdeal.Facts) (hPrepareS : Cert.PrepareS.Facts) (hPrepareSIdeal : Cert.PrepareSIdeal.Facts) (hPrepareSReferenceIdeal : Cert.PrepareSReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Project (hProject := hProject)
    ∧ quiescent_ProjectIdeal (hProjectIdeal := hProjectIdeal)
    ∧ quiescent_ProjectReferenceIdeal (hProjectReferenceIdeal := hProjectReferenceIdeal)
    ∧ quiescent_Prepare (hPrepare := hPrepare)
    ∧ quiescent_PrepareIdeal (hPrepareIdeal := hPrepareIdeal)
    ∧ quiescent_PrepareReferenceIdeal (hPrepareReferenceIdeal := hPrepareReferenceIdeal)
    ∧ quiescent_PrepareS (hPrepareS := hPrepareS)
    ∧ quiescent_PrepareSIdeal (hPrepareSIdeal := hPrepareSIdeal)
    ∧ quiescent_PrepareSReferenceIdeal (hPrepareSReferenceIdeal := hPrepareSReferenceIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_Project_ProjectIdeal
    ∧ algebraic_ProjectIdeal_ProjectReferenceIdeal (hProjectIdeal := hProjectIdeal) (hProjectReferenceIdeal := hProjectReferenceIdeal)
    ∧ preserves_Prepare_PrepareIdeal
    ∧ algebraic_PrepareIdeal_PrepareReferenceIdeal (hPrepareIdeal := hPrepareIdeal) (hPrepareReferenceIdeal := hPrepareReferenceIdeal)
    ∧ preserves_PrepareS_PrepareSIdeal
    ∧ algebraic_PrepareSIdeal_PrepareSReferenceIdeal (hPrepareSIdeal := hPrepareSIdeal) (hPrepareSReferenceIdeal := hPrepareSReferenceIdeal)
-- ==== Pre_tame.lean ====
abbrev S8x128x16384 : Shape := ⟨3, ![8, 128, 16384]⟩
abbrev S8x16384x128 : Shape := ⟨3, ![8, 16384, 128]⟩
abbrev S_ : Shape := ⟨0, ![]⟩
abbrev S8x1x16384 : Shape := ⟨3, ![8, 1, 16384]⟩

class Facts : Prop where
  bitsLt_bf16_f32 : FTy.bits .bf16 < FTy.bits .f32
  bcast_S_S8x128x16384 : S_.BroadcastsInDim S8x128x16384 (![] : Fin 0 → Fin S8x128x16384.rank)
  transposes_S8x16384x128_S8x128x16384_0_2_1 : S8x16384x128.Transposes [0, 2, 1] S8x128x16384
  slices_S8x128x16384_S8x1x16384_0_64_0 : S8x128x16384.Slices ![0, 64, 0] S8x1x16384
  bcast_S_S8x1x16384 : S_.BroadcastsInDim S8x1x16384 (![] : Fin 0 → Fin S8x1x16384.rank)
  bcast_S8x1x16384_S8x128x16384_0_1_2 : S8x1x16384.BroadcastsInDim S8x128x16384 (![0, 1, 2] : Fin 3 → Fin S8x128x16384.rank)

variable [Facts]

def fn {F : FTy → Type} [FloatOps F] (main_arg0 : FVec F S8x128x16384 .bf16) (main_arg1 : FVec F S8x16384x128 .bf16) (main_arg2 : FVec F S8x128x16384 .bf16) : IVec S8x128x16384 1 :=
  let main_v0 : FVec F S8x128x16384 .f32 := (extf .f32 · bitsLt_bf16_f32) main_arg0
  let main_v1 : FVec F S8x128x16384 .f32 := Host.absf main_v0
  let main_cst : FVec F S_ .f32 := constant S_ .f32 0x7F800000#32
  let main_v2 : FVec F S8x128x16384 .f32 := broadcastInDim S8x128x16384 ![] bcast_S_S8x128x16384 main_cst
  let main_v3 : IVec S8x128x16384 1 := cmpf .olt main_v1 main_v2
  let main_v4 : FVec F S8x128x16384 .bf16 := (transpose S8x128x16384 [0, 2, 1] · transposes_S8x16384x128_S8x128x16384_0_2_1) main_arg1
  let main_v5 : FVec F S8x128x16384 .f32 := (extf .f32 · bitsLt_bf16_f32) main_v4
  let main_v6 : FVec F S8x128x16384 .f32 := Host.absf main_v5
  let main_cst_0 : FVec F S_ .f32 := constant S_ .f32 0x7F800000#32
  let main_v7 : FVec F S8x128x16384 .f32 := broadcastInDim S8x128x16384 ![] bcast_S_S8x128x16384 main_cst_0
  let main_v8 : IVec S8x128x16384 1 := cmpf .olt main_v6 main_v7
  let main_v9 : IVec S8x128x16384 1 := andi main_v3 main_v8
  let main_v10 : FVec F S8x1x16384 .bf16 := (extractStridedSlice S8x1x16384 ![0, 64, 0] · slices_S8x128x16384_S8x1x16384_0_64_0) main_arg2
  let main_v11 : FVec F S8x1x16384 .f32 := (extf .f32 · bitsLt_bf16_f32) main_v10
  let main_cst_1 : FVec F S_ .f32 := constant S_ .f32 0x3F800000#32
  let main_v12 : FVec F S8x1x16384 .f32 := broadcastInDim S8x1x16384 ![] bcast_S_S8x1x16384 main_cst_1
  let main_v13 : IVec S8x1x16384 1 := cmpf .oeq main_v11 main_v12
  let main_v14 : IVec S8x128x16384 1 := broadcastInDim S8x128x16384 ![0, 1, 2] bcast_S8x1x16384_S8x128x16384_0_1_2 main_v13
  let main_v15 : IVec S8x128x16384 1 := andi main_v9 main_v14
  main_v15
-- ==== Kernel.lean ====
abbrev S8x128x16384 : Shape := ⟨3, ![8, 128, 16384]⟩
abbrev S8x16384x128 : Shape := ⟨3, ![8, 16384, 128]⟩
abbrev S136 : Shape := ⟨1, ![136]⟩
abbrev S16384x1024 : Shape := ⟨2, ![16384, 1024]⟩
abbrev S8x128x1024 : Shape := ⟨3, ![8, 128, 1024]⟩
abbrev S1 : Shape := ⟨1, ![1]⟩
abbrev S8x1024x128 : Shape := ⟨3, ![8, 1024, 128]⟩
abbrev S1024x1024 : Shape := ⟨2, ![1024, 1024]⟩
abbrev S8x1024 : Shape := ⟨2, ![8, 1024]⟩
abbrev S1x1024x128 : Shape := ⟨3, ![1, 1024, 128]⟩
abbrev S1024x128 : Shape := ⟨2, ![1024, 128]⟩
abbrev S1x128x1024 : Shape := ⟨3, ![1, 128, 1024]⟩
abbrev S128x1024 : Shape := ⟨2, ![128, 1024]⟩
abbrev S1x1024 : Shape := ⟨2, ![1, 1024]⟩
abbrev S1024 : Shape := ⟨1, ![1024]⟩

abbrev nBuf : Space → Nat
  | .hbm => 4
  | .vmem => 10
  | .smem => 2
  | _ => 0

abbrev bufTy : (tb : Table) → Fin (tcTables nBuf tb) → BufTy
  | .hbm, ⟨0, _⟩ => ⟨S8x128x16384, .bf16⟩
  | .hbm, ⟨1, _⟩ => ⟨S8x16384x128, .bf16⟩
  | .hbm, ⟨2, _⟩ => ⟨S8x128x16384, .bf16⟩
  | .hbm, ⟨3, _⟩ => ⟨S16384x1024, .bf16⟩
  | .local _ .vmem, ⟨0, _⟩ => ⟨S8x128x1024, .bf16⟩
  | .local _ .vmem, ⟨1, _⟩ => ⟨S8x128x1024, .bf16⟩
  | .local _ .vmem, ⟨2, _⟩ => ⟨S8x1024x128, .bf16⟩
  | .local _ .vmem, ⟨3, _⟩ => ⟨S8x1024x128, .bf16⟩
  | .local _ .vmem, ⟨4, _⟩ => ⟨S8x128x1024, .bf16⟩
  | .local _ .vmem, ⟨5, _⟩ => ⟨S8x128x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x1024, .f32⟩
  | .local _ .vmem, ⟨9, _⟩ => ⟨S8x128x1024, .f32⟩
  | .local _ .smem, ⟨0, _⟩ => ⟨S136, .i32⟩
  | .local _ .smem, ⟨1, _⟩ => ⟨S136, .i32⟩
  | _, _ => ⟨S8x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, c0_i32_0.toNat, v1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, c0_i32_0.toNat, v1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x128x16384 : Shape := ⟨3, ![8, 128, 16384]⟩
abbrev S8x16384x128 : Shape := ⟨3, ![8, 16384, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S16384x8x128 : Shape := ⟨3, ![16384, 8, 128]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x16384, .bf16⟩
  | .hbm, ⟨1, _⟩ => ⟨S8x16384x128, .bf16⟩
  | .hbm, ⟨2, _⟩ => ⟨S8x128x16384, .bf16⟩
  | .hbm, ⟨3, _⟩ => ⟨S8x128x16384, .f32⟩
  | .hbm, ⟨4, _⟩ => ⟨S8x16384x128, .f32⟩
  | .hbm, ⟨5, _⟩ => ⟨S8x16384x16384, .f32⟩
  | .hbm, ⟨6, _⟩ => ⟨S_, .f32⟩
  | .hbm, ⟨7, _⟩ => ⟨S_, .f32⟩
  | .hbm, ⟨8, _⟩ => ⟨S8x16384x16384, .f32⟩
  | .hbm, ⟨9, _⟩ => ⟨S8x16384x16384, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S1x16384x16384, .i1⟩
  | .hbm, ⟨17, _⟩ => ⟨S_, .f32⟩
  | .hbm, ⟨18, _⟩ => ⟨S_, .f32⟩
  | .hbm, ⟨19, _⟩ => ⟨S8x16384x16384, .i1⟩
  | .hbm, ⟨20, _⟩ => ⟨S8x16384x16384, .f32⟩
  | .hbm, ⟨21, _⟩ => ⟨S8x16384x16384, .f32⟩
  | .hbm, ⟨22, _⟩ => ⟨S_, .f32⟩
  | .hbm, ⟨23, _⟩ => ⟨S8x16384, .f32⟩
  | .hbm, ⟨24, _⟩ => ⟨S_, .f32⟩
  | .hbm, ⟨25, _⟩ => ⟨S8x16384, .f32⟩
  | .hbm, ⟨26, _⟩ => ⟨S8x16384, .f32⟩
  | .hbm, ⟨27, _⟩ => ⟨S8x16384x1, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S8x16384, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x128x16384, .f32⟩
  | .hbm, ⟨37, _⟩ => ⟨S8x128x16384, .f32⟩
  | .hbm, ⟨38, _⟩ => ⟨S16384x8x128, .f32⟩
  | .hbm, ⟨39, _⟩ => ⟨S16384x1024, .f32⟩
  | .hbm, ⟨40, _⟩ => ⟨S16384x1024, .bf16⟩
  | _, _ => ⟨S8x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Project.lean ====
abbrev S16384x1024 : Shape := ⟨2, ![16384, 1024]⟩
abbrev S1024 : Shape := ⟨1, ![1024]⟩
abbrev S1x1024 : Shape := ⟨2, ![1, 1024]⟩
abbrev S1024x6656 : Shape := ⟨2, ![1024, 6656]⟩
abbrev S16384x6656 : Shape := ⟨2, ![16384, 6656]⟩
abbrev S128x16384 : Shape := ⟨2, ![128, 16384]⟩
abbrev S1024x1024 : Shape := ⟨2, ![1024, 1024]⟩
abbrev S1024x512 : Shape := ⟨2, ![1024, 512]⟩
abbrev S128x1024 : Shape := ⟨2, ![128, 1024]⟩
abbrev S1024x1 : Shape := ⟨2, ![1024, 1]⟩
abbrev S1024x128 : Shape := ⟨2, ![1024, 128]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6656, .bf16⟩
  | .hbm, ⟨5, _⟩ => ⟨S1x1024, .f32⟩
  | .hbm, ⟨6, _⟩ => ⟨S16384x6656, .f32⟩
  | .hbm, ⟨7, _⟩ => ⟨S128x16384, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | .local _ .vmem, ⟨9, _⟩ => ⟨S128x1024, .f32⟩
  | .local _ .vmem, ⟨10, _⟩ => ⟨S128x1024, .f32⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c12_i32 : BitVec 32 := 12#32
  let v7 : BitVec 1 := Scalar.cmpi .eq arg1 c12_i32
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjectReferenceIdeal.lean ====
abbrev S16384x1024 : Shape := ⟨2, ![16384, 1024]⟩
abbrev S1024 : Shape := ⟨1, ![1024]⟩
abbrev S1x1024 : Shape := ⟨2, ![1, 1024]⟩
abbrev S1024x6656 : Shape := ⟨2, ![1024, 6656]⟩
abbrev S_ : Shape := ⟨0, ![]⟩
abbrev S16384 : Shape := ⟨1, ![16384]⟩
abbrev S16384x1 : Shape := ⟨2, ![16384, 1]⟩
abbrev S16384x6656 : Shape := ⟨2, ![16384, 6656]⟩
abbrev S16384x128 : Shape := ⟨2, ![16384, 128]⟩
abbrev S128x16384 : Shape := ⟨2, ![128, 16384]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6656, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024x6656, .f32⟩
  | .hbm, ⟨29, _⟩ => ⟨S16384x6656, .f32⟩
  | .hbm, ⟨30, _⟩ => ⟨S16384x128, .f32⟩
  | .hbm, ⟨31, _⟩ => ⟨S128x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Prepare.lean ====
abbrev S16384x6656 : Shape := ⟨2, ![16384, 6656]⟩
abbrev S1x256 : Shape := ⟨2, ![1, 256]⟩
abbrev S1x128 : Shape := ⟨2, ![1, 128]⟩
abbrev S8x128x256 : Shape := ⟨3, ![8, 128, 256]⟩
abbrev S8x128x128 : Shape := ⟨3, ![8, 128, 128]⟩
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S16384x96 : Shape := ⟨2, ![16384, 96]⟩
abbrev S16384x112 : Shape := ⟨2, ![16384, 112]⟩
abbrev S16x16384 : Shape := ⟨2, ![16, 16384]⟩
abbrev S8x128x16384 : Shape := ⟨3, ![8, 128, 16384]⟩
abbrev S8x16384x128 : Shape := ⟨3, ![8, 16384, 128]⟩
abbrev S512x256 : Shape := ⟨2, ![512, 256]⟩
abbrev S512x128 : Shape := ⟨2, ![512, 128]⟩
abbrev S16x512 : Shape := ⟨2, ![16, 512]⟩
abbrev S8x128x512 : Shape := ⟨3, ![8, 128, 512]⟩
abbrev S8x512x128 : Shape := ⟨3, ![8, 512, 128]⟩
abbrev S512x32 : Shape := ⟨2, ![512, 32]⟩
abbrev S512 : Shape := ⟨1, ![512]⟩
abbrev S512x1 : Shape := ⟨2, ![512, 1]⟩
abbrev S128x512 : Shape := ⟨2, ![128, 512]⟩
abbrev S32x512 : Shape := ⟨2, ![32, 512]⟩
abbrev S1x128x256 : Shape := ⟨3, ![1, 128, 256]⟩
abbrev S128x256 : Shape := ⟨2, ![128, 256]⟩
abbrev S64x512 : Shape := ⟨2, ![64, 512]⟩
abbrev S1x128x512 : Shape := ⟨3, ![1, 128, 512]⟩
abbrev S1x128x128 : Shape := ⟨3, ![1, 128, 128]⟩
abbrev S128x128 : Shape := ⟨2, ![128, 128]⟩
abbrev S1x512x128 : Shape := ⟨3, ![1, 512, 128]⟩

abbrev nBuf : Space → Nat
  | .hbm => 62
  | .vmem => 31
  | .smem => 0
  | _ => 0

abbrev bufTy : (tb : Table) → Fin (tcTables nBuf tb) → BufTy
  | .hbm, ⟨0, _⟩ => ⟨S16384x6656, .f32⟩
  | .hbm, ⟨1, _⟩ => ⟨S1x256, .f32⟩
  | .hbm, ⟨2, _⟩ => ⟨S1x128, .f32⟩
  | .hbm, ⟨3, _⟩ => ⟨S8x128x256, .bf16⟩
  | .hbm, ⟨4, _⟩ => ⟨S8x128x128, .bf16⟩
  | .hbm, ⟨5, _⟩ => ⟨S8x128x128, .bf16⟩
  | .hbm, ⟨6, _⟩ => ⟨S16384, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16384, .f32⟩
  | .hbm, ⟨16, _⟩ => ⟨S16384x1, .f32⟩
  | .hbm, ⟨17, _⟩ => ⟨S1x16, .f32⟩
  | .hbm, ⟨18, _⟩ => ⟨S16384x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S_, .f32⟩
  | .hbm, ⟨24, _⟩ => ⟨S16384x64, .f32⟩
  | .hbm, ⟨25, _⟩ => ⟨S_, .f32⟩
  | .hbm, ⟨26, _⟩ => ⟨S16384x32, .f32⟩
  | .hbm, ⟨27, _⟩ => ⟨S16384x128, .f32⟩
  | .hbm, ⟨28, _⟩ => ⟨S_, .f32⟩
  | .hbm, ⟨29, _⟩ => ⟨S16384x64, .f32⟩
  | .hbm, ⟨30, _⟩ => ⟨S16384x16, .f32⟩
  | .hbm, ⟨31, _⟩ => ⟨S_, .f32⟩
  | .hbm, ⟨32, _⟩ => ⟨S16384x16, .f32⟩
  | .hbm, ⟨33, _⟩ => ⟨S_, .f32⟩
  | .hbm, ⟨34, _⟩ => ⟨S16384x32, .f32⟩
  | .hbm, ⟨35, _⟩ => ⟨S16384x128, .f32⟩
  | .hbm, ⟨36, _⟩ => ⟨S_, .f32⟩
  | .hbm, ⟨37, _⟩ => ⟨S16384x64, .f32⟩
  | .hbm, ⟨38, _⟩ => ⟨S_, .f32⟩
  | .hbm, ⟨39, _⟩ => ⟨S16384x16, .f32⟩
  | .hbm, ⟨40, _⟩ => ⟨S_, .f32⟩
  | .hbm, ⟨41, _⟩ => ⟨S16384x32, .f32⟩
  | .hbm, ⟨42, _⟩ => ⟨S16384x128, .f32⟩
  | .hbm, ⟨43, _⟩ => ⟨S_, .f32⟩
  | .hbm, ⟨44, _⟩ => ⟨S16384x96, .f32⟩
  | .hbm, ⟨45, _⟩ => ⟨S16384x128, .f32⟩
  | .hbm, ⟨46, _⟩ => ⟨S16384x16, .f32⟩
  | .hbm, ⟨47, _⟩ => ⟨S_, .f32⟩
  | .hbm, ⟨48, _⟩ => ⟨S16384x112, .f32⟩
  | .hbm, ⟨49, _⟩ => ⟨S16384x128, .f32⟩
  | .hbm, ⟨50, _⟩ => ⟨S_, .f32⟩
  | .hbm, ⟨51, _⟩ => ⟨S16384x16, .f32⟩
  | .hbm, ⟨52, _⟩ => ⟨S_, .f32⟩
  | .hbm, ⟨53, _⟩ => ⟨S16384x96, .f32⟩
  | .hbm, ⟨54, _⟩ => ⟨S16384x128, .f32⟩
  | .hbm, ⟨55, _⟩ => ⟨S16x16384, .f32⟩
  | .hbm, ⟨56, _⟩ => ⟨S16x16384, .f32⟩
  | .hbm, ⟨57, _⟩ => ⟨S8x128x16384, .bf16⟩
  | .hbm, ⟨58, _⟩ => ⟨S8x16384x128, .bf16⟩
  | .hbm, ⟨59, _⟩ => ⟨S8x128x16384, .bf16⟩
  | .hbm, ⟨60, _⟩ => ⟨S16384x128, .f32⟩
  | .hbm, ⟨61, _⟩ => ⟨S16384x32, .f32⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x256, .f32⟩
  | .local _ .vmem, ⟨7, _⟩ => ⟨S1x128, .f32⟩
  | .local _ .vmem, ⟨8, _⟩ => ⟨S8x128x256, .bf16⟩
  | .local _ .vmem, ⟨9, _⟩ => ⟨S8x128x128, .bf16⟩
  | .local _ .vmem, ⟨10, _⟩ => ⟨S8x128x128, .bf16⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S8x128x512, .bf16⟩
  | .local _ .vmem, ⟨22, _⟩ => ⟨S8x128x512, .bf16⟩
  | .local _ .vmem, ⟨23, _⟩ => ⟨S8x512x128, .bf16⟩
  | .local _ .vmem, ⟨24, _⟩ => ⟨S8x512x128, .bf16⟩
  | .local _ .vmem, ⟨25, _⟩ => ⟨S8x128x512, .bf16⟩
  | .local _ .vmem, ⟨26, _⟩ => ⟨S8x128x512, .bf16⟩
  | .local _ .vmem, ⟨27, _⟩ => ⟨S512x128, .f32⟩
  | .local _ .vmem, ⟨28, _⟩ => ⟨S512x128, .f32⟩
  | .local _ .vmem, ⟨29, _⟩ => ⟨S512x32, .f32⟩
  | .local _ .vmem, ⟨30, _⟩ => ⟨S512x32, .f32⟩
  | _, _ => ⟨S16384x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_cst_11 : Ref sig .tc := ⟨.hbm, 50, rfl⟩
abbrev main_v32 : Ref sig .tc := ⟨.hbm, 51, rfl⟩
abbrev main_cst_12 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v37_2 : Ref sig .tc := ⟨.hbm, 59, rfl⟩
abbrev main_v37_3 : Ref sig .tc := ⟨.hbm, 60, rfl⟩
abbrev main_v37_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_1 (i : grid0.Coords) : Fin 2 → Nat :=
  let arg0 : BitVec 32 := BitVec.ofNat 32 (i 0).val
  let c50_i32 : BitVec 32 := 50#32
  let c0_i32 : BitVec 32 := 0#32
  ![arg0.toNat, c50_i32.toNat]

def cc0_transform_2 (i : grid0.Coords) : Fin 2 → Nat :=
  let arg0 : BitVec 32 := BitVec.ofNat 32 (i 0).val
  let c51_i32 : BitVec 32 := 51#32
  let c0_i32 : BitVec 32 := 0#32
  ![arg0.toNat, c51_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PrepareReferenceIdeal.lean ====
abbrev S16384x6656 : Shape := ⟨2, ![16384, 6656]⟩
abbrev S1x256 : Shape := ⟨2, ![1, 256]⟩
abbrev S1x128 : Shape := ⟨2, ![1, 128]⟩
abbrev S8x128x256 : Shape := ⟨3, ![8, 128, 256]⟩
abbrev S8x128x128 : Shape := ⟨3, ![8, 128, 128]⟩
abbrev S16384 : Shape := ⟨1, ![16384]⟩
abbrev S16384x256 : Shape := ⟨2, ![16384, 256]⟩
abbrev S_ : Shape := ⟨0, ![]⟩
abbrev S16384x1 : Shape := ⟨2, ![16384, 1]⟩
abbrev S16384x128 : Shape := ⟨2, ![16384, 128]⟩
abbrev S16384x32 : Shape := ⟨2, ![16384, 32]⟩
abbrev S16 : Shape := ⟨1, ![16]⟩
abbrev S1x16 : Shape := ⟨2, ![1, 16]⟩
abbrev S16384x16 : Shape := ⟨2, ![16384, 16]⟩
abbrev S8x128x16384 : Shape := ⟨3, ![8, 128, 16384]⟩
abbrev S8x16384x128 : Shape := ⟨3, ![8, 16384, 128]⟩
abbrev S8x16384x64 : Shape := ⟨3, ![8, 16384, 64]⟩
abbrev S8x16384x32 : Shape := ⟨3, ![8, 16384, 32]⟩
abbrev S8x16384x16 : Shape := ⟨3, ![8, 16384, 16]⟩
abbrev S1x16384x16 : Shape := ⟨3, ![1, 16384, 16]⟩
abbrev S8x16384x96 : Shape := ⟨3, ![8, 16384, 96]⟩
abbrev S1x16384x128 : Shape := ⟨3, ![1, 16384, 128]⟩
abbrev S128 : Shape := ⟨1, ![128]⟩
abbrev S128x1 : Shape := ⟨2, ![128, 1]⟩
abbrev S1x128x1 : Shape := ⟨3, ![1, 128, 1]⟩

abbrev nBuf : Space → Nat
  | .hbm => 134
  | .vmem => 0
  | .smem => 0
  | _ => 0

abbrev hbmTy0_0 (i : Nat) : BufTy := match i % 128 with
  | 0 => ⟨S16384x6656, .f32⟩
  | 1 => ⟨S1x256, .f32⟩
  | 2 => ⟨S1x128, .f32⟩
  | 3 => ⟨S8x128x256, .bf16⟩
  | 4 => ⟨S8x128x128, .bf16⟩
  | 5 => ⟨S8x128x128, .bf16⟩
  | 6 => ⟨S16384, .i32⟩
  | 7 => ⟨S16384x256, .f32⟩
  | 8 => ⟨S16384x256, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x256, .f32⟩
  | 20 => ⟨S16384x256, .f32⟩
  | 21 => ⟨S16384x256, .f32⟩
  | 22 => ⟨S16384x256, .f32⟩
  | 23 => ⟨S16384x128, .f32⟩
  | 24 => ⟨S16384x128, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S16384x128, .f32⟩
  | 36 => ⟨S16384x128, .f32⟩
  | 37 => ⟨S16384x128, .f32⟩
  | 38 => ⟨S16384x128, .f32⟩
  | 39 => ⟨S16384x32, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S16384, .f32⟩
  | 49 => ⟨S16384x1, .f32⟩
  | 50 => ⟨S1x16, .f32⟩
  | 51 => ⟨S16384x16, .f32⟩
  | 52 => ⟨S16384x16, .f32⟩
  | 53 => ⟨S16384x16, .f32⟩
  | 54 => ⟨S16384x16, .f32⟩
  | 55 => ⟨S16384x16, .f32⟩
  | 56 => ⟨S16384x16, .f32⟩
  | 57 => ⟨S16384x16, .f32⟩
  | 58 => ⟨S16384x16, .f32⟩
  | 59 => ⟨S16384x16, .f32⟩
  | 60 => ⟨S16384x16, .f32⟩
  | 61 => ⟨S16384x16, .f32⟩
  | 62 => ⟨S16384x16, .f32⟩
  | 63 => ⟨S16384x16, .f32⟩
  | 64 => ⟨S16384x32, .f32⟩
  | 65 => ⟨S8x128x256, .f32⟩
  | 66 => ⟨S8x128x16384, .f32⟩
  | 67 => ⟨S8x16384x128, .f32⟩
  | 68 => ⟨S8x16384x64, .f32⟩
  | 69 => ⟨S8x16384x32, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S16384, .f32⟩
  | 79 => ⟨S16384x1, .f32⟩
  | 80 => ⟨S1x16, .f32⟩
  | 81 => ⟨S16384x16, .f32⟩
  | 82 => ⟨S16384x16, .f32⟩
  | 83 => ⟨S16384x16, .f32⟩
  | 84 => ⟨S16384x16, .f32⟩
  | 85 => ⟨S16384x16, .f32⟩
  | 86 => ⟨S8x16384x16, .f32⟩
  | 87 => ⟨S8x16384x16, .f32⟩
  | 88 => ⟨S1x16384x16, .f32⟩
  | 89 => ⟨S8x16384x16, .f32⟩
  | 90 => ⟨S8x16384x16, .f32⟩
  | 91 => ⟨S1x16384x16, .f32⟩
  | 92 => ⟨S8x16384x16, .f32⟩
  | 93 => ⟨S8x16384x16, .f32⟩
  | 94 => ⟨S8x16384x16, .f32⟩
  | 95 => ⟨S1x16384x16, .f32⟩
  | 96 => ⟨S8x16384x16, .f32⟩
  | 97 => ⟨S8x16384x16, .f32⟩
  | 98 => ⟨S1x16384x16, .f32⟩
  | 99 => ⟨S8x16384x16, .f32⟩
  | 100 => ⟨S8x16384x16, .f32⟩
  | 101 => ⟨S8x16384x16, .f32⟩
  | 102 => ⟨S8x16384x32, .f32⟩
  | 103 => ⟨S8x16384x96, .f32⟩
  | 104 => ⟨S_, .f32⟩
  | 105 => ⟨S8x16384x96, .f32⟩
  | 106 => ⟨S8x16384x96, .f32⟩
  | 107 => ⟨S_, .i32⟩
  | 108 => ⟨S_, .f32⟩
  | 109 => ⟨S8x16384x128, .f32⟩
  | 110 => ⟨S8x128x128, .f32⟩
  | 111 => ⟨S8x128x16384, .f32⟩
  | 112 => ⟨S8x16384x128, .f32⟩
  | 113 => ⟨S_, .i32⟩
  | 114 => ⟨S_, .f32⟩
  | 115 => ⟨S16384x128, .f32⟩
  | 116 => ⟨S1x16384x128, .f32⟩
  | 117 => ⟨S8x16384x128, .f32⟩
  | 118 => ⟨S8x16384x128, .f32⟩
  | 119 => ⟨S8x128x128, .f32⟩
  | 120 => ⟨S8x128x16384, .f32⟩
  | 121 => ⟨S128, .i32⟩
  | 122 => ⟨S_, .i32⟩
  | 123 => ⟨S128, .i32⟩
  | 124 => ⟨S128, .i1⟩
  | 125 => ⟨S128, .f32⟩
  | 126 => ⟨S128x1, .f32⟩
  | 127 => ⟨S1x128x1, .f32⟩
  | _ => ⟨S16384x6656, .f32⟩

abbrev hbmTy0_1 (i : Nat) : BufTy := match i % 128 with
  | 0 => ⟨S8x128x16384, .f32⟩
  | 1 => ⟨S8x128x16384, .f32⟩
  | 2 => ⟨S8x128x16384, .f32⟩
  | 3 => ⟨S8x128x16384, .bf16⟩
  | 4 => ⟨S8x16384x128, .bf16⟩
  | 5 => ⟨S8x128x16384, .bf16⟩
  | _ => ⟨S16384x6656, .f32⟩

abbrev hbmTy (i : Nat) : BufTy := match i / 128 with
  | 0 => hbmTy0_0 i
  | 1 => hbmTy0_1 i
  | _ => ⟨S16384x6656, .f32⟩

abbrev bufTy : (tb : Table) → Fin (tcTables nBuf tb) → BufTy
  | .hbm, ⟨i, _⟩ => hbmTy i
  | _, _ => ⟨S16384x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_9 : Ref sig .tc := ⟨.hbm, 104, rfl⟩
abbrev main_v88 : Ref sig .tc := ⟨.hbm, 105, rfl⟩
abbrev main_v89 : Ref sig .tc := ⟨.hbm, 106, rfl⟩
abbrev main_c : Ref sig .tc := ⟨.hbm, 107, rfl⟩
abbrev main_call0_v0 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_c_10 : Ref sig .tc := ⟨.hbm, 113, rfl⟩
abbrev main_call1_v0 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_c_11 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩

abbrev nD : Nat := 1
abbrev τ : Topo := Topo.v7x

variable {F : FTy → Type} [FloatOps F]
-- ==== PrepareS.lean ====
abbrev S128x6656 : Shape := ⟨2, ![128, 6656]⟩
abbrev S1x256 : Shape := ⟨2, ![1, 256]⟩
abbrev S1x128 : Shape := ⟨2, ![1, 128]⟩
abbrev S8x256x128 : Shape := ⟨3, ![8, 256, 128]⟩
abbrev S8x128x128 : Shape := ⟨3, ![8, 128, 128]⟩
abbrev S_ : Shape := ⟨0, ![]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x64 : Shape := ⟨2, ![1, 64]⟩
abbrev S1x32 : Shape := ⟨2, ![1, 32]⟩
abbrev S1x96 : Shape := ⟨2, ![1, 96]⟩
abbrev S1x112 : Shape := ⟨2, ![1, 112]⟩
abbrev S16x1 : Shape := ⟨2, ![16, 1]⟩
abbrev S128x128 : Shape := ⟨2, ![128, 128]⟩
abbrev S128x32 : Shape := ⟨2, ![128, 32]⟩
abbrev S128x256 : Shape := ⟨2, ![128, 256]⟩
abbrev S128 : Shape := ⟨1, ![128]⟩
abbrev S128x1 : Shape := ⟨2, ![128, 1]⟩
abbrev S1x256x128 : Shape := ⟨3, ![1, 256, 128]⟩
abbrev S256x128 : Shape := ⟨2, ![256, 128]⟩
abbrev S1x128x128 : Shape := ⟨3, ![1, 128, 128]⟩

abbrev nBuf : Space → Nat
  | .hbm => 60
  | .vmem => 17
  | .smem => 0
  | _ => 0

abbrev bufTy : (tb : Table) → Fin (tcTables nBuf tb) → BufTy
  | .hbm, ⟨0, _⟩ => ⟨S128x6656, .f32⟩
  | .hbm, ⟨1, _⟩ => ⟨S1x256, .f32⟩
  | .hbm, ⟨2, _⟩ => ⟨S1x128, .f32⟩
  | .hbm, ⟨3, _⟩ => ⟨S8x256x128, .bf16⟩
  | .hbm, ⟨4, _⟩ => ⟨S8x128x128, .bf16⟩
  | .hbm, ⟨5, _⟩ => ⟨S_, .i32⟩
  | .hbm, ⟨6, _⟩ => ⟨S1, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S1, .f32⟩
  | .hbm, ⟨16, _⟩ => ⟨S1x1, .f32⟩
  | .hbm, ⟨17, _⟩ => ⟨S1x16, .f32⟩
  | .hbm, ⟨18, _⟩ => ⟨S1x16, .f32⟩
  | .hbm, ⟨19, _⟩ => ⟨S1x16, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x64, .f32⟩
  | .hbm, ⟨24, _⟩ => ⟨S_, .f32⟩
  | .hbm, ⟨25, _⟩ => ⟨S1x32, .f32⟩
  | .hbm, ⟨26, _⟩ => ⟨S1x128, .f32⟩
  | .hbm, ⟨27, _⟩ => ⟨S_, .f32⟩
  | .hbm, ⟨28, _⟩ => ⟨S1x64, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S_, .f32⟩
  | .hbm, ⟨33, _⟩ => ⟨S1x32, .f32⟩
  | .hbm, ⟨34, _⟩ => ⟨S1x128, .f32⟩
  | .hbm, ⟨35, _⟩ => ⟨S_, .f32⟩
  | .hbm, ⟨36, _⟩ => ⟨S1x64, .f32⟩
  | .hbm, ⟨37, _⟩ => ⟨S_, .f32⟩
  | .hbm, ⟨38, _⟩ => ⟨S1x16, .f32⟩
  | .hbm, ⟨39, _⟩ => ⟨S_, .f32⟩
  | .hbm, ⟨40, _⟩ => ⟨S1x32, .f32⟩
  | .hbm, ⟨41, _⟩ => ⟨S1x128, .f32⟩
  | .hbm, ⟨42, _⟩ => ⟨S_, .f32⟩
  | .hbm, ⟨43, _⟩ => ⟨S1x96, .f32⟩
  | .hbm, ⟨44, _⟩ => ⟨S1x128, .f32⟩
  | .hbm, ⟨45, _⟩ => ⟨S1x16, .f32⟩
  | .hbm, ⟨46, _⟩ => ⟨S_, .f32⟩
  | .hbm, ⟨47, _⟩ => ⟨S1x112, .f32⟩
  | .hbm, ⟨48, _⟩ => ⟨S1x128, .f32⟩
  | .hbm, ⟨49, _⟩ => ⟨S_, .f32⟩
  | .hbm, ⟨50, _⟩ => ⟨S1x16, .f32⟩
  | .hbm, ⟨51, _⟩ => ⟨S_, .f32⟩
  | .hbm, ⟨52, _⟩ => ⟨S1x96, .f32⟩
  | .hbm, ⟨53, _⟩ => ⟨S1x128, .f32⟩
  | .hbm, ⟨54, _⟩ => ⟨S16x1, .f32⟩
  | .hbm, ⟨55, _⟩ => ⟨S16x1, .f32⟩
  | .hbm, ⟨56, _⟩ => ⟨S8x128x128, .f32⟩
  | .hbm, ⟨57, _⟩ => ⟨S8x128x128, .f32⟩
  | .hbm, ⟨58, _⟩ => ⟨S128x128, .f32⟩
  | .hbm, ⟨59, _⟩ => ⟨S128x32, .f32⟩
  | .local _ .vmem, ⟨0, _⟩ => ⟨S128x256, .f32⟩
  | .local _ .vmem, ⟨1, _⟩ => ⟨S128x128, .f32⟩
  | .local _ .vmem, ⟨2, _⟩ => ⟨S128x128, .f32⟩
  | .local _ .vmem, ⟨3, _⟩ => ⟨S1x256, .f32⟩
  | .local _ .vmem, ⟨4, _⟩ => ⟨S1x128, .f32⟩
  | .local _ .vmem, ⟨5, _⟩ => ⟨S8x256x128, .bf16⟩
  | .local _ .vmem, ⟨6, _⟩ => ⟨S8x128x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S8x128x128, .f32⟩
  | .local _ .vmem, ⟨14, _⟩ => ⟨S8x128x128, .f32⟩
  | .local _ .vmem, ⟨15, _⟩ => ⟨S128x128, .f32⟩
  | .local _ .vmem, ⟨16, _⟩ => ⟨S128x32, .f32⟩
  | _, _ => ⟨S128x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_cst_12 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev main_v36_2 : Ref sig .tc := ⟨.hbm, 58, rfl⟩
abbrev main_v36_3 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c20_i32 : BitVec 32 := 20#32
  let c0_i32_0 : BitVec 32 := 0#32
  ![c0_i32.toNat, c20_i32.toNat]

def cc0_transform_1 (i : grid0.Coords) : Fin 2 → Nat :=
  let arg0 : BitVec 32 := BitVec.ofNat 32 (i 0).val
  let c0_i32 : BitVec 32 := 0#32
  let c50_i32 : BitVec 32 := 50#32
  let c0_i32_0 : BitVec 32 := 0#32
  ![c0_i32.toNat, c50_i32.toNat]

def cc0_transform_2 (i : grid0.Coords) : Fin 2 → Nat :=
  let arg0 : BitVec 32 := BitVec.ofNat 32 (i 0).val
  let c0_i32 : BitVec 32 := 0#32
  let c51_i32 : BitVec 32 := 51#32
  let c0_i32_0 : BitVec 32 := 0#32
  ![c0_i32.toNat, c51_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== PrepareSReferenceIdeal.lean ====
abbrev S128x6656 : Shape := ⟨2, ![128, 6656]⟩
abbrev S1x256 : Shape := ⟨2, ![1, 256]⟩
abbrev S1x128 : Shape := ⟨2, ![1, 128]⟩
abbrev S8x256x128 : Shape := ⟨3, ![8, 256, 128]⟩
abbrev S8x128x128 : Shape := ⟨3, ![8, 128, 128]⟩
abbrev S_ : Shape := ⟨0, ![]⟩
abbrev S1 : Shape := ⟨1, ![1]⟩
abbrev S128x256 : Shape := ⟨2, ![128, 256]⟩
abbrev S128 : Shape := ⟨1, ![128]⟩
abbrev S128x1 : Shape := ⟨2, ![128, 1]⟩
abbrev S128x128 : Shape := ⟨2, ![128, 128]⟩
abbrev S128x32 : Shape := ⟨2, ![128, 32]⟩
abbrev S16 : Shape := ⟨1, ![16]⟩
abbrev S1x1 : Shape := ⟨2, ![1, 1]⟩
abbrev S1x16 : Shape := ⟨2, ![1, 16]⟩
abbrev S128x16 : Shape := ⟨2, ![128, 16]⟩
abbrev S8x128x64 : Shape := ⟨3, ![8, 128, 64]⟩
abbrev S8x128x32 : Shape := ⟨3, ![8, 128, 32]⟩
abbrev S8x128x16 : Shape := ⟨3, ![8, 128, 16]⟩
abbrev S1x1x16 : Shape := ⟨3, ![1, 1, 16]⟩
abbrev S8x128x96 : Shape := ⟨3, ![8, 128, 96]⟩

abbrev nBuf : Space → Nat
  | .hbm => 114
  | .vmem => 0
  | .smem => 0
  | _ => 0

abbrev bufTy : (tb : Table) → Fin (tcTables nBuf tb) → BufTy
  | .hbm, ⟨0, _⟩ => ⟨S128x6656, .f32⟩
  | .hbm, ⟨1, _⟩ => ⟨S1x256, .f32⟩
  | .hbm, ⟨2, _⟩ => ⟨S1x128, .f32⟩
  | .hbm, ⟨3, _⟩ => ⟨S8x256x128, .bf16⟩
  | .hbm, ⟨4, _⟩ => ⟨S8x128x128, .bf16⟩
  | .hbm, ⟨5, _⟩ => ⟨S_, .i32⟩
  | .hbm, ⟨6, _⟩ => ⟨S1, .i32⟩
  | .hbm, ⟨7, _⟩ => ⟨S128x256, .f32⟩
  | .hbm, ⟨8, _⟩ => ⟨S128x256, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x1, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x32, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S1, .f32⟩
  | .hbm, ⟨49, _⟩ => ⟨S1x1, .f32⟩
  | .hbm, ⟨50, _⟩ => ⟨S1x16, .f32⟩
  | .hbm, ⟨51, _⟩ => ⟨S1x16, .f32⟩
  | .hbm, ⟨52, _⟩ => ⟨S1x16, .f32⟩
  | .hbm, ⟨53, _⟩ => ⟨S1x16, .f32⟩
  | .hbm, ⟨54, _⟩ => ⟨S1x16, .f32⟩
  | .hbm, ⟨55, _⟩ => ⟨S128x16, .f32⟩
  | .hbm, ⟨56, _⟩ => ⟨S128x16, .f32⟩
  | .hbm, ⟨57, _⟩ => ⟨S128x16, .f32⟩
  | .hbm, ⟨58, _⟩ => ⟨S128x16, .f32⟩
  | .hbm, ⟨59, _⟩ => ⟨S128x16, .f32⟩
  | .hbm, ⟨60, _⟩ => ⟨S128x16, .f32⟩
  | .hbm, ⟨61, _⟩ => ⟨S128x16, .f32⟩
  | .hbm, ⟨62, _⟩ => ⟨S128x16, .f32⟩
  | .hbm, ⟨63, _⟩ => ⟨S128x16, .f32⟩
  | .hbm, ⟨64, _⟩ => ⟨S128x16, .f32⟩
  | .hbm, ⟨65, _⟩ => ⟨S128x16, .f32⟩
  | .hbm, ⟨66, _⟩ => ⟨S128x16, .f32⟩
  | .hbm, ⟨67, _⟩ => ⟨S128x32, .f32⟩
  | .hbm, ⟨68, _⟩ => ⟨S8x256x128, .f32⟩
  | .hbm, ⟨69, _⟩ => ⟨S8x128x128, .f32⟩
  | .hbm, ⟨70, _⟩ => ⟨S8x128x128, .f32⟩
  | .hbm, ⟨71, _⟩ => ⟨S8x128x64, .f32⟩
  | .hbm, ⟨72, _⟩ => ⟨S8x128x32, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S1, .f32⟩
  | .hbm, ⟨82, _⟩ => ⟨S1x1, .f32⟩
  | .hbm, ⟨83, _⟩ => ⟨S1x16, .f32⟩
  | .hbm, ⟨84, _⟩ => ⟨S1x16, .f32⟩
  | .hbm, ⟨85, _⟩ => ⟨S1x16, .f32⟩
  | .hbm, ⟨86, _⟩ => ⟨S1x16, .f32⟩
  | .hbm, ⟨87, _⟩ => ⟨S1x16, .f32⟩
  | .hbm, ⟨88, _⟩ => ⟨S8x128x16, .f32⟩
  | .hbm, ⟨89, _⟩ => ⟨S8x128x16, .f32⟩
  | .hbm, ⟨90, _⟩ => ⟨S1x1x16, .f32⟩
  | .hbm, ⟨91, _⟩ => ⟨S8x128x16, .f32⟩
  | .hbm, ⟨92, _⟩ => ⟨S8x128x16, .f32⟩
  | .hbm, ⟨93, _⟩ => ⟨S1x1x16, .f32⟩
  | .hbm, ⟨94, _⟩ => ⟨S8x128x16, .f32⟩
  | .hbm, ⟨95, _⟩ => ⟨S8x128x16, .f32⟩
  | .hbm, ⟨96, _⟩ => ⟨S8x128x16, .f32⟩
  | .hbm, ⟨97, _⟩ => ⟨S1x1x16, .f32⟩
  | .hbm, ⟨98, _⟩ => ⟨S8x128x16, .f32⟩
  | .hbm, ⟨99, _⟩ => ⟨S8x128x16, .f32⟩
  | .hbm, ⟨100, _⟩ => ⟨S1x1x16, .f32⟩
  | .hbm, ⟨101, _⟩ => ⟨S8x128x16, .f32⟩
  | .hbm, ⟨102, _⟩ => ⟨S8x128x16, .f32⟩
  | .hbm, ⟨103, _⟩ => ⟨S8x128x16, .f32⟩
  | .hbm, ⟨104, _⟩ => ⟨S8x128x32, .f32⟩
  | .hbm, ⟨105, _⟩ => ⟨S8x128x96, .f32⟩
  | .hbm, ⟨106, _⟩ => ⟨S_, .i32⟩
  | .hbm, ⟨107, _⟩ => ⟨S_, .f32⟩
  | .hbm, ⟨108, _⟩ => ⟨S8x128x128, .f32⟩
  | .hbm, ⟨109, _⟩ => ⟨S8x128x128, .f32⟩
  | .hbm, ⟨110, _⟩ => ⟨S8x128x128, .f32⟩
  | .hbm, ⟨111, _⟩ => ⟨S8x128x64, .f32⟩
  | .hbm, ⟨112, _⟩ => ⟨S8x128x64, .f32⟩
  | .hbm, ⟨113, _⟩ => ⟨S8x128x128, .f32⟩
  | _, _ => ⟨S128x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_c_9 : Ref sig .tc := ⟨.hbm, 106, rfl⟩
abbrev main_call0_v0 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_call1_v0 : Ref sig .tc := ⟨.hbm, 111, rfl⟩
abbrev main_call1_v1 : Ref sig .tc := ⟨.hbm, 112, rfl⟩
abbrev main_v93 : Ref sig .tc := ⟨.hbm, 113, rfl⟩

abbrev nD : Nat := 1
abbrev τ : Topo := Topo.v7x

variable {F : FTy → Type} [FloatOps F]
-- ==== Proof.ProjectValue.lean ====
/- What the projection's buffers hold: the scratch keeps the normalised and modulated rows of the current row tile, and
   every point multiplies them with its tile of the weights. -/
module

public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Frame
public import proofs.«01_k».proof.Proof.Gen.ProjectReferenceIdeal
public import proofs.«01_k».proof.Proof.Gen.ProjectReferenceIdeal.Run
public import proofs.«01_k».proof.Proof.Gen.ProjectReferenceIdeal.Read
public import Idealize.ShloMosaic.Lib.Pipeline.ValueKit

@[expose] public section

set_option maxRecDepth 16384

noncomputable section

namespace Cert.ProjectIdeal.Rows

open Idealize.ShloMosaic Idealize.ShloMosaic.TcCoe Idealize.SL.Sem Cert.ProjectIdeal Cert.ProjectIdeal.Gen
open Idealize.ShloMosaic.Pipeline (Dat)
open Cert.ProjectReferenceIdeal.Read

variable (m : (ℓ : Loc nD τ sig) → Buf (Elt Ideal) ℓ)

/-- The reference's normalised and modulated rows, over the projection's arguments. -/
def rows (c : Dev nD) : FVec Ideal S16384x1024 .f32 :=
  val_main_v18 (F := Ideal) (m ((c : Thread nD τ).loc main_arg0)) (m ((c : Thread nD τ).loc main_arg1))
    (m ((c : Thread nD τ).loc main_arg2)) (m ((c : Thread nD τ).loc main_arg3))

/-- The tiles of the windows at every point: row tile t / 13, column tile t % 13. -/
theorem tiles : ∀ t : Fin cfg0.N, win0_0.index t = ![t.val / 13, 0] ∧ win0_1.index t = ![0, 0] ∧ win0_2.index t = ![0, 0]
    ∧ win0_3.index t = ![0, 0] ∧ win0_4.index t = ![0, t.val % 13] ∧ win0_5.index t = ![t.val / 13, t.val % 13]
    ∧ win0_6.index t = ![0, t.val / 13] ∧ t.val / 13 < 16 :=
  (by decide +kernel : ∀ t : Fin grid0.N, _)

/-- The first point of a row tile normalises and modulates the rows as the reference does. -/
theorem normed (c : Dev nD) (t : Fin cfg0.N) (y : S1024x1024.Idx) (j : S16384x1024.Idx)
    (h0 : (j 0 : ℕ) = t.val / 13 * 1024 + y 0) (h1 : (j 1 : ℕ) = y 1) :
    k0_pay1 (F := Ideal) (iblk m c 0 t) (iblk m c 1 t) (iblk m c 2 t) (iblk m c 3 t) y = rows m c j := by
  pointwise [k0_pay1, rows, val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, tiles t]

/-- After every point the scratch holds the rows of the point's row tile. -/
theorem scratch (c : Dev nD) (n : ℕ) (h : n < cfg0.N) (y : S1024x1024.Idx) (j : S16384x1024.Idx)
    (h0 : (j 0 : ℕ) = n / 13 * 1024 + y 0) (h1 : (j 1 : ℕ) = y 1) : (outsAt0 m c n h).2.2 y = rows m c j := by
  induction n with
  | zero =>
    rw [outsAt0_A m c ⟨0, h⟩ (Nat.zero_mod _) (by simp)]
    frame_out
    exact normed m c ⟨0, h⟩ y j h0 h1
  | succ n ih =>
    by_cases ha : (n + 1) % 13 = 0
    · rw [outsAt0_A m c ⟨n + 1, h⟩ ha (by simp only; omega)]
      frame_out
      exact normed m c ⟨n + 1, h⟩ y j h0 h1
    · have e : n / 13 = (n + 1) / 13 := by omega
      by_cases hc : (n + 1) % 13 = 12
      · rw [outsAt0_C m c ⟨n + 1, h⟩ ha hc]
        frame_out
        exact ih (Nat.lt_of_succ_lt h) (by rw [e]; exact h0)
      · rw [outsAt0_B m c ⟨n + 1, h⟩ ha hc]
        frame_out
        exact ih (Nat.lt_of_succ_lt h) (by rw [e]; exact h0)

/-- The reference's product of the rows and the weights. -/
def product (c : Dev nD) : FVec Ideal S16384x6656 .f32 :=
  val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's small columns, transposed. -/
def columns (c : Dev nD) : FVec Ideal S128x16384 .f32 :=
  val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A block of rows times a tile of the weights is a tile of the product. -/
theorem tile_product (c : Dev nD) (t : Fin cfg0.N) (S : FVec Ideal S1024x1024 .bf16)
    (hS : ∀ (y : S1024x1024.Idx) (j : S16384x1024.Idx), (j 0 : ℕ) = t.val / 13 * 1024 + y 0 → (j 1 : ℕ) = y 1 → S y = rows m c j)
    (y : S1024x512.Idx) (j : S16384x6656.Idx)
    (h0 : (j 0 : ℕ) = t.val / 13 * 1024 + y 0) (h1 : (j 1 : ℕ) = t.val % 13 * 512 + y 1) :
    k0_pay2 (F := Ideal) S (iblk m c 4 t) y = product m c j := by
  unfold product
  rw [val_main_v20_apply]
  pointwise [k0_pay2]
  refine Finset.sum_congr rfl fun k _ => ?_
  have e : iblk m c 4 t (ix2 k (y 1)) = m ((c : Thread nD τ).loc main_arg4) (ix2 k (j 1)) := by
    blk_point [iblk, V, tiles t]
  refine congrArg₂ (· * ·) (hS _ _ ?_ ?_) (e.trans ?_)
  · exact h0
  · rfl
  · exact congrArg (m ((c : Thread nD τ).loc main_arg4)) (funext fun a => by fin_cases a <;> rfl)

/-- The last column tile holds the small columns. -/
theorem tile_columns (c : Dev nD) (t : Fin cfg0.N) (ht : t.val % 13 = 12) (S : FVec Ideal S1024x1024 .bf16)
    (hS : ∀ (y : S1024x1024.Idx) (j : S16384x1024.Idx), (j 0 : ℕ) = t.val / 13 * 1024 + y 0 → (j 1 : ℕ) = y 1 → S y = rows m c j)
    (y : S128x1024.Idx) (j : S128x16384.Idx)
    (h0 : (j 0 : ℕ) = y 0) (h1 : (j 1 : ℕ) = t.val / 13 * 1024 + y 1) :
    k0_pay3 (F := Ideal) S (iblk m c 4 t) y = columns m c j := by
  unfold columns
  rw [val_main_v22_apply, val_main_v21_apply]
  have hy : (y 0 : ℕ) < 128 := (y 0).isLt
  have hz : (y 1 : ℕ) < 1024 := (y 1).isLt
  have e : k0_pay3 (F := Ideal) S (iblk m c 4 t) y = k0_pay2 (F := Ideal) S (iblk m c 4 t) (ix2 ⟨y 1, hz⟩ ⟨384 + y 0, by omega⟩) := by
    pointwise [k0_pay3]
  rw [e]
  refine tile_product m c t S hS _ _ ?_ ?_
  · exact h1
  · show 6528 + (j 0 : ℕ) = t.val % 13 * 512 + (384 + y 0)
    omega

theorem final_product (c : Dev nD) : (dats m 0 c).arrAt 5 (cfgs 0).N = product m c := by
  refine (dats m 0 c).arrAt_eq_of_covers 5 _ (by decide +kernel) fun t _ y => ?_
  blk_simp
  rw [after0_5]
  have e0 : (((((cfg0.win 5).blk t).view.emb y) 0 : Fin 16384) : ℕ) = t.val / 13 * 1024 + y 0 := by blk_simp [tiles t]
  have e1 : (((((cfg0.win 5).blk t).view.emb y) 1 : Fin 6656) : ℕ) = t.val % 13 * 512 + y 1 := by blk_simp [tiles t]
  have key : ∀ S, _ → _ := fun S hS => tile_product m c t S hS y _ e0 e1
  by_cases ha : t.val % 13 = 0
  · rw [outsAt0_A m c t ha (by omega)]
    frame_out
    exact key _ (normed m c t)
  · have e : (t.val - 1) / 13 = t.val / 13 := by omega
    have hp := scratch m c (t.val - 1) (Nat.lt_of_le_of_lt (Nat.sub_le _ _) t.isLt)
    rw [e] at hp
    by_cases hc : t.val % 13 = 12
    · rw [outsAt0_C m c t ha hc]
      frame_out
      rw [(Memref.isWhole_whole _).read_unread]
      exact key _ hp
    · rw [outsAt0_B m c t ha hc]
      frame_out
      rw [(Memref.isWhole_whole _).read_unread]
      exact key _ hp

theorem final_columns (c : Dev nD) : (dats m 0 c).arrAt 6 (cfgs 0).N = columns m c := by
  refine (dats m 0 c).arrAt_eq_of_covers 6 _ (by decide +kernel) fun t hf y => ?_
  have hc := (flush0_6 t).mp hf
  blk_simp
  rw [after0_6]
  have e0 : (((((cfg0.win 6).blk t).view.emb y) 0 : Fin 128) : ℕ) = y 0 := by blk_simp [tiles t]
  have e1 : (((((cfg0.win 6).blk t).view.emb y) 1 : Fin 16384) : ℕ) = t.val / 13 * 1024 + y 1 := by blk_simp [tiles t]
  have e : (t.val - 1) / 13 = t.val / 13 := by omega
  have hp := scratch m c (t.val - 1) (Nat.lt_of_le_of_lt (Nat.sub_le _ _) t.isLt)
  rw [e] at hp
  rw [outsAt0_C m c t (by omega) hc]
  frame_out
  rw [(Memref.isWhole_whole _).read_unread]
  exact tile_columns m c t hc _ hp y _ e0 e1

end Cert.ProjectIdeal.Rows

end
-- ==== Proof.ProjectClaim.lean ====
/- The claims about the input projection: its runs leave the arguments unchanged, and the idealized kernel and the
   reference end with the same two arrays. -/
module

public import proofs.«01_k».proof.Defs
public import proofs.«01_k».proof.Proof.Gen.Project
public import proofs.«01_k».proof.Proof.Gen.Project.Skeleton
public import proofs.«01_k».proof.Proof.Gen.Project.Launch
public import proofs.«01_k».proof.Proof.Gen.Project.Frame
public import proofs.«01_k».proof.Proof.ProjectValue
public import Idealize.ShloMosaic.Lib.Claim

@[expose] public section

noncomputable section

namespace Cert.Proof.Project

open Idealize.ShloMosaic Idealize.SL.Sem

theorem kernel_frame : Cert.quiescent_Project := fun m ρ _ => Cert.Project.Gen.frame m ρ

theorem ideal_frame : Cert.quiescent_ProjectIdeal := fun m ρ _ => Cert.ProjectIdeal.Gen.frame m ρ

theorem reference_frame : Cert.quiescent_ProjectReferenceIdeal := fun m ρ _ =>
  (θ_run _ _ _).mono (fun _ h => ⟨fun c => (h c).2.2, sem_eq_zero_of_no_sems rfl _⟩) (Cert.ProjectReferenceIdeal.Value.run m ρ)

theorem preserves : Cert.preserves_Project_ProjectIdeal := trivial

/-- Both end with the normalised, modulated rows times the weights, and with the small columns of that transposed. -/
theorem algebraic : Cert.algebraic_ProjectIdeal_ProjectReferenceIdeal := by
  pair_intro
  · run_from Cert.ProjectIdeal.Gen.run_main m g
  · run_from Cert.ProjectReferenceIdeal.Value.run m' g'
    · exact (Cert.ProjectIdeal.Rows.final_product m c).symm
    · exact (Cert.ProjectIdeal.Rows.final_columns m c).symm

end Cert.Proof.Project

end
-- ==== Proof.PrepareRows.lean ====
/- The rows the prompt's preparation normalises, its rotation tables, and the rotated key parts. -/
module

public import proofs.«01_k».proof.Proof.Gen.PrepareIdeal
public import proofs.«01_k».proof.Proof.Gen.PrepareIdeal.Skeleton
public import proofs.«01_k».proof.Proof.Gen.PrepareIdeal.Launch
public import proofs.«01_k».proof.Proof.Gen.PrepareIdeal.Frame
public import proofs.«01_k».proof.Proof.Gen.PrepareReferenceIdeal
public import proofs.«01_k».proof.Proof.Gen.PrepareReferenceIdeal.Run
public import proofs.«01_k».proof.Proof.Gen.PrepareReferenceIdeal.Read
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.PrepareIdeal.Rotated

open Idealize.ShloMosaic Idealize.ShloMosaic.TcCoe Idealize.SL.Sem Cert.PrepareIdeal Cert.PrepareIdeal.Gen
open Idealize.ShloMosaic.Pipeline (Dat)
open Cert.PrepareReferenceIdeal.Read

variable (m : (ℓ : Loc nD τ sig) → Buf (Elt Ideal) ℓ)

/-- The block every window reads or writes at a point. -/
theorem tiles : ∀ t : Fin cfg0.N, win0_0.index t = ![t.val, 20] ∧ win0_1.index t = ![t.val, 50] ∧ win0_2.index t = ![t.val, 51]
    ∧ win0_3.index t = ![0, 0] ∧ win0_4.index t = ![0, 0] ∧ win0_5.index t = ![0, 0, 0] ∧ win0_6.index t = ![0, 0, 0]
    ∧ win0_7.index t = ![0, 0, 0] ∧ win0_8.index t = ![0, t.val] ∧ win0_9.index t = ![0, t.val] ∧ win0_10.index t = ![t.val, 0]
    ∧ win0_11.index t = ![t.val, 0] ∧ win0_12.index t = ![t.val, 0] ∧ win0_13.index t = ![0, 0, t.val] ∧ win0_14.index t = ![0, t.val, 0]
    ∧ win0_15.index t = ![0, 0, t.val] ∧ win0_16.index t = ![t.val, 0] ∧ win0_17.index t = ![t.val, 0] ∧ t.val < 32 :=
  (by decide +kernel : ∀ t : Fin grid0.N, _)

/-- The token of a row of a point's block. -/
def token (t : Fin cfg0.N) (r : Fin 512) : Fin 16384 :=
  ⟨t.val * 512 + r.val, by have h : t.val < 32 := t.isLt; have := r.isLt; omega⟩

/-- The cosine of the rotation, of every token and every lane of a half. -/
def cosine (n : Fin 16384) (l : Fin 16) : EReal := val_main_v40 (F := Ideal) (ix2 n l)

/-- The sine of the rotation. -/
def sine (n : Fin 16384) (l : Fin 16) : EReal := val_main_v41 (F := Ideal) (ix2 n l)

/-- The normalised queries of a point are the reference's, of its tokens. -/
theorem normed (c : Dev nD) (t : Fin cfg0.N) (r : Fin 512) (k : Fin 256) :
    k0_pay4 (F := Ideal) (iblk m c 0 t) (iblk m c 3 t) (ix2 r k) = val_main_v13 (F := Ideal) (m ((c : Thread nD τ).loc main_arg0)) (m ((c : Thread nD τ).loc main_arg1)) (ix2 (token t r) k) := by
  unfold token
  pointwise [k0_pay4, val_main_v1, val_main_v2, val_main_v3, val_main_v4, val_main_v5, val_main_v6, val_main_v7, val_main_v8, val_main_v9, val_main_v10, val_main_v11, val_main_v12, val_main_v13, val_main_cst, val_main_cst_0, val_main_cst_1]
  blk_point [iblk, V, tiles t]

/-- The normalised latents of a point are the reference's, of its tokens. -/
theorem latent (c : Dev nD) (t : Fin cfg0.N) (r : Fin 512) (k : Fin 128) :
    k0_pay5 (F := Ideal) (iblk m c 1 t) (iblk m c 4 t) (ix2 r k) = val_main_v26 (F := Ideal) (m ((c : Thread nD τ).loc main_arg0)) (m ((c : Thread nD τ).loc main_arg2)) (ix2 (token t r) k) := by
  unfold token
  pointwise [k0_pay5, val_main_v14, val_main_v15, val_main_v16, val_main_v17, val_main_v18, val_main_v19, val_main_v20, val_main_v21, val_main_v22, val_main_v23, val_main_v24, val_main_v25, val_main_v26, val_main_cst_2, val_main_cst_3, val_main_cst_4]
  blk_point [iblk, V, tiles t]

/-- The keys' table of cosines. -/
theorem ck (c : Dev nD) (n : Fin 16384) (l : Fin 128) : (V (F := Ideal) m c main_v28 : FVec Ideal S16384x128 .f32) (ix2 n l)
    = if h : l.val < 16 then (cosine n ⟨l.val, h⟩ : EReal) else if h : l.val - 16 < 16 then (cosine n ⟨l.val - 16, h⟩ : EReal) else (0 : EReal) := by
  unfold V
  after_reads_simp
  unfold cosine
  pointwise []
  after_reads_simp
  pointwise [val_main_v28, val_main_v29, val_main_v30, val_main_v31, val_main_v32, val_main_v33, val_main_v34, val_main_v35, val_main_v36, val_main_v37, val_main_v38, val_main_v39, val_main_v40, val_main_v41, val_main_v0, val_main_cst_5, val_main_cst_6]

/-- The keys' table of negated sines. -/
theorem ska (c : Dev nD) (n : Fin 16384) (l : Fin 128) : (V (F := Ideal) m c main_v31 : FVec Ideal S16384x128 .f32) (ix2 n l)
    = if h : l.val < 16 then (-sine n ⟨l.val, h⟩ : EReal) else (0 : EReal) := by
  unfold V
  after_reads_simp
  unfold sine
  pointwise [val_main_v28, val_main_v29, val_main_v30, val_main_v31, val_main_v32, val_main_v33, val_main_v34, val_main_v35, val_main_v36, val_main_v37, val_main_v38, val_main_v39, val_main_v40, val_main_v41, val_main_v0, val_main_cst_5, val_main_cst_6]

/-- The keys' table of sines. -/
theorem skb (c : Dev nD) (n : Fin 16384) (l : Fin 128) : (V (F := Ideal) m c main_v34 : FVec Ideal S16384x128 .f32) (ix2 n l)
    = if h : l.val < 16 then (0 : EReal) else if h : l.val - 16 < 16 then (sine n ⟨l.val - 16, h⟩ : EReal) else (0 : EReal) := by
  unfold V
  after_reads_simp
  unfold sine
  pointwise []
  after_reads_simp
  pointwise [val_main_v28, val_main_v29, val_main_v30, val_main_v31, val_main_v32, val_main_v33, val_main_v34, val_main_v35, val_main_v36, val_main_v37, val_main_v38, val_main_v39, val_main_v40, val_main_v41, val_main_v0, val_main_cst_5, val_main_cst_6]

/-- The queries' table of cosines, transposed. -/
theorem cosines (c : Dev nD) (n : Fin 16384) (l : Fin 16) : (V (F := Ideal) m c main_v35 : FVec Ideal S16x16384 .f32) (ix2 l n)
    = cosine n l := by
  unfold V
  after_reads_simp
  unfold cosine
  pointwise [val_main_v28, val_main_v29, val_main_v30, val_main_v31, val_main_v32, val_main_v33, val_main_v34, val_main_v35, val_main_v36, val_main_v37, val_main_v38, val_main_v39, val_main_v40, val_main_v41, val_main_v0, val_main_cst_5, val_main_cst_6]

/-- The queries' table of sines, transposed. -/
theorem sines (c : Dev nD) (n : Fin 16384) (l : Fin 16) : (V (F := Ideal) m c main_v36 : FVec Ideal S16x16384 .f32) (ix2 l n)
    = sine n l := by
  unfold V
  after_reads_simp
  unfold sine
  pointwise [val_main_v28, val_main_v29, val_main_v30, val_main_v31, val_main_v32, val_main_v33, val_main_v34, val_main_v35, val_main_v36, val_main_v37, val_main_v38, val_main_v39, val_main_v40, val_main_v41, val_main_v0, val_main_cst_5, val_main_cst_6]

/-- The rotated rows of 128 lanes: the rotated key part in the first 32, zero in the others. -/
theorem rotated (c : Dev nD) (t : Fin cfg0.N) (r : Fin 512) (l : Fin 128) :
    k0_pay9 (F := Ideal) (iblk m c 2 t) (k0_pay7 (iblk m c 10 t)) (k0_pay8 (iblk m c 11 t)) (iblk m c 12 t) (ix2 r l)
      = if h : l.val < 32 then (val_main_v50 (F := Ideal) (m ((c : Thread nD τ).loc main_arg0)) (ix2 (token t r) ⟨l.val, h⟩) : EReal) else (0 : EReal) := by
  have e : ∀ l : Fin 128, iblk m c 2 t (ix2 r l) = (m ((c : Thread nD τ).loc main_arg0)) (ix2 (token t r) ⟨6528 + l.val, by have := l.isLt; show 6528 + l.val < 6656; omega⟩) := fun l => by
    unfold token
    blk_point [iblk, V, tiles t]
  have e10 : ∀ l, iblk m c 10 t (ix2 r l) = (V (F := Ideal) m c main_v28 : FVec Ideal S16384x128 .f32) (ix2 (token t r) l) := fun l => by
    unfold token
    blk_point [iblk, tiles t]
  have e11 : ∀ l, iblk m c 11 t (ix2 r l) = (V (F := Ideal) m c main_v31 : FVec Ideal S16384x128 .f32) (ix2 (token t r) l) := fun l => by
    unfold token
    blk_point [iblk, tiles t]
  have e12 : ∀ l, iblk m c 12 t (ix2 r l) = (V (F := Ideal) m c main_v34 : FVec Ideal S16384x128 .f32) (ix2 (token t r) l) := fun l => by
    unfold token
    blk_point [iblk, tiles t]
  have hl : (l : ℕ) < 128 := l.isLt
  pointwise [k0_pay7, k0_pay8, k0_pay9, val_main_v27, val_main_v42, val_main_v43, val_main_v44, val_main_v45, val_main_v46, val_main_v47, val_main_v48, val_main_v49, val_main_v50]
  rw [e, e, e, e10, e11, e12, ck, ska, skb]
  by_cases h : (l : ℕ) < 16
  · have h' : (l : ℕ) < 32 := by omega
    simp only [h, h', dite_true, mul_zero, add_zero, mul_neg, ← sub_eq_add_neg]
    unfold cosine sine
    blk_point []
  · by_cases k : (l : ℕ) - 16 < 16
    · have h' : (l : ℕ) < 32 := by omega
      simp only [h, k, h', dite_true, dite_false, mul_zero, add_zero, zero_add]
      rw [add_comm]
      unfold cosine sine
      blk_point []
    · have h' : ¬ (l : ℕ) < 32 := by omega
      simp only [h, k, h', dite_true, dite_false, mul_zero, add_zero]

end Cert.PrepareIdeal.Rotated

end
-- ==== Proof.PrepareHeads.lean ====
/- What the prompt's preparation writes for every head, from the rows it has normalised and rotated. -/
module

public import proofs.«01_k».proof.Proof.Gen.PrepareIdeal
public import proofs.«01_k».proof.Proof.Gen.PrepareIdeal.Skeleton
public import proofs.«01_k».proof.Proof.Gen.PrepareIdeal.Launch
public import proofs.«01_k».proof.Proof.Gen.PrepareIdeal.Frame
public import proofs.«01_k».proof.Proof.Gen.PrepareReferenceIdeal
public import proofs.«01_k».proof.Proof.Gen.PrepareReferenceIdeal.Run
public import proofs.«01_k».proof.Proof.Gen.PrepareReferenceIdeal.Read
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.PrepareIdeal.Rotated

open Idealize.ShloMosaic Idealize.ShloMosaic.TcCoe Idealize.SL.Sem Cert.PrepareIdeal Cert.PrepareIdeal.Gen
open Idealize.ShloMosaic.Pipeline (Dat)
open Cert.PrepareReferenceIdeal.Read

variable (X0 : FVec Ideal S16384x6656 .f32) (X1 : FVec Ideal S1x256 .f32) (X2 : FVec Ideal S1x128 .f32)
  (X3 : FVec Ideal S8x128x256 .bf16) (X4 : FVec Ideal S8x128x128 .bf16) (X5 : FVec Ideal S8x128x128 .bf16) (row : Fin 512 → Fin 16384)

/-- The keys of a head: its latent keys, plus the rotated part. -/
theorem k_head (L : FVec Ideal S512x128 .bf16) (K : FVec Ideal S512x128 .f32) (W : FVec Ideal S1x128x128 .bf16) (h : Fin 8)
    (hL : ∀ r k, L (ix2 r k) = val_main_v26 (F := Ideal) X0 X2 (ix2 (row r) k))
    (hK : ∀ r k, K (ix2 r k) = val_main_v94 (F := Ideal) X0 (ix2 (row r) k))
    (hW : ∀ k l, W (ix3 0 k l) = X4 (ix3 h k l))
    (x : S1x512x128.Idx) (y : S8x16384x128.Idx) (h0 : (y 0 : ℕ) = h) (h1 : (y 1 : ℕ) = row (x 1)) (h2 : (y 2 : ℕ) = x 2) :
    k0_pay22 (F := Ideal) L K W x = val_main_v110 (F := Ideal) X0 X2 X4 y := by
  have hy : y = ix3 h (row (x 1)) (x 2) := by
    funext i
    fin_cases i
    · exact Fin.ext h0
    · exact Fin.ext h1
    · exact Fin.ext h2
  have e : k0_pay22 (F := Ideal) L K W x = (∑ k, L (ix2 (x 1) k) * W (ix3 0 k (x 2))) + K (ix2 (x 1) (x 2)) := by
    pointwise [k0_pay22]
  have hP : ∑ k, L (ix2 (x 1) k) * W (ix3 0 k (x 2)) = val_main_v92 (F := Ideal) X0 X2 X4 (ix3 h (x 2) (row (x 1))) := by
    rw [val_main_v92_apply]
    refine Finset.sum_congr rfl fun k _ => ?_
    refine (congrArg₂ (· * ·) (hL (x 1) k) (hW k (x 2))).trans ?_
    refine (mul_comm (G := EReal) _ _).trans ?_
    refine congrArg₂ (· * ·) ?_ ?_
    · pointwise [val_main_v91]
      blk_ext []
    · blk_ext []
  refine e.trans ((congrArg₂ (· + ·) hP (hK (x 1) (x 2))).trans ?_)
  rw [hy]
  have e2 : val_main_v110 (F := Ideal) X0 X2 X4 (ix3 h (row (x 1)) (x 2)) = (val_main_v92 (F := Ideal) X0 X2 X4 (ix3 h (x 2) (row (x 1))) + val_main_v94 (F := Ideal) X0 (ix2 (row (x 1)) (x 2)) : EReal) := by
    pointwise [val_main_v110, val_main_v97, val_main_v93, val_main_v96, val_main_v95]
  exact e2.symm

/-- The values of a head, transposed, plus one in row 64. -/
theorem v_head (L : FVec Ideal S512x128 .bf16) (W : FVec Ideal S1x128x128 .bf16) (h : Fin 8)
    (hL : ∀ r k, L (ix2 r k) = val_main_v26 (F := Ideal) X0 X2 (ix2 (row r) k))
    (hW : ∀ k l, W (ix3 0 k l) = X5 (ix3 h k l))
    (x : S1x128x512.Idx) (y : S8x128x16384.Idx) (h0 : (y 0 : ℕ) = h) (h1 : (y 1 : ℕ) = x 1) (h2 : (y 2 : ℕ) = row (x 2)) :
    k0_pay23 (F := Ideal) L (k0_pay14 (F := Ideal)) W x = val_main_v111 (F := Ideal) X0 X2 X5 y := by
  have hy : y = ix3 h (x 1) (row (x 2)) := by
    funext i
    fin_cases i
    · exact Fin.ext h0
    · exact Fin.ext h1
    · exact Fin.ext h2
  have e : k0_pay23 (F := Ideal) L (k0_pay14 (F := Ideal)) W x = (∑ k, W (ix3 0 (x 1) k) * L (ix2 (x 2) k)) + k0_pay14 (F := Ideal) (ix2 (x 1) (x 2)) := by
    pointwise [k0_pay23]
  have hP : ∑ k, W (ix3 0 (x 1) k) * L (ix2 (x 2) k) = val_main_v99 (F := Ideal) X0 X2 X5 (ix3 h (x 1) (row (x 2))) := by
    rw [val_main_v99_apply]
    refine Finset.sum_congr rfl fun k _ => ?_
    refine (congrArg₂ (· * ·) (hW (x 1) k) (hL (x 2) k)).trans ?_
    refine congrArg₂ (· * ·) ?_ ?_
    · pointwise [val_main_v98]
      blk_ext []
    · blk_ext []
  have hO : k0_pay14 (F := Ideal) (ix2 (x 1) (x 2)) = val_main_v103 (F := Ideal) (ix1 (x 1)) := by
    pointwise [k0_pay14, val_main_v103, val_main_v102, val_main_v101, val_main_v100, val_main_c_11]
    exact congrFun (sitofp_extui_eq_uitofp (s := Cert.PrepareReferenceIdeal.S128) (φ := .f32) (fun _ => IntOp.cmpi .eq (BitVec.ofNat 32 (x 1 : ℕ)) 64#32) (by norm_num)) (ix1 (x 1))
  refine e.trans ((congrArg₂ (· + ·) hP hO).trans ?_)
  rw [hy]
  have e2 : val_main_v111 (F := Ideal) X0 X2 X5 (ix3 h (x 1) (row (x 2))) = (val_main_v99 (F := Ideal) X0 X2 X5 (ix3 h (x 1) (row (x 2))) + val_main_v103 (F := Ideal) (ix1 (x 1)) : EReal) := by
    pointwise [val_main_v111, val_main_v107, val_main_v106, val_main_v105, val_main_v104]
  exact e2.symm

end Cert.PrepareIdeal.Rotated

end
-- ==== Proof.PrepareQueries.lean ====
/- The rotated queries the prompt's preparation writes for every head. -/
module

public import proofs.«01_k».proof.Proof.Gen.PrepareIdeal
public import proofs.«01_k».proof.Proof.Gen.PrepareIdeal.Skeleton
public import proofs.«01_k».proof.Proof.Gen.PrepareIdeal.Launch
public import proofs.«01_k».proof.Proof.Gen.PrepareIdeal.Frame
public import proofs.«01_k».proof.Proof.Gen.PrepareReferenceIdeal
public import proofs.«01_k».proof.Proof.Gen.PrepareReferenceIdeal.Run
public import proofs.«01_k».proof.Proof.Gen.PrepareReferenceIdeal.Read
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.PrepareIdeal.Rotated

open Idealize.ShloMosaic Idealize.ShloMosaic.TcCoe Idealize.SL.Sem Cert.PrepareIdeal Cert.PrepareIdeal.Gen
open Idealize.ShloMosaic.Pipeline (Dat)
open Cert.PrepareReferenceIdeal.Read

variable (X0 : FVec Ideal S16384x6656 .f32) (X1 : FVec Ideal S1x256 .f32) (X2 : FVec Ideal S1x128 .f32)
  (X3 : FVec Ideal S8x128x256 .bf16) (X4 : FVec Ideal S8x128x128 .bf16) (X5 : FVec Ideal S8x128x128 .bf16) (row : Fin 512 → Fin 16384)

set_option maxHeartbeats 1000000 in
/-- The rotated and scaled queries of a head, transposed. -/
theorem q_core (Q : FVec Ideal S512x256 .bf16) (C S : FVec Ideal S16x512 .f32) (W : FVec Ideal S1x128x256 .bf16) (h : Fin 8)
    (hQ : ∀ r k, Q (ix2 r k) = val_main_v13 (F := Ideal) X0 X1 (ix2 (row r) k))
    (hC : ∀ l r, C (ix2 l r) = val_main_v68 (F := Ideal) (ix2 (row r) l))
    (hS : ∀ l r, S (ix2 l r) = val_main_v69 (F := Ideal) (ix2 (row r) l))
    (hW : ∀ k l, W (ix3 0 k l) = X3 (ix3 h k l)) (l : Fin 128) (r : Fin 512) :
    k0_pay20 (F := Ideal) Q C S (k0_pay15 (F := Ideal)) W (ix2 l r) = val_main_v90 (F := Ideal) X0 X1 X3 (ix3 h (row r) l) := by
  have hP : ∀ n : Fin 128, ∑ k, W (ix3 0 n k) * Q (ix2 r k) = val_main_v52 (F := Ideal) X0 X1 X3 (ix3 h n (row r)) := fun n => by
    rw [val_main_v52_apply]
    refine Finset.sum_congr rfl fun k _ => ?_
    refine (congrArg₂ (· * ·) (hW n k) (hQ r k)).trans ?_
    refine congrArg₂ (· * ·) ?_ ?_
    · pointwise [val_main_v51]
      blk_ext []
    · blk_ext []
  pointwise [k0_pay20, k0_pay15, val_main_v53, val_main_v54, val_main_v55, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_call0_v0, val_main_c, val_main_cst_9]
  simp only [hP, hC, hS]
  by_cases h0 : (l : ℕ) < 64
  · have h1 : (l : ℕ) < 96 := by omega
    simp only [h0, h1, dite_true]
  · by_cases h1 : (l : ℕ) - 64 < 16
    · have h2 : (l : ℕ) < 96 := by omega
      simp only [h0, h1, h2, dite_true, dite_false]
      blk_point []
    · by_cases h2 : (l : ℕ) < 96
      · have h3 : (l : ℕ) - 64 - 16 < 16 := by omega
        simp only [h0, h1, h2, h3, dite_true, dite_false]
        blk_point []
      · have h3 : ¬ (l : ℕ) - 64 - 16 < 16 := by omega
        simp only [h0, h1, h2, h3, dite_false, zero_mul]
        exact sitofp_zero.symm

/-- The queries a head's store holds. -/
theorem q_head (Q : FVec Ideal S512x256 .bf16) (C S : FVec Ideal S16x512 .f32) (W : FVec Ideal S1x128x256 .bf16) (h : Fin 8)
    (hQ : ∀ r k, Q (ix2 r k) = val_main_v13 (F := Ideal) X0 X1 (ix2 (row r) k))
    (hC : ∀ l r, C (ix2 l r) = val_main_v68 (F := Ideal) (ix2 (row r) l))
    (hS : ∀ l r, S (ix2 l r) = val_main_v69 (F := Ideal) (ix2 (row r) l))
    (hW : ∀ k l, W (ix3 0 k l) = X3 (ix3 h k l))
    (x : S1x128x512.Idx) (y : S8x128x16384.Idx) (h0 : (y 0 : ℕ) = h) (h1 : (y 1 : ℕ) = x 1) (h2 : (y 2 : ℕ) = row (x 2)) :
    k0_pay21 (F := Ideal) (k0_pay20 (F := Ideal) Q C S (k0_pay15 (F := Ideal)) W) x = val_main_v109 (F := Ideal) X0 X1 X3 y := by
  have hy : y = ix3 h (x 1) (row (x 2)) := by
    funext i
    fin_cases i
    · exact Fin.ext h0
    · exact Fin.ext h1
    · exact Fin.ext h2
  have e : k0_pay21 (F := Ideal) (k0_pay20 (F := Ideal) Q C S (k0_pay15 (F := Ideal)) W) x = k0_pay20 (F := Ideal) Q C S (k0_pay15 (F := Ideal)) W (ix2 (x 1) (x 2)) := by
    pointwise [k0_pay21]
  refine e.trans ((q_core X0 X1 X3 row Q C S W h hQ hC hS hW (x 1) (x 2)).trans ?_)
  rw [hy]
  have e2 : val_main_v109 (F := Ideal) X0 X1 X3 (ix3 h (x 1) (row (x 2))) = val_main_v90 (F := Ideal) X0 X1 X3 (ix3 h (row (x 2)) (x 1)) := by
    pointwise [val_main_v109, val_main_v108]
  exact e2.symm

end Cert.PrepareIdeal.Rotated

end
-- ==== Proof.PrepareLoads.lean ====
/- The blocks of the prompt's preparation as it loads them, and the arrays of its latent rows and rotated key parts. -/
module

public import proofs.«01_k».proof.Proof.Gen.PrepareIdeal
public import proofs.«01_k».proof.Proof.Gen.PrepareIdeal.Skeleton
public import proofs.«01_k».proof.Proof.Gen.PrepareIdeal.Launch
public import proofs.«01_k».proof.Proof.Gen.PrepareIdeal.Frame
public import proofs.«01_k».proof.Proof.Gen.PrepareReferenceIdeal
public import proofs.«01_k».proof.Proof.Gen.PrepareReferenceIdeal.Run
public import proofs.«01_k».proof.Proof.Gen.PrepareReferenceIdeal.Read
public import proofs.«01_k».proof.Proof.PrepareRows
public import proofs.«01_k».proof.Proof.PrepareHeads
public import proofs.«01_k».proof.Proof.PrepareQueries
public import Idealize.ShloMosaic.Lib.Pipeline.ValueKit
public import Idealize.ShloMosaic.Lib.KernelVsHost

@[expose] public section

set_option maxRecDepth 16384

noncomputable section

namespace Cert.PrepareIdeal.Rotated

open Idealize.ShloMosaic Idealize.ShloMosaic.TcCoe Idealize.SL.Sem Cert.PrepareIdeal Cert.PrepareIdeal.Gen
open Idealize.ShloMosaic.Pipeline (Dat)
open Cert.PrepareReferenceIdeal.Read

variable (m : (ℓ : Loc nD τ sig) → Buf (Elt Ideal) ℓ)

/-- The normalised queries, of the blocks as the kernel loads them. -/
theorem loaded_rows (c : Dev nD) (t : Fin cfg0.N) (r : Fin 512) (k : Fin 256) :
    k0_pay4 (F := Ideal) (View.ld (iblk m c 0 t) r0_0) (View.ld (iblk m c 3 t) r0_1) (ix2 r k)
      = val_main_v13 (F := Ideal) (m ((c : Thread nD τ).loc main_arg0)) (m ((c : Thread nD τ).loc main_arg1)) (ix2 (token t r) k) := by
  have e0 : View.ld (iblk m c 0 t) r0_0 = iblk m c 0 t :=
    Idealize.ShloMosaic.View.ld_unit_zero (funext fun a => by fin_cases a <;> rfl) _ _
  have e3 : View.ld (iblk m c 3 t) r0_1 = iblk m c 3 t :=
    Idealize.ShloMosaic.View.ld_unit_zero (funext fun a => by fin_cases a <;> rfl) _ _
  rw [e0, e3]
  exact normed m c t r k

/-- The latent rows, of the blocks as the kernel loads them. -/
theorem loaded_latent (c : Dev nD) (t : Fin cfg0.N) (r : Fin 512) (k : Fin 128) :
    k0_pay6 (F := Ideal) (View.ld (iblk m c 1 t) r0_2) (View.ld (iblk m c 4 t) r0_3) (ix2 r k)
      = val_main_v26 (F := Ideal) (m ((c : Thread nD τ).loc main_arg0)) (m ((c : Thread nD τ).loc main_arg2)) (ix2 (token t r) k) := by
  have e1 : View.ld (iblk m c 1 t) r0_2 = iblk m c 1 t :=
    Idealize.ShloMosaic.View.ld_unit_zero (funext fun a => by fin_cases a <;> rfl) _ _
  have e4 : View.ld (iblk m c 4 t) r0_3 = iblk m c 4 t :=
    Idealize.ShloMosaic.View.ld_unit_zero (funext fun a => by fin_cases a <;> rfl) _ _
  rw [e1, e4]
  exact latent m c t r k

/-- The rotated key parts moved to lanes 64 to 95, of the blocks as the kernel loads them. -/
theorem loaded_key (c : Dev nD) (t : Fin cfg0.N) (r : Fin 512) (l : Fin 128) :
    k0_pay11 (F := Ideal) (View.ld (iblk m c 2 t) r0_2) (k0_pay7 (View.ld (iblk m c 10 t) r0_2)) (k0_pay8 (View.ld (iblk m c 11 t) r0_2)) (View.ld (iblk m c 12 t) r0_2) (ix2 r l)
      = val_main_v94 (F := Ideal) (m ((c : Thread nD τ).loc main_arg0)) (ix2 (token t r) l) := by
  have e2 : View.ld (iblk m c 2 t) r0_2 = iblk m c 2 t :=
    Idealize.ShloMosaic.View.ld_unit_zero (funext fun a => by fin_cases a <;> rfl) _ _
  have e10 : View.ld (iblk m c 10 t) r0_2 = iblk m c 10 t :=
    Idealize.ShloMosaic.View.ld_unit_zero (funext fun a => by fin_cases a <;> rfl) _ _
  have e11 : View.ld (iblk m c 11 t) r0_2 = iblk m c 11 t :=
    Idealize.ShloMosaic.View.ld_unit_zero (funext fun a => by fin_cases a <;> rfl) _ _
  have e12 : View.ld (iblk m c 12 t) r0_2 = iblk m c 12 t :=
    Idealize.ShloMosaic.View.ld_unit_zero (funext fun a => by fin_cases a <;> rfl) _ _
  rw [e2, e10, e11, e12]
  have hl : (l : ℕ) < 128 := l.isLt
  have e : k0_pay11 (F := Ideal) (iblk m c 2 t) (k0_pay7 (iblk m c 10 t)) (k0_pay8 (iblk m c 11 t)) (iblk m c 12 t) (ix2 r l)
      = k0_pay9 (F := Ideal) (iblk m c 2 t) (k0_pay7 (iblk m c 10 t)) (k0_pay8 (iblk m c 11 t)) (iblk m c 12 t) (ix2 r ⟨((l : ℕ) + 128 - 64) % 128, Nat.mod_lt _ (by norm_num)⟩) := by
    pointwise [k0_pay11]
  refine e.trans ((rotated m c t r _).trans ?_)
  pointwise [val_main_v94, val_main_call1_v0, val_main_c_10]
  by_cases h : 64 ≤ (l : ℕ) ∧ (l : ℕ) < 96
  · have h1 : ((l : ℕ) + 128 - 64) % 128 < 32 := by omega
    have h2 : ((l : ℕ) + 128 - 64) % 128 = (l : ℕ) - 64 := by omega
    have h3 : (l : ℕ) - 64 < 32 := by omega
    simp only [h, h1, h2, h3, dite_true, and_self]
  · have h1 : ¬ ((l : ℕ) + 128 - 64) % 128 < 32 := by omega
    rw [dif_neg h1, dif_neg (by omega)]
    exact sitofp_zero.symm

/-- The transposed cosines, of the block as the kernel loads it. -/
theorem loaded_cosines (c : Dev nD) (t : Fin cfg0.N) (l : Fin 16) (r : Fin 512) :
    k0_pay12 (F := Ideal) (View.ld (iblk m c 8 t) r0_5) (ix2 l r) = val_main_v68 (F := Ideal) (ix2 (token t r) l) := by
  have e8 : View.ld (iblk m c 8 t) r0_5 = iblk m c 8 t :=
    Idealize.ShloMosaic.View.ld_unit_zero (funext fun a => by fin_cases a <;> rfl) _ _
  rw [e8]
  have e : iblk m c 8 t (ix2 l r) = (V (F := Ideal) m c main_v35 : FVec Ideal S16x16384 .f32) (ix2 l (token t r)) := by
    unfold token
    blk_point [iblk, tiles t]
  pointwise [k0_pay12]
  exact e.trans ((cosines m c (token t r) l).trans rfl)

/-- The transposed sines, of the block as the kernel loads it. -/
theorem loaded_sines (c : Dev nD) (t : Fin cfg0.N) (l : Fin 16) (r : Fin 512) :
    k0_pay13 (F := Ideal) (View.ld (iblk m c 9 t) r0_5) (ix2 l r) = val_main_v69 (F := Ideal) (ix2 (token t r) l) := by
  have e9 : View.ld (iblk m c 9 t) r0_5 = iblk m c 9 t :=
    Idealize.ShloMosaic.View.ld_unit_zero (funext fun a => by fin_cases a <;> rfl) _ _
  rw [e9]
  have e : iblk m c 9 t (ix2 l r) = (V (F := Ideal) m c main_v36 : FVec Ideal S16x16384 .f32) (ix2 l (token t r)) := by
    unfold token
    blk_point [iblk, tiles t]
  pointwise [k0_pay13]
  exact e.trans ((sines m c (token t r) l).trans rfl)

/-- The array of latent rows. -/
theorem final_lat (c : Dev nD) : (dats m 0 c).arrAt 16 (cfgs 0).N = val_main_v26 (F := Ideal) (m ((c : Thread nD τ).loc main_arg0)) (m ((c : Thread nD τ).loc main_arg2)) := by
  refine (dats m 0 c).arrAt_eq_of_covers 16 _ (by decide +kernel) fun t _ y => ?_
  blk_simp
  rw [after0_16]
  have e0 : (((((cfg0.win 16).blk t).view.emb y) 0 : Fin 16384) : ℕ) = t.val * 512 + y 0 := by blk_simp [tiles t]
  have e1 : (((((cfg0.win 16).blk t).view.emb y) 1 : Fin 128) : ℕ) = y 1 := by blk_simp [tiles t]
  have e : ((cfg0.win 16).blk t).view.emb y = (ix2 (token t (y 0)) (y 1) : S16384x128.Idx) := by
    funext i
    fin_cases i
    · exact Fin.ext e0
    · exact Fin.ext e1
  frame_out
  exact (congrArg _ (ix2_eta y).symm).trans ((latent m c t (y 0) (y 1)).trans (congrArg (val_main_v26 (F := Ideal) (m ((c : Thread nD τ).loc main_arg0)) (m ((c : Thread nD τ).loc main_arg2))) e.symm))

/-- The rotated key parts a point stores. -/
theorem key_point (c : Dev nD) (t : Fin cfg0.N) (y : S512x32.Idx) (j : S16384x32.Idx) (e0 : (j 0 : ℕ) = t.val * 512 + y 0) (e1 : (j 1 : ℕ) = y 1) :
    k0_pay10 (F := Ideal) (iblk m c 2 t) (k0_pay7 (iblk m c 10 t)) (k0_pay8 (iblk m c 11 t)) (iblk m c 12 t) y
      = val_main_v50 (F := Ideal) (m ((c : Thread nD τ).loc main_arg0)) j := by
  have h : (y 1 : ℕ) < 32 := (y 1).isLt
  have p : k0_pay10 (F := Ideal) (iblk m c 2 t) (k0_pay7 (iblk m c 10 t)) (k0_pay8 (iblk m c 11 t)) (iblk m c 12 t) y
      = k0_pay9 (F := Ideal) (iblk m c 2 t) (k0_pay7 (iblk m c 10 t)) (k0_pay8 (iblk m c 11 t)) (iblk m c 12 t) (ix2 (y 0) ⟨(y 1 : ℕ), by omega⟩) := by
    unfold k0_pay10
    generalize k0_pay9 (F := Ideal) (iblk m c 2 t) (k0_pay7 (iblk m c 10 t)) (k0_pay8 (iblk m c 11 t)) (iblk m c 12 t) = X
    pointwise []
  refine p.trans ((rotated m c t (y 0) ⟨(y 1 : ℕ), by omega⟩).trans ?_)
  rw [dif_pos h]
  refine congrArg (val_main_v50 (F := Ideal) (m ((c : Thread nD τ).loc main_arg0))) (funext fun i => ?_)
  fin_cases i
  · exact Fin.ext e0.symm
  · exact Fin.ext e1.symm

/-- The array of rotated key parts. -/
theorem final_key (c : Dev nD) : (dats m 0 c).arrAt 17 (cfgs 0).N = val_main_v50 (F := Ideal) (m ((c : Thread nD τ).loc main_arg0)) := by
  refine (dats m 0 c).arrAt_eq_of_covers 17 _ (by decide +kernel) fun t _ y => ?_
  blk_simp
  rw [after0_17]
  have e0 : (((((cfg0.win 17).blk t).view.emb y) 0 : Fin 16384) : ℕ) = t.val * 512 + y 0 := by blk_simp [tiles t]
  have e1 : (((((cfg0.win 17).blk t).view.emb y) 1 : Fin 32) : ℕ) = y 1 := by blk_simp [tiles t]
  have w10 : View.ld (iblk m c 10 t) r0_2 = iblk m c 10 t :=
    Idealize.ShloMosaic.View.ld_unit_zero (funext fun a => by fin_cases a <;> rfl) _ _
  have w11 : View.ld (iblk m c 11 t) r0_2 = iblk m c 11 t :=
    Idealize.ShloMosaic.View.ld_unit_zero (funext fun a => by fin_cases a <;> rfl) _ _
  frame_out
  unfold k0_pay47 k0_pay48
  exact (congrFun (congrArg₂ (fun a b => k0_pay10 (F := Ideal) (iblk m c 2 t) (k0_pay7 a) (k0_pay8 b) (iblk m c 12 t)) w10 w11) y).trans
    (key_point m c t y _ e0 e1)

end Cert.PrepareIdeal.Rotated

end
-- ==== Proof.PrepareQueryArray.lean ====
/- The array of the prompt's rotated queries. -/
module

public import proofs.«01_k».proof.Proof.Gen.PrepareIdeal
public import proofs.«01_k».proof.Proof.Gen.PrepareIdeal.Skeleton
public import proofs.«01_k».proof.Proof.Gen.PrepareIdeal.Launch
public import proofs.«01_k».proof.Proof.Gen.PrepareIdeal.Frame
public import proofs.«01_k».proof.Proof.Gen.PrepareReferenceIdeal
public import proofs.«01_k».proof.Proof.Gen.PrepareReferenceIdeal.Run
public import proofs.«01_k».proof.Proof.Gen.PrepareReferenceIdeal.Read
public import proofs.«01_k».proof.Proof.PrepareRows
public import proofs.«01_k».proof.Proof.PrepareHeads
public import proofs.«01_k».proof.Proof.PrepareQueries
public import proofs.«01_k».proof.Proof.PrepareLoads
public import Idealize.ShloMosaic.Lib.Pipeline.ValueKit
public import Idealize.ShloMosaic.Lib.KernelVsHost

@[expose] public section

set_option maxRecDepth 16384

noncomputable section

namespace Cert.PrepareIdeal.Rotated

open Idealize.ShloMosaic Idealize.ShloMosaic.TcCoe Idealize.SL.Sem Cert.PrepareIdeal Cert.PrepareIdeal.Gen
open Idealize.ShloMosaic.Pipeline (Dat)
open Cert.PrepareReferenceIdeal.Read

variable (m : (ℓ : Loc nD τ sig) → Buf (Elt Ideal) ℓ)

/-- The rotated and scaled queries, at a point. -/
theorem q_point (c : Dev nD) (t : Fin cfg0.N) (y : S8x128x512.Idx) (j : S8x128x16384.Idx) (e0 : (j 0 : ℕ) = y 0) (e1 : (j 1 : ℕ) = y 1) (e2 : (j 2 : ℕ) = t.val * 512 + y 2) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = val_main_v109 (F := Ideal) (m ((c : Thread nD τ).loc main_arg0)) (m ((c : Thread nD τ).loc main_arg1)) (m ((c : Thread nD τ).loc main_arg3)) j := by
  unfold_out out0_13
  canon_tiles x h
  · exact q_head (m ((c : Thread nD τ).loc main_arg0)) (m ((c : Thread nD τ).loc main_arg1)) (m ((c : Thread nD τ).loc main_arg3)) (token t) _ (k0_pay12 (View.ld (iblk m c 8 t) r0_5)) (k0_pay13 (View.ld (iblk m c 9 t) r0_5)) (View.ld (iblk m c 5 t) r0_34) 7 (loaded_rows m c t) (loaded_cosines m c t) (loaded_sines m c t) (fun k l => by blk_point [iblk, V, tiles t]) x _
      (by have e : (y 0 : ℕ) = 7 + (x 0 : ℕ) := h0; have l : (x 0 : ℕ) < 1 := x0_lt; show (j 0 : ℕ) = 7; omega)
      (e1.trans h1) (by have e : (y 2 : ℕ) = (x 2 : ℕ) := h2; show (j 2 : ℕ) = t.val * 512 + (x 2 : ℕ); omega)
  · exact q_head (m ((c : Thread nD τ).loc main_arg0)) (m ((c : Thread nD τ).loc main_arg1)) (m ((c : Thread nD τ).loc main_arg3)) (token t) _ (k0_pay12 (View.ld (iblk m c 8 t) r0_5)) (k0_pay13 (View.ld (iblk m c 9 t) r0_5)) (View.ld (iblk m c 5 t) r0_30) 6 (loaded_rows m c t) (loaded_cosines m c t) (loaded_sines m c t) (fun k l => by blk_point [iblk, V, tiles t]) x _
      (by have e : (y 0 : ℕ) = 6 + (x 0 : ℕ) := h0; have l : (x 0 : ℕ) < 1 := x0_lt; show (j 0 : ℕ) = 6; omega)
      (e1.trans h1) (by have e : (y 2 : ℕ) = (x 2 : ℕ) := h2; show (j 2 : ℕ) = t.val * 512 + (x 2 : ℕ); omega)
  · exact q_head (m ((c : Thread nD τ).loc main_arg0)) (m ((c : Thread nD τ).loc main_arg1)) (m ((c : Thread nD τ).loc main_arg3)) (token t) _ (k0_pay12 (View.ld (iblk m c 8 t) r0_5)) (k0_pay13 (View.ld (iblk m c 9 t) r0_5)) (View.ld (iblk m c 5 t) r0_26) 5 (loaded_rows m c t) (loaded_cosines m c t) (loaded_sines m c t) (fun k l => by blk_point [iblk, V, tiles t]) x _
      (by have e : (y 0 : ℕ) = 5 + (x 0 : ℕ) := h0; have l : (x 0 : ℕ) < 1 := x0_lt; show (j 0 : ℕ) = 5; omega)
      (e1.trans h1) (by have e : (y 2 : ℕ) = (x 2 : ℕ) := h2; show (j 2 : ℕ) = t.val * 512 + (x 2 : ℕ); omega)
  · exact q_head (m ((c : Thread nD τ).loc main_arg0)) (m ((c : Thread nD τ).loc main_arg1)) (m ((c : Thread nD τ).loc main_arg3)) (token t) _ (k0_pay12 (View.ld (iblk m c 8 t) r0_5)) (k0_pay13 (View.ld (iblk m c 9 t) r0_5)) (View.ld (iblk m c 5 t) r0_22) 4 (loaded_rows m c t) (loaded_cosines m c t) (loaded_sines m c t) (fun k l => by blk_point [iblk, V, tiles t]) x _
      (by have e : (y 0 : ℕ) = 4 + (x 0 : ℕ) := h0; have l : (x 0 : ℕ) < 1 := x0_lt; show (j 0 : ℕ) = 4; omega)
      (e1.trans h1) (by have e : (y 2 : ℕ) = (x 2 : ℕ) := h2; show (j 2 : ℕ) = t.val * 512 + (x 2 : ℕ); omega)
  · exact q_head (m ((c : Thread nD τ).loc main_arg0)) (m ((c : Thread nD τ).loc main_arg1)) (m ((c : Thread nD τ).loc main_arg3)) (token t) _ (k0_pay12 (View.ld (iblk m c 8 t) r0_5)) (k0_pay13 (View.ld (iblk m c 9 t) r0_5)) (View.ld (iblk m c 5 t) r0_18) 3 (loaded_rows m c t) (loaded_cosines m c t) (loaded_sines m c t) (fun k l => by blk_point [iblk, V, tiles t]) x _
      (by have e : (y 0 : ℕ) = 3 + (x 0 : ℕ) := h0; have l : (x 0 : ℕ) < 1 := x0_lt; show (j 0 : ℕ) = 3; omega)
      (e1.trans h1) (by have e : (y 2 : ℕ) = (x 2 : ℕ) := h2; show (j 2 : ℕ) = t.val * 512 + (x 2 : ℕ); omega)
  · exact q_head (m ((c : Thread nD τ).loc main_arg0)) (m ((c : Thread nD τ).loc main_arg1)) (m ((c : Thread nD τ).loc main_arg3)) (token t) _ (k0_pay12 (View.ld (iblk m c 8 t) r0_5)) (k0_pay13 (View.ld (iblk m c 9 t) r0_5)) (View.ld (iblk m c 5 t) r0_14) 2 (loaded_rows m c t) (loaded_cosines m c t) (loaded_sines m c t) (fun k l => by blk_point [iblk, V, tiles t]) x _
      (by have e : (y 0 : ℕ) = 2 + (x 0 : ℕ) := h0; have l : (x 0 : ℕ) < 1 := x0_lt; show (j 0 : ℕ) = 2; omega)
      (e1.trans h1) (by have e : (y 2 : ℕ) = (x 2 : ℕ) := h2; show (j 2 : ℕ) = t.val * 512 + (x 2 : ℕ); omega)
  · exact q_head (m ((c : Thread nD τ).loc main_arg0)) (m ((c : Thread nD τ).loc main_arg1)) (m ((c : Thread nD τ).loc main_arg3)) (token t) _ (k0_pay12 (View.ld (iblk m c 8 t) r0_5)) (k0_pay13 (View.ld (iblk m c 9 t) r0_5)) (View.ld (iblk m c 5 t) r0_10) 1 (loaded_rows m c t) (loaded_cosines m c t) (loaded_sines m c t) (fun k l => by blk_point [iblk, V, tiles t]) x _
      (by have e : (y 0 : ℕ) = 1 + (x 0 : ℕ) := h0; have l : (x 0 : ℕ) < 1 := x0_lt; show (j 0 : ℕ) = 1; omega)
      (e1.trans h1) (by have e : (y 2 : ℕ) = (x 2 : ℕ) := h2; show (j 2 : ℕ) = t.val * 512 + (x 2 : ℕ); omega)
  · exact q_head (m ((c : Thread nD τ).loc main_arg0)) (m ((c : Thread nD τ).loc main_arg1)) (m ((c : Thread nD τ).loc main_arg3)) (token t) _ (k0_pay12 (View.ld (iblk m c 8 t) r0_5)) (k0_pay13 (View.ld (iblk m c 9 t) r0_5)) (View.ld (iblk m c 5 t) r0_6) 0 (loaded_rows m c t) (loaded_cosines m c t) (loaded_sines m c t) (fun k l => by blk_point [iblk, V, tiles t]) x _
      (by have e : (y 0 : ℕ) = (x 0 : ℕ) := h0; have l : (x 0 : ℕ) < 1 := x0_lt; show (j 0 : ℕ) = 0; omega)
      (e1.trans h1) (by have e : (y 2 : ℕ) = (x 2 : ℕ) := h2; show (j 2 : ℕ) = t.val * 512 + (x 2 : ℕ); omega)

/-- The rotated and scaled queries. -/
theorem final_q (c : Dev nD) : (dats m 0 c).arrAt 13 (cfgs 0).N = val_main_v109 (F := Ideal) (m ((c : Thread nD τ).loc main_arg0)) (m ((c : Thread nD τ).loc main_arg1)) (m ((c : Thread nD τ).loc main_arg3)) := by
  refine (dats m 0 c).arrAt_eq_of_covers 13 _ (by decide +kernel) fun t _ y => ?_
  blk_simp
  rw [after0_13]
  have e0 : (((((cfg0.win 13).blk t).view.emb y) 0 : Fin 8) : ℕ) = y 0 := by blk_simp [tiles t]
  have e1 : (((((cfg0.win 13).blk t).view.emb y) 1 : Fin 128) : ℕ) = y 1 := by blk_simp [tiles t]
  have e2 : (((((cfg0.win 13).blk t).view.emb y) 2 : Fin 16384) : ℕ) = t.val * 512 + y 2 := by blk_simp [tiles t]
  exact q_point m c t y _ e0 e1 e2

end Cert.PrepareIdeal.Rotated

end
-- ==== Proof.PrepareKeyArray.lean ====
/- The array of the prompt's keys. -/
module

public import proofs.«01_k».proof.Proof.Gen.PrepareIdeal
public import proofs.«01_k».proof.Proof.Gen.PrepareIdeal.Skeleton
public import proofs.«01_k».proof.Proof.Gen.PrepareIdeal.Launch
public import proofs.«01_k».proof.Proof.Gen.PrepareIdeal.Frame
public import proofs.«01_k».proof.Proof.Gen.PrepareReferenceIdeal
public import proofs.«01_k».proof.Proof.Gen.PrepareReferenceIdeal.Run
public import proofs.«01_k».proof.Proof.Gen.PrepareReferenceIdeal.Read
public import proofs.«01_k».proof.Proof.PrepareRows
public import proofs.«01_k».proof.Proof.PrepareHeads
public import proofs.«01_k».proof.Proof.PrepareQueries
public import proofs.«01_k».proof.Proof.PrepareLoads
public import Idealize.ShloMosaic.Lib.Pipeline.ValueKit
public import Idealize.ShloMosaic.Lib.KernelVsHost

@[expose] public section

set_option maxRecDepth 16384

noncomputable section

namespace Cert.PrepareIdeal.Rotated

open Idealize.ShloMosaic Idealize.ShloMosaic.TcCoe Idealize.SL.Sem Cert.PrepareIdeal Cert.PrepareIdeal.Gen
open Idealize.ShloMosaic.Pipeline (Dat)
open Cert.PrepareReferenceIdeal.Read

variable (m : (ℓ : Loc nD τ sig) → Buf (Elt Ideal) ℓ)

/-- The keys, at a point. -/
theorem k_point (c : Dev nD) (t : Fin cfg0.N) (y : S8x512x128.Idx) (j : S8x16384x128.Idx) (e0 : (j 0 : ℕ) = y 0) (e1 : (j 1 : ℕ) = t.val * 512 + y 1) (e2 : (j 2 : ℕ) = y 2) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = val_main_v110 (F := Ideal) (m ((c : Thread nD τ).loc main_arg0)) (m ((c : Thread nD τ).loc main_arg2)) (m ((c : Thread nD τ).loc main_arg4)) j := by
  unfold_out out0_14
  canon_tiles x h
  · exact k_head (m ((c : Thread nD τ).loc main_arg0)) (m ((c : Thread nD τ).loc main_arg2)) (m ((c : Thread nD τ).loc main_arg4)) (token t) _ _ (View.ld (iblk m c 6 t) r0_36) 7 (loaded_latent m c t) (loaded_key m c t) (fun k l => by blk_point [iblk, V, tiles t]) x _
      (by have e : (y 0 : ℕ) = 7 + (x 0 : ℕ) := h0; have l : (x 0 : ℕ) < 1 := x0_lt; show (j 0 : ℕ) = 7; omega)
      (by have e : (y 1 : ℕ) = (x 1 : ℕ) := h1; show (j 1 : ℕ) = t.val * 512 + (x 1 : ℕ); omega) (e2.trans h2)
  · exact k_head (m ((c : Thread nD τ).loc main_arg0)) (m ((c : Thread nD τ).loc main_arg2)) (m ((c : Thread nD τ).loc main_arg4)) (token t) _ _ (View.ld (iblk m c 6 t) r0_32) 6 (loaded_latent m c t) (loaded_key m c t) (fun k l => by blk_point [iblk, V, tiles t]) x _
      (by have e : (y 0 : ℕ) = 6 + (x 0 : ℕ) := h0; have l : (x 0 : ℕ) < 1 := x0_lt; show (j 0 : ℕ) = 6; omega)
      (by have e : (y 1 : ℕ) = (x 1 : ℕ) := h1; show (j 1 : ℕ) = t.val * 512 + (x 1 : ℕ); omega) (e2.trans h2)
  · exact k_head (m ((c : Thread nD τ).loc main_arg0)) (m ((c : Thread nD τ).loc main_arg2)) (m ((c : Thread nD τ).loc main_arg4)) (token t) _ _ (View.ld (iblk m c 6 t) r0_28) 5 (loaded_latent m c t) (loaded_key m c t) (fun k l => by blk_point [iblk, V, tiles t]) x _
      (by have e : (y 0 : ℕ) = 5 + (x 0 : ℕ) := h0; have l : (x 0 : ℕ) < 1 := x0_lt; show (j 0 : ℕ) = 5; omega)
      (by have e : (y 1 : ℕ) = (x 1 : ℕ) := h1; show (j 1 : ℕ) = t.val * 512 + (x 1 : ℕ); omega) (e2.trans h2)
  · exact k_head (m ((c : Thread nD τ).loc main_arg0)) (m ((c : Thread nD τ).loc main_arg2)) (m ((c : Thread nD τ).loc main_arg4)) (token t) _ _ (View.ld (iblk m c 6 t) r0_24) 4 (loaded_latent m c t) (loaded_key m c t) (fun k l => by blk_point [iblk, V, tiles t]) x _
      (by have e : (y 0 : ℕ) = 4 + (x 0 : ℕ) := h0; have l : (x 0 : ℕ) < 1 := x0_lt; show (j 0 : ℕ) = 4; omega)
      (by have e : (y 1 : ℕ) = (x 1 : ℕ) := h1; show (j 1 : ℕ) = t.val * 512 + (x 1 : ℕ); omega) (e2.trans h2)
  · exact k_head (m ((c : Thread nD τ).loc main_arg0)) (m ((c : Thread nD τ).loc main_arg2)) (m ((c : Thread nD τ).loc main_arg4)) (token t) _ _ (View.ld (iblk m c 6 t) r0_20) 3 (loaded_latent m c t) (loaded_key m c t) (fun k l => by blk_point [iblk, V, tiles t]) x _
      (by have e : (y 0 : ℕ) = 3 + (x 0 : ℕ) := h0; have l : (x 0 : ℕ) < 1 := x0_lt; show (j 0 : ℕ) = 3; omega)
      (by have e : (y 1 : ℕ) = (x 1 : ℕ) := h1; show (j 1 : ℕ) = t.val * 512 + (x 1 : ℕ); omega) (e2.trans h2)
  · exact k_head (m ((c : Thread nD τ).loc main_arg0)) (m ((c : Thread nD τ).loc main_arg2)) (m ((c : Thread nD τ).loc main_arg4)) (token t) _ _ (View.ld (iblk m c 6 t) r0_16) 2 (loaded_latent m c t) (loaded_key m c t) (fun k l => by blk_point [iblk, V, tiles t]) x _
      (by have e : (y 0 : ℕ) = 2 + (x 0 : ℕ) := h0; have l : (x 0 : ℕ) < 1 := x0_lt; show (j 0 : ℕ) = 2; omega)
      (by have e : (y 1 : ℕ) = (x 1 : ℕ) := h1; show (j 1 : ℕ) = t.val * 512 + (x 1 : ℕ); omega) (e2.trans h2)
  · exact k_head (m ((c : Thread nD τ).loc main_arg0)) (m ((c : Thread nD τ).loc main_arg2)) (m ((c : Thread nD τ).loc main_arg4)) (token t) _ _ (View.ld (iblk m c 6 t) r0_12) 1 (loaded_latent m c t) (loaded_key m c t) (fun k l => by blk_point [iblk, V, tiles t]) x _
      (by have e : (y 0 : ℕ) = 1 + (x 0 : ℕ) := h0; have l : (x 0 : ℕ) < 1 := x0_lt; show (j 0 : ℕ) = 1; omega)
      (by have e : (y 1 : ℕ) = (x 1 : ℕ) := h1; show (j 1 : ℕ) = t.val * 512 + (x 1 : ℕ); omega) (e2.trans h2)
  · exact k_head (m ((c : Thread nD τ).loc main_arg0)) (m ((c : Thread nD τ).loc main_arg2)) (m ((c : Thread nD τ).loc main_arg4)) (token t) _ _ (View.ld (iblk m c 6 t) r0_8) 0 (loaded_latent m c t) (loaded_key m c t) (fun k l => by blk_point [iblk, V, tiles t]) x _
      (by have e : (y 0 : ℕ) = (x 0 : ℕ) := h0; have l : (x 0 : ℕ) < 1 := x0_lt; show (j 0 : ℕ) = 0; omega)
      (by have e : (y 1 : ℕ) = (x 1 : ℕ) := h1; show (j 1 : ℕ) = t.val * 512 + (x 1 : ℕ); omega) (e2.trans h2)

/-- The keys. -/
theorem final_k (c : Dev nD) : (dats m 0 c).arrAt 14 (cfgs 0).N = val_main_v110 (F := Ideal) (m ((c : Thread nD τ).loc main_arg0)) (m ((c : Thread nD τ).loc main_arg2)) (m ((c : Thread nD τ).loc main_arg4)) := by
  refine (dats m 0 c).arrAt_eq_of_covers 14 _ (by decide +kernel) fun t _ y => ?_
  blk_simp
  rw [after0_14]
  have e0 : (((((cfg0.win 14).blk t).view.emb y) 0 : Fin 8) : ℕ) = y 0 := by blk_simp [tiles t]
  have e1 : (((((cfg0.win 14).blk t).view.emb y) 1 : Fin 16384) : ℕ) = t.val * 512 + y 1 := by blk_simp [tiles t]
  have e2 : (((((cfg0.win 14).blk t).view.emb y) 2 : Fin 128) : ℕ) = y 2 := by blk_simp [tiles t]
  exact k_point m c t y _ e0 e1 e2

end Cert.PrepareIdeal.Rotated

end
-- ==== Proof.PrepareValueArray.lean ====
/- The array of the prompt's values. -/
module

public import proofs.«01_k».proof.Proof.Gen.PrepareIdeal
public import proofs.«01_k».proof.Proof.Gen.PrepareIdeal.Skeleton
public import proofs.«01_k».proof.Proof.Gen.PrepareIdeal.Launch
public import proofs.«01_k».proof.Proof.Gen.PrepareIdeal.Frame
public import proofs.«01_k».proof.Proof.Gen.PrepareReferenceIdeal
public import proofs.«01_k».proof.Proof.Gen.PrepareReferenceIdeal.Run
public import proofs.«01_k».proof.Proof.Gen.PrepareReferenceIdeal.Read
public import proofs.«01_k».proof.Proof.PrepareRows
public import proofs.«01_k».proof.Proof.PrepareHeads
public import proofs.«01_k».proof.Proof.PrepareQueries
public import proofs.«01_k».proof.Proof.PrepareLoads
public import Idealize.ShloMosaic.Lib.Pipeline.ValueKit
public import Idealize.ShloMosaic.Lib.KernelVsHost

@[expose] public section

set_option maxRecDepth 16384

noncomputable section

namespace Cert.PrepareIdeal.Rotated

open Idealize.ShloMosaic Idealize.ShloMosaic.TcCoe Idealize.SL.Sem Cert.PrepareIdeal Cert.PrepareIdeal.Gen
open Idealize.ShloMosaic.Pipeline (Dat)
open Cert.PrepareReferenceIdeal.Read

variable (m : (ℓ : Loc nD τ sig) → Buf (Elt Ideal) ℓ)

/-- The values, at a point. -/
theorem v_point (c : Dev nD) (t : Fin cfg0.N) (y : S8x128x512.Idx) (j : S8x128x16384.Idx) (e0 : (j 0 : ℕ) = y 0) (e1 : (j 1 : ℕ) = y 1) (e2 : (j 2 : ℕ) = t.val * 512 + y 2) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = val_main_v111 (F := Ideal) (m ((c : Thread nD τ).loc main_arg0)) (m ((c : Thread nD τ).loc main_arg2)) (m ((c : Thread nD τ).loc main_arg5)) j := by
  unfold_out out0_15
  canon_tiles x h
  · exact v_head (m ((c : Thread nD τ).loc main_arg0)) (m ((c : Thread nD τ).loc main_arg2)) (m ((c : Thread nD τ).loc main_arg5)) (token t) _ (View.ld (iblk m c 7 t) r0_36) 7 (loaded_latent m c t) (fun k l => by blk_point [iblk, V, tiles t]) x _
      (by have e : (y 0 : ℕ) = 7 + (x 0 : ℕ) := h0; have l : (x 0 : ℕ) < 1 := x0_lt; show (j 0 : ℕ) = 7; omega)
      (e1.trans h1) (by have e : (y 2 : ℕ) = (x 2 : ℕ) := h2; show (j 2 : ℕ) = t.val * 512 + (x 2 : ℕ); omega)
  · exact v_head (m ((c : Thread nD τ).loc main_arg0)) (m ((c : Thread nD τ).loc main_arg2)) (m ((c : Thread nD τ).loc main_arg5)) (token t) _ (View.ld (iblk m c 7 t) r0_32) 6 (loaded_latent m c t) (fun k l => by blk_point [iblk, V, tiles t]) x _
      (by have e : (y 0 : ℕ) = 6 + (x 0 : ℕ) := h0; have l : (x 0 : ℕ) < 1 := x0_lt; show (j 0 : ℕ) = 6; omega)
      (e1.trans h1) (by have e : (y 2 : ℕ) = (x 2 : ℕ) := h2; show (j 2 : ℕ) = t.val * 512 + (x 2 : ℕ); omega)
  · exact v_head (m ((c : Thread nD τ).loc main_arg0)) (m ((c : Thread nD τ).loc main_arg2)) (m ((c : Thread nD τ).loc main_arg5)) (token t) _ (View.ld (iblk m c 7 t) r0_28) 5 (loaded_latent m c t) (fun k l => by blk_point [iblk, V, tiles t]) x _
      (by have e : (y 0 : ℕ) = 5 + (x 0 : ℕ) := h0; have l : (x 0 : ℕ) < 1 := x0_lt; show (j 0 : ℕ) = 5; omega)
      (e1.trans h1) (by have e : (y 2 : ℕ) = (x 2 : ℕ) := h2; show (j 2 : ℕ) = t.val * 512 + (x 2 : ℕ); omega)
  · exact v_head (m ((c : Thread nD τ).loc main_arg0)) (m ((c : Thread nD τ).loc main_arg2)) (m ((c : Thread nD τ).loc main_arg5)) (token t) _ (View.ld (iblk m c 7 t) r0_24) 4 (loaded_latent m c t) (fun k l => by blk_point [iblk, V, tiles t]) x _
      (by have e : (y 0 : ℕ) = 4 + (x 0 : ℕ) := h0; have l : (x 0 : ℕ) < 1 := x0_lt; show (j 0 : ℕ) = 4; omega)
      (e1.trans h1) (by have e : (y 2 : ℕ) = (x 2 : ℕ) := h2; show (j 2 : ℕ) = t.val * 512 + (x 2 : ℕ); omega)
  · exact v_head (m ((c : Thread nD τ).loc main_arg0)) (m ((c : Thread nD τ).loc main_arg2)) (m ((c : Thread nD τ).loc main_arg5)) (token t) _ (View.ld (iblk m c 7 t) r0_20) 3 (loaded_latent m c t) (fun k l => by blk_point [iblk, V, tiles t]) x _
      (by have e : (y 0 : ℕ) = 3 + (x 0 : ℕ) := h0; have l : (x 0 : ℕ) < 1 := x0_lt; show (j 0 : ℕ) = 3; omega)
      (e1.trans h1) (by have e : (y 2 : ℕ) = (x 2 : ℕ) := h2; show (j 2 : ℕ) = t.val * 512 + (x 2 : ℕ); omega)
  · exact v_head (m ((c : Thread nD τ).loc main_arg0)) (m ((c : Thread nD τ).loc main_arg2)) (m ((c : Thread nD τ).loc main_arg5)) (token t) _ (View.ld (iblk m c 7 t) r0_16) 2 (loaded_latent m c t) (fun k l => by blk_point [iblk, V, tiles t]) x _
      (by have e : (y 0 : ℕ) = 2 + (x 0 : ℕ) := h0; have l : (x 0 : ℕ) < 1 := x0_lt; show (j 0 : ℕ) = 2; omega)
      (e1.trans h1) (by have e : (y 2 : ℕ) = (x 2 : ℕ) := h2; show (j 2 : ℕ) = t.val * 512 + (x 2 : ℕ); omega)
  · exact v_head (m ((c : Thread nD τ).loc main_arg0)) (m ((c : Thread nD τ).loc main_arg2)) (m ((c : Thread nD τ).loc main_arg5)) (token t) _ (View.ld (iblk m c 7 t) r0_12) 1 (loaded_latent m c t) (fun k l => by blk_point [iblk, V, tiles t]) x _
      (by have e : (y 0 : ℕ) = 1 + (x 0 : ℕ) := h0; have l : (x 0 : ℕ) < 1 := x0_lt; show (j 0 : ℕ) = 1; omega)
      (e1.trans h1) (by have e : (y 2 : ℕ) = (x 2 : ℕ) := h2; show (j 2 : ℕ) = t.val * 512 + (x 2 : ℕ); omega)
  · exact v_head (m ((c : Thread nD τ).loc main_arg0)) (m ((c : Thread nD τ).loc main_arg2)) (m ((c : Thread nD τ).loc main_arg5)) (token t) _ (View.ld (iblk m c 7 t) r0_8) 0 (loaded_latent m c t) (fun k l => by blk_point [iblk, V, tiles t]) x _
      (by have e : (y 0 : ℕ) = (x 0 : ℕ) := h0; have l : (x 0 : ℕ) < 1 := x0_lt; show (j 0 : ℕ) = 0; omega)
      (e1.trans h1) (by have e : (y 2 : ℕ) = (x 2 : ℕ) := h2; show (j 2 : ℕ) = t.val * 512 + (x 2 : ℕ); omega)

/-- The values. -/
theorem final_v (c : Dev nD) : (dats m 0 c).arrAt 15 (cfgs 0).N = val_main_v111 (F := Ideal) (m ((c : Thread nD τ).loc main_arg0)) (m ((c : Thread nD τ).loc main_arg2)) (m ((c : Thread nD τ).loc main_arg5)) := by
  refine (dats m 0 c).arrAt_eq_of_covers 15 _ (by decide +kernel) fun t _ y => ?_
  blk_simp
  rw [after0_15]
  have e0 : (((((cfg0.win 15).blk t).view.emb y) 0 : Fin 8) : ℕ) = y 0 := by blk_simp [tiles t]
  have e1 : (((((cfg0.win 15).blk t).view.emb y) 1 : Fin 128) : ℕ) = y 1 := by blk_simp [tiles t]
  have e2 : (((((cfg0.win 15).blk t).view.emb y) 2 : Fin 16384) : ℕ) = t.val * 512 + y 2 := by blk_simp [tiles t]
  exact v_point m c t y _ e0 e1 e2

end Cert.PrepareIdeal.Rotated

end
-- ==== Proof.PrepareClaim.lean ====
/- The claims about the prompt's preparation: its runs leave the arguments unchanged, and the idealized kernel and the
   reference end with the same five arrays. -/
module

public import proofs.«01_k».proof.Defs
public import proofs.«01_k».proof.Proof.Gen.Prepare
public import proofs.«01_k».proof.Proof.Gen.Prepare.Skeleton
public import proofs.«01_k».proof.Proof.Gen.Prepare.Launch
public import proofs.«01_k».proof.Proof.Gen.Prepare.Frame
public import proofs.«01_k».proof.Proof.PrepareLoads
public import proofs.«01_k».proof.Proof.PrepareQueryArray
public import proofs.«01_k».proof.Proof.PrepareKeyArray
public import proofs.«01_k».proof.Proof.PrepareValueArray
public import Idealize.ShloMosaic.Lib.Claim

@[expose] public section

noncomputable section

namespace Cert.Proof.Prepare

open Idealize.ShloMosaic Idealize.SL.Sem

theorem kernel_frame : Cert.quiescent_Prepare := fun m ρ _ => Cert.Prepare.Gen.frame m ρ

theorem ideal_frame : Cert.quiescent_PrepareIdeal := fun m ρ _ => Cert.PrepareIdeal.Gen.frame m ρ

theorem reference_frame : Cert.quiescent_PrepareReferenceIdeal := fun m ρ _ =>
  (θ_run _ _ _).mono (fun _ h => ⟨fun c => (h c).2.2.2.2.2, sem_eq_zero_of_no_sems rfl _⟩) (Cert.PrepareReferenceIdeal.Value.run m ρ)

theorem preserves : Cert.preserves_Prepare_PrepareIdeal := trivial

/-- The array of window 16 is the reference's result. -/
theorem array_16 (m : (ℓ : Loc Cert.PrepareIdeal.nD Cert.PrepareIdeal.τ Cert.PrepareIdeal.sig) → Buf (Elt Ideal) ℓ)
    (c : Dev Cert.PrepareIdeal.nD)
    (r : PUnit.{1} × MemSt Cert.PrepareIdeal.nD Cert.PrepareIdeal.τ Cert.PrepareIdeal.sig (Elt Ideal))
    (h : r.2.mem (View.loc c.tc ((Cert.PrepareIdeal.cfgs 0).spec 16).arr.view)
      = (Cert.PrepareIdeal.Gen.dats m 0 c).arrAt 16 (Cert.PrepareIdeal.cfgs 0).N) :
    r.2.mem ((c.tc : Thread Cert.PrepareIdeal.nD Cert.PrepareIdeal.τ).loc Cert.PrepareIdeal.main_v37_3)
      = Cert.PrepareReferenceIdeal.Read.val_main_v26 (F := Ideal) (m ((c.tc : Thread Cert.PrepareIdeal.nD Cert.PrepareIdeal.τ).loc Cert.PrepareIdeal.main_arg0)) (m ((c.tc : Thread Cert.PrepareIdeal.nD Cert.PrepareIdeal.τ).loc Cert.PrepareIdeal.main_arg2)) := by
  rw [← Cert.PrepareIdeal.Rotated.final_lat m c, ← h]

/-- The array of window 17 is the reference's result. -/
theorem array_17 (m : (ℓ : Loc Cert.PrepareIdeal.nD Cert.PrepareIdeal.τ Cert.PrepareIdeal.sig) → Buf (Elt Ideal) ℓ)
    (c : Dev Cert.PrepareIdeal.nD)
    (r : PUnit.{1} × MemSt Cert.PrepareIdeal.nD Cert.PrepareIdeal.τ Cert.PrepareIdeal.sig (Elt Ideal))
    (h : r.2.mem (View.loc c.tc ((Cert.PrepareIdeal.cfgs 0).spec 17).arr.view)
      = (Cert.PrepareIdeal.Gen.dats m 0 c).arrAt 17 (Cert.PrepareIdeal.cfgs 0).N) :
    r.2.mem ((c.tc : Thread Cert.PrepareIdeal.nD Cert.PrepareIdeal.τ).loc Cert.PrepareIdeal.main_v37_4)
      = Cert.PrepareReferenceIdeal.Read.val_main_v50 (F := Ideal) (m ((c.tc : Thread Cert.PrepareIdeal.nD Cert.PrepareIdeal.τ).loc Cert.PrepareIdeal.main_arg0)) := by
  rw [← Cert.PrepareIdeal.Rotated.final_key m c, ← h]

/-- Both end with every head's rotated queries, keys and values, the latent rows and the rotated keys. -/
theorem algebraic : Cert.algebraic_PrepareIdeal_PrepareReferenceIdeal := by
  intro m g m' g' hpre hagree
  refine ⟨fun c => Cert.PrepareReferenceIdeal.Read.val_main_v109 (F := Ideal) (m ((c.tc : Thread Cert.PrepareIdeal.nD Cert.PrepareIdeal.τ).loc Cert.PrepareIdeal.main_arg0)) (m ((c.tc : Thread Cert.PrepareIdeal.nD Cert.PrepareIdeal.τ).loc Cert.PrepareIdeal.main_arg1)) (m ((c.tc : Thread Cert.PrepareIdeal.nD Cert.PrepareIdeal.τ).loc Cert.PrepareIdeal.main_arg3)),
    fun c => Cert.PrepareReferenceIdeal.Read.val_main_v110 (F := Ideal) (m ((c.tc : Thread Cert.PrepareIdeal.nD Cert.PrepareIdeal.τ).loc Cert.PrepareIdeal.main_arg0)) (m ((c.tc : Thread Cert.PrepareIdeal.nD Cert.PrepareIdeal.τ).loc Cert.PrepareIdeal.main_arg2)) (m ((c.tc : Thread Cert.PrepareIdeal.nD Cert.PrepareIdeal.τ).loc Cert.PrepareIdeal.main_arg4)),
    fun c => Cert.PrepareReferenceIdeal.Read.val_main_v111 (F := Ideal) (m ((c.tc : Thread Cert.PrepareIdeal.nD Cert.PrepareIdeal.τ).loc Cert.PrepareIdeal.main_arg0)) (m ((c.tc : Thread Cert.PrepareIdeal.nD Cert.PrepareIdeal.τ).loc Cert.PrepareIdeal.main_arg2)) (m ((c.tc : Thread Cert.PrepareIdeal.nD Cert.PrepareIdeal.τ).loc Cert.PrepareIdeal.main_arg5)),
    fun c => Cert.PrepareReferenceIdeal.Read.val_main_v26 (F := Ideal) (m ((c.tc : Thread Cert.PrepareIdeal.nD Cert.PrepareIdeal.τ).loc Cert.PrepareIdeal.main_arg0)) (m ((c.tc : Thread Cert.PrepareIdeal.nD Cert.PrepareIdeal.τ).loc Cert.PrepareIdeal.main_arg2)),
    fun c => Cert.PrepareReferenceIdeal.Read.val_main_v50 (F := Ideal) (m ((c.tc : Thread Cert.PrepareIdeal.nD Cert.PrepareIdeal.τ).loc Cert.PrepareIdeal.main_arg0)), ?_, ?_⟩
  · refine θ_run_mono (θ_run_and (Cert.PrepareIdeal.Gen.run_main m g) (Cert.PrepareIdeal.Gen.unchanged m g)) ?_
    intro r hr c
    have hc := hr.1 c
    exact ⟨(hc.1 13).trans (Cert.PrepareIdeal.Rotated.final_q m c), (hc.1 14).trans (Cert.PrepareIdeal.Rotated.final_k m c),
      (hc.1 15).trans (Cert.PrepareIdeal.Rotated.final_v m c), array_16 m c r (hc.1 16), array_17 m c r (hc.1 17), hr.2 c⟩
  · refine θ_run_mono (Cert.PrepareReferenceIdeal.Value.run m' g') ?_
    intro r hr c
    obtain ⟨h0, h1, h2, h3, h4, h5⟩ := hr c
    obtain ⟨a0, a1, a2, a3, a4, a5⟩ := hagree c
    refine ⟨h0.trans ?_, h1.trans ?_, h2.trans ?_, h3.trans ?_, h4.trans ?_, h5⟩
    · rw [Cert.PrepareReferenceIdeal.Read.val_main_v109_eq, a0, a1, a3]
    · rw [Cert.PrepareReferenceIdeal.Read.val_main_v110_eq, a0, a2, a4]
    · rw [Cert.PrepareReferenceIdeal.Read.val_main_v111_eq, a0, a2, a5]
    · rw [Cert.PrepareReferenceIdeal.Read.val_main_v26_eq, a0, a2]
    · rw [Cert.PrepareReferenceIdeal.Read.val_main_v50_eq, a0]

end Cert.Proof.Prepare

end
-- ==== Proof.PrepareSValue.lean ====
/- What the sample's preparation writes: the latent rows, the rotated key parts, and every head's rotated queries. -/
module

public import proofs.«01_k».proof.Proof.Gen.PrepareSIdeal
public import proofs.«01_k».proof.Proof.Gen.PrepareSIdeal.Skeleton
public import proofs.«01_k».proof.Proof.Gen.PrepareSIdeal.Launch
public import proofs.«01_k».proof.Proof.Gen.PrepareSIdeal.Frame
public import proofs.«01_k».proof.Proof.Gen.PrepareSReferenceIdeal
public import proofs.«01_k».proof.Proof.Gen.PrepareSReferenceIdeal.Run
public import proofs.«01_k».proof.Proof.Gen.PrepareSReferenceIdeal.Read
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.PrepareSIdeal.Rotated

open Idealize.ShloMosaic Idealize.ShloMosaic.TcCoe Idealize.SL.Sem Cert.PrepareSIdeal Cert.PrepareSIdeal.Gen
open Idealize.ShloMosaic.Pipeline (Dat)
open Cert.PrepareSReferenceIdeal.Read

variable (m : (ℓ : Loc nD τ sig) → Buf (Elt Ideal) ℓ)

/-- The block every window reads or writes. -/
theorem tiles : ∀ t : Fin cfg0.N, win0_0.index t = ![0, 20] ∧ win0_1.index t = ![0, 50] ∧ win0_2.index t = ![0, 51]
    ∧ win0_3.index t = ![0, 0] ∧ win0_4.index t = ![0, 0] ∧ win0_5.index t = ![0, 0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0, 0] ∧ win0_14.index t = ![0, 0, 0]
    ∧ win0_15.index t = ![0, 0] ∧ win0_16.index t = ![0, 0] :=
  (by decide +kernel : ∀ t : Fin grid0.N, _)

/-- The cosine of the rotation, of every lane of a half. -/
def cosine (l : Fin 16) : EReal := val_main_v39 (F := Ideal) (ix2 0 l)

/-- The sine of the rotation. -/
def sine (l : Fin 16) : EReal := val_main_v40 (F := Ideal) (ix2 0 l)

/-- The latent rows are the reference's. -/
theorem latent_point (c : Dev nD) (t : Fin cfg0.N) (y : S128x128.Idx) :
    k0_pay4 (F := Ideal) (iblk m c 1 t) (iblk m c 4 t) y
      = val_main_v26 (F := Ideal) (m ((c : Thread nD τ).loc main_arg0)) (m ((c : Thread nD τ).loc main_arg2)) y := by
  pointwise [k0_pay4, val_main_v14, val_main_v15, val_main_v16, val_main_v17, val_main_v18, val_main_v19, val_main_v20, val_main_v21, val_main_v22, val_main_v23, val_main_v24, val_main_v25, val_main_v26, val_main_cst_2, val_main_cst_3, val_main_cst_4]
  blk_point [iblk, V, tiles t]

/-- The queries' table of cosines, lane by lane. -/
theorem cq (c : Dev nD) (l : Fin 128) : (V (F := Ideal) m c main_v16 : FVec Ideal S1x128 .f32) (ix2 0 l)
    = if h : l.val < 64 then (1 : EReal) else if h : l.val - 64 < 16 then (cosine ⟨l.val - 64, h⟩ : EReal) else if h : l.val - 64 - 16 < 16 then (cosine ⟨l.val - 64 - 16, h⟩ : EReal) else (0 : EReal) := by
  unfold V
  after_reads_simp
  unfold cosine
  pointwise []
  after_reads_simp
  pointwise [val_main_v28, val_main_v29, val_main_v30, val_main_v31, val_main_v32, val_main_v33, val_main_v34, val_main_v35, val_main_v36, val_main_v37, val_main_v38, val_main_v39, val_main_v40, val_main_v0, val_main_c, val_main_cst_5, val_main_cst_6]

/-- The queries' table of negated sines. -/
theorem sqa (c : Dev nD) (l : Fin 128) : (V (F := Ideal) m c main_v21 : FVec Ideal S1x128 .f32) (ix2 0 l)
    = if h : l.val < 64 then (0 : EReal) else if h : l.val - 64 < 16 then (-sine ⟨l.val - 64, h⟩ : EReal) else if h : l.val - 64 - 16 < 16 then (0 : EReal) else (0 : EReal) := by
  unfold V
  after_reads_simp
  unfold sine
  pointwise []
  after_reads_simp
  pointwise [val_main_v28, val_main_v29, val_main_v30, val_main_v31, val_main_v32, val_main_v33, val_main_v34, val_main_v35, val_main_v36, val_main_v37, val_main_v38, val_main_v39, val_main_v40, val_main_v0, val_main_c, val_main_cst_5, val_main_cst_6]

/-- The queries' table of sines. -/
theorem sqb (c : Dev nD) (l : Fin 128) : (V (F := Ideal) m c main_v25 : FVec Ideal S1x128 .f32) (ix2 0 l)
    = if h : l.val < 64 then (0 : EReal) else if h : l.val - 64 < 16 then (0 : EReal) else if h : l.val - 64 - 16 < 16 then (sine ⟨l.val - 64 - 16, h⟩ : EReal) else (0 : EReal) := by
  unfold V
  after_reads_simp
  unfold sine
  pointwise []
  after_reads_simp
  pointwise [val_main_v28, val_main_v29, val_main_v30, val_main_v31, val_main_v32, val_main_v33, val_main_v34, val_main_v35, val_main_v36, val_main_v37, val_main_v38, val_main_v39, val_main_v40, val_main_v0, val_main_c, val_main_cst_5, val_main_cst_6]

/-- The keys' table of cosines. -/
theorem ck (c : Dev nD) (l : Fin 128) : (V (F := Ideal) m c main_v27 : FVec Ideal S1x128 .f32) (ix2 0 l)
    = if h : l.val < 16 then (cosine ⟨l.val, h⟩ : EReal) else if h : l.val - 16 < 16 then (cosine ⟨l.val - 16, h⟩ : EReal) else (0 : EReal) := by
  unfold V
  after_reads_simp
  unfold cosine
  pointwise []
  after_reads_simp
  pointwise [val_main_v28, val_main_v29, val_main_v30, val_main_v31, val_main_v32, val_main_v33, val_main_v34, val_main_v35, val_main_v36, val_main_v37, val_main_v38, val_main_v39, val_main_v40, val_main_v0, val_main_c, val_main_cst_5, val_main_cst_6]

/-- The keys' table of negated sines. -/
theorem ska (c : Dev nD) (l : Fin 128) : (V (F := Ideal) m c main_v30 : FVec Ideal S1x128 .f32) (ix2 0 l)
    = if h : l.val < 16 then (-sine ⟨l.val, h⟩ : EReal) else (0 : EReal) := by
  unfold V
  after_reads_simp
  unfold sine
  pointwise [val_main_v28, val_main_v29, val_main_v30, val_main_v31, val_main_v32, val_main_v33, val_main_v34, val_main_v35, val_main_v36, val_main_v37, val_main_v38, val_main_v39, val_main_v40, val_main_v0, val_main_c, val_main_cst_5, val_main_cst_6]

/-- The keys' table of sines. -/
theorem skb (c : Dev nD) (l : Fin 128) : (V (F := Ideal) m c main_v33 : FVec Ideal S1x128 .f32) (ix2 0 l)
    = if h : l.val < 16 then (0 : EReal) else if h : l.val - 16 < 16 then (sine ⟨l.val - 16, h⟩ : EReal) else (0 : EReal) := by
  unfold V
  after_reads_simp
  unfold sine
  pointwise []
  after_reads_simp
  pointwise [val_main_v28, val_main_v29, val_main_v30, val_main_v31, val_main_v32, val_main_v33, val_main_v34, val_main_v35, val_main_v36, val_main_v37, val_main_v38, val_main_v39, val_main_v40, val_main_v0, val_main_c, val_main_cst_5, val_main_cst_6]

/-- The rotated key parts are the reference's. -/
theorem key_point (c : Dev nD) (t : Fin cfg0.N) (y : S128x32.Idx) :
    k0_pay7 (F := Ideal) (iblk m c 2 t) (k0_pay5 (iblk m c 10 t)) (k0_pay6 (iblk m c 11 t)) (iblk m c 12 t) y
      = val_main_v53 (F := Ideal) (m ((c : Thread nD τ).loc main_arg0)) y := by
  have e : ∀ l : Fin 128, iblk m c 2 t (ix2 (y 0) l) = m ((c : Thread nD τ).loc main_arg0) (ix2 (y 0) ⟨6528 + l.val, by have := l.isLt; show 6528 + l.val < 6656; omega⟩) := fun l => by
    blk_point [iblk, V, tiles t]
  have e10 : ∀ l, iblk m c 10 t (ix2 0 l) = (V (F := Ideal) m c main_v27 : FVec Ideal S1x128 .f32) (ix2 0 l) := fun l => by
    blk_point [iblk, tiles t]
  have e11 : ∀ l, iblk m c 11 t (ix2 0 l) = (V (F := Ideal) m c main_v30 : FVec Ideal S1x128 .f32) (ix2 0 l) := fun l => by
    blk_point [iblk, tiles t]
  have e12 : ∀ l, iblk m c 12 t (ix2 0 l) = (V (F := Ideal) m c main_v33 : FVec Ideal S1x128 .f32) (ix2 0 l) := fun l => by
    blk_point [iblk, tiles t]
  have hy : (y 1 : ℕ) < 32 := (y 1).isLt
  pointwise [k0_pay5, k0_pay6, k0_pay7, val_main_v27, val_main_v28, val_main_v41, val_main_v42, val_main_v43, val_main_v44, val_main_v45, val_main_v46, val_main_v47, val_main_v48, val_main_v49, val_main_v50, val_main_v51, val_main_v52, val_main_v53]
  rw [e, e, e, e10, e11, e12, ck, ska, skb]
  by_cases h : (y 1 : ℕ) < 16
  · simp only [h, dite_true, mul_zero, add_zero, mul_neg, ← sub_eq_add_neg]
    unfold cosine sine
    blk_point []
  · have k : (y 1 : ℕ) - 16 < 16 := by omega
    simp only [h, k, dite_true, dite_false, mul_zero, add_zero, zero_add]
    rw [add_comm]
    unfold cosine sine
    blk_point []

set_option maxHeartbeats 1000000 in
/-- The rotated queries of a head are the reference's. -/
theorem core (c : Dev nD) (Q : FVec Ideal S128x256 .bf16) (a b d : FVec Ideal S1x128 .f32) (W : FVec Ideal S1x256x128 .bf16) (h : Fin 8)
    (hQ : ∀ r k, Q (ix2 r k) = val_main_v13 (F := Ideal) (m ((c : Thread nD τ).loc main_arg0)) (m ((c : Thread nD τ).loc main_arg1)) (ix2 r k))
    (hW : ∀ k l, W (ix3 0 k l) = m ((c : Thread nD τ).loc main_arg3) (ix3 h k l))
    (ha : ∀ l, a (ix2 0 l) = (V (F := Ideal) m c main_v16 : FVec Ideal S1x128 .f32) (ix2 0 l))
    (hb : ∀ l, b (ix2 0 l) = (V (F := Ideal) m c main_v21 : FVec Ideal S1x128 .f32) (ix2 0 l))
    (hd : ∀ l, d (ix2 0 l) = (V (F := Ideal) m c main_v25 : FVec Ideal S1x128 .f32) (ix2 0 l)) (r l : Fin 128) :
    k0_pay11 (F := Ideal) Q a b d W (ix2 r l)
      = val_main_v90 (F := Ideal) (m ((c : Thread nD τ).loc main_arg0)) (m ((c : Thread nD τ).loc main_arg1)) (m ((c : Thread nD τ).loc main_arg3)) (ix3 h r l) := by
  have hP : ∀ n : Fin 128, ∑ k, Q (ix2 r k) * W (ix3 0 k n) = val_main_v55 (F := Ideal) (m ((c : Thread nD τ).loc main_arg0)) (m ((c : Thread nD τ).loc main_arg1)) (m ((c : Thread nD τ).loc main_arg3)) (ix3 h n r) := fun n => by
    rw [val_main_v55_apply]
    refine Finset.sum_congr rfl fun k _ => ?_
    rw [hQ, hW, mul_comm]
    refine congrArg₂ (· * ·) ?_ ?_
    · pointwise [val_main_v54]
      blk_ext []
    · blk_ext []
  pointwise [k0_pay11, k0_pay8, k0_pay9, k0_pay10, val_main_v56, val_main_v57, val_main_v58, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_call0_v0, val_main_c_9]
  refine (congrArg₂ (· + ·) (congrArg₂ (· + ·) (congrArg₂ (· * ·) (hP l) ((ha l).trans (cq m c l)))
    (congrArg₂ (· * ·) (hP ⟨((l : ℕ) + 128 - 112) % 128, Nat.mod_lt _ (by norm_num)⟩) ((hb l).trans (sqa m c l))))
    (congrArg₂ (· * ·) (hP ⟨((l : ℕ) + 128 - 16) % 128, Nat.mod_lt _ (by norm_num)⟩) ((hd l).trans (sqb m c l)))).trans ?_
  beta_reduce
  have e70 : ∀ n, val_main_v70 (F := Ideal) (ix2 0 n) = cosine n := fun n => rfl
  have e71 : ∀ n, val_main_v71 (F := Ideal) (ix2 0 n) = sine n := fun n => rfl
  simp only [e70, e71]
  by_cases h0 : (l : ℕ) < 64
  · have h1 : (l : ℕ) < 96 := by omega
    simp only [h0, h1, dite_true, mul_zero, add_zero, mul_one]
  · by_cases h1 : (l : ℕ) - 64 < 16
    · have h2 : (l : ℕ) < 96 := by omega
      simp only [h0, h1, h2, dite_true, dite_false, mul_zero, add_zero, mul_neg, ← sub_eq_add_neg]
      blk_point []
    · by_cases h2 : (l : ℕ) < 96
      · have h3 : (l : ℕ) - 64 - 16 < 16 := by omega
        simp only [h0, h1, h2, h3, dite_true, dite_false, mul_zero, add_zero]
        refine (add_comm (G := EReal) _ _).trans ?_
        refine congrArg₂ (· + ·) (congrArg₂ (· * ·) ?_ rfl) (congrArg₂ (· * ·) ?_ rfl)
        · blk_ext []
        · blk_ext []
      · have h3 : ¬ (l : ℕ) - 64 - 16 < 16 := by omega
        simp only [h0, h1, h2, h3, dite_true, dite_false, mul_zero, add_zero]
        exact sitofp_zero.symm

/-- The normalised queries are the reference's. -/
theorem normed (c : Dev nD) (t : Fin cfg0.N) (r : Fin 128) (k : Fin 256) :
    k0_pay3 (F := Ideal) (iblk m c 0 t) (iblk m c 3 t) (ix2 r k)
      = val_main_v13 (F := Ideal) (m ((c : Thread nD τ).loc main_arg0)) (m ((c : Thread nD τ).loc main_arg1)) (ix2 r k) := by
  pointwise [k0_pay3, val_main_v1, val_main_v2, val_main_v3, val_main_v4, val_main_v5, val_main_v6, val_main_v7, val_main_v8, val_main_v9, val_main_v10, val_main_v11, val_main_v12, val_main_v13, val_main_cst, val_main_cst_0, val_main_cst_1]
  blk_point [iblk, V, tiles t]

/-- The queries a head's store holds, against its latent keys. -/
theorem ql_head (c : Dev nD) (Q : FVec Ideal S128x256 .bf16) (a b d : FVec Ideal S1x128 .f32) (W : FVec Ideal S1x256x128 .bf16)
    (U : FVec Ideal S1x128x128 .bf16) (h : Fin 8)
    (hQ : ∀ r k, Q (ix2 r k) = val_main_v13 (F := Ideal) (m ((c : Thread nD τ).loc main_arg0)) (m ((c : Thread nD τ).loc main_arg1)) (ix2 r k))
    (hW : ∀ k l, W (ix3 0 k l) = m ((c : Thread nD τ).loc main_arg3) (ix3 h k l))
    (hU : ∀ k l, U (ix3 0 k l) = m ((c : Thread nD τ).loc main_arg4) (ix3 h k l))
    (ha : ∀ l, a (ix2 0 l) = (V (F := Ideal) m c main_v16 : FVec Ideal S1x128 .f32) (ix2 0 l))
    (hb : ∀ l, b (ix2 0 l) = (V (F := Ideal) m c main_v21 : FVec Ideal S1x128 .f32) (ix2 0 l))
    (hd : ∀ l, d (ix2 0 l) = (V (F := Ideal) m c main_v25 : FVec Ideal S1x128 .f32) (ix2 0 l))
    (x : S1x128x128.Idx) (y : S8x128x128.Idx) (h0 : (y 0 : ℕ) = h) (h1 : (y 1 : ℕ) = x 1) (h2 : (y 2 : ℕ) = x 2) :
    k0_pay13 (F := Ideal) (k0_pay12 Q a b d W U) x = val_main_v92 (F := Ideal) (m ((c : Thread nD τ).loc main_arg0)) (m ((c : Thread nD τ).loc main_arg1)) (m ((c : Thread nD τ).loc main_arg3)) (m ((c : Thread nD τ).loc main_arg4)) y := by
  have e : k0_pay13 (F := Ideal) (k0_pay12 Q a b d W U) x = ∑ k, k0_pay11 (F := Ideal) Q a b d W (ix2 (x 1) k) * U (ix3 0 k (x 2)) := by
    pointwise [k0_pay13, k0_pay12]
  rw [e, val_main_v92_apply]
  refine Finset.sum_congr rfl fun k _ => ?_
  refine (congrArg₂ (· * ·) (core m c Q a b d W h hQ hW ha hb hd (x 1) k) (hU k (x 2))).trans ?_
  refine congrArg₂ (· * ·) ?_ ?_
  · refine congrArg (val_main_v90 (F := Ideal) (m ((c : Thread nD τ).loc main_arg0)) (m ((c : Thread nD τ).loc main_arg1)) (m ((c : Thread nD τ).loc main_arg3))) (funext fun i => ?_)
    fin_cases i
    · exact Fin.ext h0.symm
    · exact Fin.ext h1.symm
    · rfl
  · refine congrArg (m ((c : Thread nD τ).loc main_arg4)) (funext fun i => ?_)
    fin_cases i
    · exact Fin.ext h0.symm
    · rfl
    · exact Fin.ext h2.symm

/-- The rotated lanes of a head's queries, moved to the front. -/
theorem qp_head (c : Dev nD) (Q : FVec Ideal S128x256 .bf16) (a b d : FVec Ideal S1x128 .f32) (W : FVec Ideal S1x256x128 .bf16) (h : Fin 8)
    (hQ : ∀ r k, Q (ix2 r k) = val_main_v13 (F := Ideal) (m ((c : Thread nD τ).loc main_arg0)) (m ((c : Thread nD τ).loc main_arg1)) (ix2 r k))
    (hW : ∀ k l, W (ix3 0 k l) = m ((c : Thread nD τ).loc main_arg3) (ix3 h k l))
    (ha : ∀ l, a (ix2 0 l) = (V (F := Ideal) m c main_v16 : FVec Ideal S1x128 .f32) (ix2 0 l))
    (hb : ∀ l, b (ix2 0 l) = (V (F := Ideal) m c main_v21 : FVec Ideal S1x128 .f32) (ix2 0 l))
    (hd : ∀ l, d (ix2 0 l) = (V (F := Ideal) m c main_v25 : FVec Ideal S1x128 .f32) (ix2 0 l))
    (x : S1x128x128.Idx) (y : S8x128x128.Idx) (h0 : (y 0 : ℕ) = h) (h1 : (y 1 : ℕ) = x 1) (h2 : (y 2 : ℕ) = x 2) :
    k0_pay14 (F := Ideal) (k0_pay11 Q a b d W) x = val_main_v93 (F := Ideal) (m ((c : Thread nD τ).loc main_arg0)) (m ((c : Thread nD τ).loc main_arg1)) (m ((c : Thread nD τ).loc main_arg3)) y := by
  have hx : (x 2 : ℕ) < 128 := (x 2).isLt
  have e : k0_pay14 (F := Ideal) (k0_pay11 Q a b d W) x = k0_pay11 (F := Ideal) Q a b d W (ix2 (x 1) ⟨((x 2 : ℕ) + 128 - 64) % 128, Nat.mod_lt _ (by norm_num)⟩) := by
    pointwise [k0_pay14]
  refine e.trans ((core m c Q a b d W h hQ hW ha hb hd (x 1) ⟨((x 2 : ℕ) + 128 - 64) % 128, Nat.mod_lt _ (by norm_num)⟩).trans ?_)
  pointwise [val_main_v93, val_main_call1_v0, val_main_call1_v1]
  by_cases hy : (y 2 : ℕ) < 64
  · rw [dif_pos hy]
    refine congrArg (val_main_v90 (F := Ideal) (m ((c : Thread nD τ).loc main_arg0)) (m ((c : Thread nD τ).loc main_arg1)) (m ((c : Thread nD τ).loc main_arg3))) (funext fun i => ?_)
    fin_cases i
    · exact Fin.ext h0.symm
    · exact Fin.ext h1.symm
    · exact Fin.ext (show ((x 2 : ℕ) + 128 - 64) % 128 = 64 + (y 2 : ℕ) by omega)
  · rw [dif_neg hy]
    refine congrArg (val_main_v90 (F := Ideal) (m ((c : Thread nD τ).loc main_arg0)) (m ((c : Thread nD τ).loc main_arg1)) (m ((c : Thread nD τ).loc main_arg3))) (funext fun i => ?_)
    fin_cases i
    · exact Fin.ext h0.symm
    · exact Fin.ext h1.symm
    · exact Fin.ext (show ((x 2 : ℕ) + 128 - 64) % 128 = (y 2 : ℕ) - 64 by omega)

end Cert.PrepareSIdeal.Rotated

end
-- ==== Proof.PrepareSArrays.lean ====
/- The arrays the sample's preparation ends with: every one is the reference's result. -/
module

public import proofs.«01_k».proof.Proof.Gen.PrepareSIdeal
public import proofs.«01_k».proof.Proof.Gen.PrepareSIdeal.Skeleton
public import proofs.«01_k».proof.Proof.Gen.PrepareSIdeal.Launch
public import proofs.«01_k».proof.Proof.Gen.PrepareSIdeal.Frame
public import proofs.«01_k».proof.Proof.Gen.PrepareSReferenceIdeal
public import proofs.«01_k».proof.Proof.Gen.PrepareSReferenceIdeal.Run
public import proofs.«01_k».proof.Proof.Gen.PrepareSReferenceIdeal.Read
public import proofs.«01_k».proof.Proof.PrepareSValue
public import Idealize.ShloMosaic.Lib.Pipeline.ValueKit

@[expose] public section

set_option maxRecDepth 16384

noncomputable section

namespace Cert.PrepareSIdeal.Rotated

open Idealize.ShloMosaic Idealize.ShloMosaic.TcCoe Idealize.SL.Sem Cert.PrepareSIdeal Cert.PrepareSIdeal.Gen
open Idealize.ShloMosaic.Pipeline (Dat)
open Cert.PrepareSReferenceIdeal.Read

variable (m : (ℓ : Loc nD τ sig) → Buf (Elt Ideal) ℓ)

/-- A row loaded whole is the row. -/
theorem row_whole (X : S1x128.Idx → Elt Ideal .f32) (l : Fin 128) : View.ld X r0_3 (ix2 0 l) = X (ix2 0 l) :=
  congrFun (Idealize.ShloMosaic.View.ld_unit_zero (funext fun a => by fin_cases a <;> rfl) _ _) _

/-- The normalised queries, of the blocks as the kernel loads them. -/
theorem loaded_rows (c : Dev nD) (r : Fin 128) (k : Fin 256) :
    k0_pay3 (F := Ideal) (View.ld (iblk m c 0 t0_0) r0_0) (View.ld (iblk m c 3 t0_0) r0_1) (ix2 r k)
      = val_main_v13 (F := Ideal) (m ((c : Thread nD τ).loc main_arg0)) (m ((c : Thread nD τ).loc main_arg1)) (ix2 r k) := by
  have e0 : View.ld (iblk m c 0 t0_0) r0_0 = iblk m c 0 t0_0 :=
    Idealize.ShloMosaic.View.ld_unit_zero (funext fun a => by fin_cases a <;> rfl) _ _
  have e3 : View.ld (iblk m c 3 t0_0) r0_1 = iblk m c 3 t0_0 :=
    Idealize.ShloMosaic.View.ld_unit_zero (funext fun a => by fin_cases a <;> rfl) _ _
  rw [e0, e3]
  exact normed m c t0_0 r k

/-- The row of cosines as the kernel loads it. -/
theorem loaded_cq (c : Dev nD) (l : Fin 128) :
    View.ld (iblk m c 7 t0_0) r0_3 (ix2 0 l) = (V (F := Ideal) m c main_v16 : FVec Ideal S1x128 .f32) (ix2 0 l) :=
  (row_whole _ l).trans (by blk_point [iblk, tiles t0_0])

/-- The row of negated sines as the kernel loads it. -/
theorem loaded_sqa (c : Dev nD) (l : Fin 128) :
    View.ld (iblk m c 8 t0_0) r0_3 (ix2 0 l) = (V (F := Ideal) m c main_v21 : FVec Ideal S1x128 .f32) (ix2 0 l) :=
  (row_whole _ l).trans (by blk_point [iblk, tiles t0_0])

/-- The row of sines as the kernel loads it. -/
theorem loaded_sqb (c : Dev nD) (l : Fin 128) :
    View.ld (iblk m c 9 t0_0) r0_3 (ix2 0 l) = (V (F := Ideal) m c main_v25 : FVec Ideal S1x128 .f32) (ix2 0 l) :=
  (row_whole _ l).trans (by blk_point [iblk, tiles t0_0])

/-- The array of latent rows. -/
theorem final_lat (c : Dev nD) : (dats m 0 c).arrAt 15 (cfgs 0).N = val_main_v26 (F := Ideal) (m ((c : Thread nD τ).loc main_arg0)) (m ((c : Thread nD τ).loc main_arg2)) := by
  refine (dats m 0 c).arrAt_eq_of_after_last 15 t0_0 (by decide +kernel) _ fun j => ?_
  rw [after0_15]
  frame_out
  exact latent_point m c t0_0 _

/-- The array of rotated key parts. -/
theorem final_key (c : Dev nD) : (dats m 0 c).arrAt 16 (cfgs 0).N = val_main_v53 (F := Ideal) (m ((c : Thread nD τ).loc main_arg0)) := by
  refine (dats m 0 c).arrAt_eq_of_after_last 16 t0_0 (by decide +kernel) _ fun j => ?_
  rw [after0_16]
  frame_out
  exact key_point m c t0_0 _

/-- What the point leaves of the queries against the latent keys. -/
theorem ql_point (c : Dev nD) (y : S8x128x128.Idx) :
    out0_13 (F := Ideal) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) y = val_main_v92 (F := Ideal) (m ((c : Thread nD τ).loc main_arg0)) (m ((c : Thread nD τ).loc main_arg1)) (m ((c : Thread nD τ).loc main_arg3)) (m ((c : Thread nD τ).loc main_arg4)) y := by
  unfold_out out0_13
  canon_tiles x h
  · exact ql_head m c _ (View.ld (iblk m c 7 t0_0) r0_3) (View.ld (iblk m c 8 t0_0) r0_3) (View.ld (iblk m c 9 t0_0) r0_3)
      (View.ld (iblk m c 5 t0_0) r0_19) (View.ld (iblk m c 6 t0_0) r0_20) 7 (loaded_rows m c) (fun k l => by blk_point [iblk, V, tiles t0_0]) (fun k l => by blk_point [iblk, V, tiles t0_0])
      (loaded_cq m c) (loaded_sqa m c) (loaded_sqb m c) x _
      (by have e : (y 0 : ℕ) = 7 + (x 0 : ℕ) := h0; have l : (x 0 : ℕ) < 1 := x0_lt; show (y 0 : ℕ) = 7; omega)
      h1 h2
  · exact ql_head m c _ (View.ld (iblk m c 7 t0_0) r0_3) (View.ld (iblk m c 8 t0_0) r0_3) (View.ld (iblk m c 9 t0_0) r0_3)
      (View.ld (iblk m c 5 t0_0) r0_17) (View.ld (iblk m c 6 t0_0) r0_18) 6 (loaded_rows m c) (fun k l => by blk_point [iblk, V, tiles t0_0]) (fun k l => by blk_point [iblk, V, tiles t0_0])
      (loaded_cq m c) (loaded_sqa m c) (loaded_sqb m c) x _
      (by have e : (y 0 : ℕ) = 6 + (x 0 : ℕ) := h0; have l : (x 0 : ℕ) < 1 := x0_lt; show (y 0 : ℕ) = 6; omega)
      h1 h2
  · exact ql_head m c _ (View.ld (iblk m c 7 t0_0) r0_3) (View.ld (iblk m c 8 t0_0) r0_3) (View.ld (iblk m c 9 t0_0) r0_3)
      (View.ld (iblk m c 5 t0_0) r0_15) (View.ld (iblk m c 6 t0_0) r0_16) 5 (loaded_rows m c) (fun k l => by blk_point [iblk, V, tiles t0_0]) (fun k l => by blk_point [iblk, V, tiles t0_0])
      (loaded_cq m c) (loaded_sqa m c) (loaded_sqb m c) x _
      (by have e : (y 0 : ℕ) = 5 + (x 0 : ℕ) := h0; have l : (x 0 : ℕ) < 1 := x0_lt; show (y 0 : ℕ) = 5; omega)
      h1 h2
  · exact ql_head m c _ (View.ld (iblk m c 7 t0_0) r0_3) (View.ld (iblk m c 8 t0_0) r0_3) (View.ld (iblk m c 9 t0_0) r0_3)
      (View.ld (iblk m c 5 t0_0) r0_13) (View.ld (iblk m c 6 t0_0) r0_14) 4 (loaded_rows m c) (fun k l => by blk_point [iblk, V, tiles t0_0]) (fun k l => by blk_point [iblk, V, tiles t0_0])
      (loaded_cq m c) (loaded_sqa m c) (loaded_sqb m c) x _
      (by have e : (y 0 : ℕ) = 4 + (x 0 : ℕ) := h0; have l : (x 0 : ℕ) < 1 := x0_lt; show (y 0 : ℕ) = 4; omega)
      h1 h2
  · exact ql_head m c _ (View.ld (iblk m c 7 t0_0) r0_3) (View.ld (iblk m c 8 t0_0) r0_3) (View.ld (iblk m c 9 t0_0) r0_3)
      (View.ld (iblk m c 5 t0_0) r0_11) (View.ld (iblk m c 6 t0_0) r0_12) 3 (loaded_rows m c) (fun k l => by blk_point [iblk, V, tiles t0_0]) (fun k l => by blk_point [iblk, V, tiles t0_0])
      (loaded_cq m c) (loaded_sqa m c) (loaded_sqb m c) x _
      (by have e : (y 0 : ℕ) = 3 + (x 0 : ℕ) := h0; have l : (x 0 : ℕ) < 1 := x0_lt; show (y 0 : ℕ) = 3; omega)
      h1 h2
  · exact ql_head m c _ (View.ld (iblk m c 7 t0_0) r0_3) (View.ld (iblk m c 8 t0_0) r0_3) (View.ld (iblk m c 9 t0_0) r0_3)
      (View.ld (iblk m c 5 t0_0) r0_9) (View.ld (iblk m c 6 t0_0) r0_10) 2 (loaded_rows m c) (fun k l => by blk_point [iblk, V, tiles t0_0]) (fun k l => by blk_point [iblk, V, tiles t0_0])
      (loaded_cq m c) (loaded_sqa m c) (loaded_sqb m c) x _
      (by have e : (y 0 : ℕ) = 2 + (x 0 : ℕ) := h0; have l : (x 0 : ℕ) < 1 := x0_lt; show (y 0 : ℕ) = 2; omega)
      h1 h2
  · exact ql_head m c _ (View.ld (iblk m c 7 t0_0) r0_3) (View.ld (iblk m c 8 t0_0) r0_3) (View.ld (iblk m c 9 t0_0) r0_3)
      (View.ld (iblk m c 5 t0_0) r0_7) (View.ld (iblk m c 6 t0_0) r0_8) 1 (loaded_rows m c) (fun k l => by blk_point [iblk, V, tiles t0_0]) (fun k l => by blk_point [iblk, V, tiles t0_0])
      (loaded_cq m c) (loaded_sqa m c) (loaded_sqb m c) x _
      (by have e : (y 0 : ℕ) = 1 + (x 0 : ℕ) := h0; have l : (x 0 : ℕ) < 1 := x0_lt; show (y 0 : ℕ) = 1; omega)
      h1 h2
  · exact ql_head m c _ (View.ld (iblk m c 7 t0_0) r0_3) (View.ld (iblk m c 8 t0_0) r0_3) (View.ld (iblk m c 9 t0_0) r0_3)
      (View.ld (iblk m c 5 t0_0) r0_5) (View.ld (iblk m c 6 t0_0) r0_6) 0 (loaded_rows m c) (fun k l => by blk_point [iblk, V, tiles t0_0]) (fun k l => by blk_point [iblk, V, tiles t0_0])
      (loaded_cq m c) (loaded_sqa m c) (loaded_sqb m c) x _
      (by have e : (y 0 : ℕ) = (x 0 : ℕ) := h0; have l : (x 0 : ℕ) < 1 := x0_lt; show (y 0 : ℕ) = 0; omega)
      h1 h2

/-- The array of queries against the latent keys. -/
theorem final_ql (c : Dev nD) : (dats m 0 c).arrAt 13 (cfgs 0).N = val_main_v92 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_after_last 13 t0_0 (by decide +kernel) _ fun j => ?_
  blk_simp
  rw [after0_13]
  exact ql_point m c _

/-- What the point leaves of the rotated queries. -/
theorem qp_point (c : Dev nD) (y : S8x128x128.Idx) :
    out0_14 (F := Ideal) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) y = val_main_v93 (F := Ideal) (m ((c : Thread nD τ).loc main_arg0)) (m ((c : Thread nD τ).loc main_arg1)) (m ((c : Thread nD τ).loc main_arg3)) y := by
  unfold_out out0_14
  canon_tiles x h
  · exact qp_head m c _ (View.ld (iblk m c 7 t0_0) r0_3) (View.ld (iblk m c 8 t0_0) r0_3) (View.ld (iblk m c 9 t0_0) r0_3)
      (View.ld (iblk m c 5 t0_0) r0_19) 7 (loaded_rows m c) (fun k l => by blk_point [iblk, V, tiles t0_0])
      (loaded_cq m c) (loaded_sqa m c) (loaded_sqb m c) x _
      (by have e : (y 0 : ℕ) = 7 + (x 0 : ℕ) := h0; have l : (x 0 : ℕ) < 1 := x0_lt; show (y 0 : ℕ) = 7; omega)
      h1 h2
  · exact qp_head m c _ (View.ld (iblk m c 7 t0_0) r0_3) (View.ld (iblk m c 8 t0_0) r0_3) (View.ld (iblk m c 9 t0_0) r0_3)
      (View.ld (iblk m c 5 t0_0) r0_17) 6 (loaded_rows m c) (fun k l => by blk_point [iblk, V, tiles t0_0])
      (loaded_cq m c) (loaded_sqa m c) (loaded_sqb m c) x _
      (by have e : (y 0 : ℕ) = 6 + (x 0 : ℕ) := h0; have l : (x 0 : ℕ) < 1 := x0_lt; show (y 0 : ℕ) = 6; omega)
      h1 h2
  · exact qp_head m c _ (View.ld (iblk m c 7 t0_0) r0_3) (View.ld (iblk m c 8 t0_0) r0_3) (View.ld (iblk m c 9 t0_0) r0_3)
      (View.ld (iblk m c 5 t0_0) r0_15) 5 (loaded_rows m c) (fun k l => by blk_point [iblk, V, tiles t0_0])
      (loaded_cq m c) (loaded_sqa m c) (loaded_sqb m c) x _
      (by have e : (y 0 : ℕ) = 5 + (x 0 : ℕ) := h0; have l : (x 0 : ℕ) < 1 := x0_lt; show (y 0 : ℕ) = 5; omega)
      h1 h2
  · exact qp_head m c _ (View.ld (iblk m c 7 t0_0) r0_3) (View.ld (iblk m c 8 t0_0) r0_3) (View.ld (iblk m c 9 t0_0) r0_3)
      (View.ld (iblk m c 5 t0_0) r0_13) 4 (loaded_rows m c) (fun k l => by blk_point [iblk, V, tiles t0_0])
      (loaded_cq m c) (loaded_sqa m c) (loaded_sqb m c) x _
      (by have e : (y 0 : ℕ) = 4 + (x 0 : ℕ) := h0; have l : (x 0 : ℕ) < 1 := x0_lt; show (y 0 : ℕ) = 4; omega)
      h1 h2
  · exact qp_head m c _ (View.ld (iblk m c 7 t0_0) r0_3) (View.ld (iblk m c 8 t0_0) r0_3) (View.ld (iblk m c 9 t0_0) r0_3)
      (View.ld (iblk m c 5 t0_0) r0_11) 3 (loaded_rows m c) (fun k l => by blk_point [iblk, V, tiles t0_0])
      (loaded_cq m c) (loaded_sqa m c) (loaded_sqb m c) x _
      (by have e : (y 0 : ℕ) = 3 + (x 0 : ℕ) := h0; have l : (x 0 : ℕ) < 1 := x0_lt; show (y 0 : ℕ) = 3; omega)
      h1 h2
  · exact qp_head m c _ (View.ld (iblk m c 7 t0_0) r0_3) (View.ld (iblk m c 8 t0_0) r0_3) (View.ld (iblk m c 9 t0_0) r0_3)
      (View.ld (iblk m c 5 t0_0) r0_9) 2 (loaded_rows m c) (fun k l => by blk_point [iblk, V, tiles t0_0])
      (loaded_cq m c) (loaded_sqa m c) (loaded_sqb m c) x _
      (by have e : (y 0 : ℕ) = 2 + (x 0 : ℕ) := h0; have l : (x 0 : ℕ) < 1 := x0_lt; show (y 0 : ℕ) = 2; omega)
      h1 h2
  · exact qp_head m c _ (View.ld (iblk m c 7 t0_0) r0_3) (View.ld (iblk m c 8 t0_0) r0_3) (View.ld (iblk m c 9 t0_0) r0_3)
      (View.ld (iblk m c 5 t0_0) r0_7) 1 (loaded_rows m c) (fun k l => by blk_point [iblk, V, tiles t0_0])
      (loaded_cq m c) (loaded_sqa m c) (loaded_sqb m c) x _
      (by have e : (y 0 : ℕ) = 1 + (x 0 : ℕ) := h0; have l : (x 0 : ℕ) < 1 := x0_lt; show (y 0 : ℕ) = 1; omega)
      h1 h2
  · exact qp_head m c _ (View.ld (iblk m c 7 t0_0) r0_3) (View.ld (iblk m c 8 t0_0) r0_3) (View.ld (iblk m c 9 t0_0) r0_3)
      (View.ld (iblk m c 5 t0_0) r0_5) 0 (loaded_rows m c) (fun k l => by blk_point [iblk, V, tiles t0_0])
      (loaded_cq m c) (loaded_sqa m c) (loaded_sqb m c) x _
      (by have e : (y 0 : ℕ) = (x 0 : ℕ) := h0; have l : (x 0 : ℕ) < 1 := x0_lt; show (y 0 : ℕ) = 0; omega)
      h1 h2

/-- The array of rotated queries. -/
theorem final_qp (c : Dev nD) : (dats m 0 c).arrAt 14 (cfgs 0).N = val_main_v93 (F := Ideal) (m ((c : Thread nD τ).loc main_arg0)) (m ((c : Thread nD τ).loc main_arg1)) (m ((c : Thread nD τ).loc main_arg3)) := by
  refine (dats m 0 c).arrAt_eq_of_after_last 14 t0_0 (by decide +kernel) _ fun j => ?_
  blk_simp
  rw [after0_14]
  exact qp_point m c _

end Cert.PrepareSIdeal.Rotated

end
-- ==== Proof.PrepareSClaim.lean ====
/- The claims about the sample's preparation: its runs leave the arguments unchanged, and the idealized kernel and the
   reference end with the same four arrays. -/
module

public import proofs.«01_k».proof.Defs
public import proofs.«01_k».proof.Proof.Gen.PrepareS
public import proofs.«01_k».proof.Proof.Gen.PrepareS.Skeleton
public import proofs.«01_k».proof.Proof.Gen.PrepareS.Launch
public import proofs.«01_k».proof.Proof.Gen.PrepareS.Frame
public import proofs.«01_k».proof.Proof.PrepareSArrays
public import Idealize.ShloMosaic.Lib.Claim

@[expose] public section

noncomputable section

namespace Cert.Proof.PrepareS

open Idealize.ShloMosaic Idealize.SL.Sem

theorem kernel_frame : Cert.quiescent_PrepareS := fun m ρ _ => Cert.PrepareS.Gen.frame m ρ

theorem ideal_frame : Cert.quiescent_PrepareSIdeal := fun m ρ _ => Cert.PrepareSIdeal.Gen.frame m ρ

theorem reference_frame : Cert.quiescent_PrepareSReferenceIdeal := fun m ρ _ =>
  (θ_run _ _ _).mono (fun _ h => ⟨fun c => (h c).2.2.2.2, sem_eq_zero_of_no_sems rfl _⟩) (Cert.PrepareSReferenceIdeal.Value.run m ρ)

theorem preserves : Cert.preserves_PrepareS_PrepareSIdeal := trivial

/-- The array of the last window is the rotated keys. -/
theorem last_array (m : (ℓ : Loc Cert.PrepareSIdeal.nD Cert.PrepareSIdeal.τ Cert.PrepareSIdeal.sig) → Buf (Elt Ideal) ℓ)
    (c : Dev Cert.PrepareSIdeal.nD)
    (r : PUnit.{1} × MemSt Cert.PrepareSIdeal.nD Cert.PrepareSIdeal.τ Cert.PrepareSIdeal.sig (Elt Ideal))
    (h : r.2.mem (View.loc c.tc ((Cert.PrepareSIdeal.cfgs 0).spec 16).arr.view)
      = (Cert.PrepareSIdeal.Gen.dats m 0 c).arrAt 16 (Cert.PrepareSIdeal.cfgs 0).N) :
    r.2.mem ((c.tc : Thread Cert.PrepareSIdeal.nD Cert.PrepareSIdeal.τ).loc Cert.PrepareSIdeal.main_v36_3)
      = Cert.PrepareSReferenceIdeal.Read.val_main_v53 (F := Ideal) (m ((c.tc : Thread Cert.PrepareSIdeal.nD Cert.PrepareSIdeal.τ).loc Cert.PrepareSIdeal.main_arg0)) := by
  rw [← Cert.PrepareSIdeal.Rotated.final_key m c, ← h]

/-- Both end with every head's rotated queries against the latent keys, their rotated parts, the latent rows and the
    rotated keys. -/
theorem algebraic : Cert.algebraic_PrepareSIdeal_PrepareSReferenceIdeal := by
  intro m g m' g' hpre hagree
  refine ⟨fun c => Cert.PrepareSReferenceIdeal.Read.val_main_v92 (F := Ideal) (m ((c.tc : Thread Cert.PrepareSIdeal.nD Cert.PrepareSIdeal.τ).loc Cert.PrepareSIdeal.main_arg0)) (m ((c.tc : Thread Cert.PrepareSIdeal.nD Cert.PrepareSIdeal.τ).loc Cert.PrepareSIdeal.main_arg1)) (m ((c.tc : Thread Cert.PrepareSIdeal.nD Cert.PrepareSIdeal.τ).loc Cert.PrepareSIdeal.main_arg3)) (m ((c.tc : Thread Cert.PrepareSIdeal.nD Cert.PrepareSIdeal.τ).loc Cert.PrepareSIdeal.main_arg4)),
    fun c => Cert.PrepareSReferenceIdeal.Read.val_main_v93 (F := Ideal) (m ((c.tc : Thread Cert.PrepareSIdeal.nD Cert.PrepareSIdeal.τ).loc Cert.PrepareSIdeal.main_arg0)) (m ((c.tc : Thread Cert.PrepareSIdeal.nD Cert.PrepareSIdeal.τ).loc Cert.PrepareSIdeal.main_arg1)) (m ((c.tc : Thread Cert.PrepareSIdeal.nD Cert.PrepareSIdeal.τ).loc Cert.PrepareSIdeal.main_arg3)),
    fun c => Cert.PrepareSReferenceIdeal.Read.val_main_v26 (F := Ideal) (m ((c.tc : Thread Cert.PrepareSIdeal.nD Cert.PrepareSIdeal.τ).loc Cert.PrepareSIdeal.main_arg0)) (m ((c.tc : Thread Cert.PrepareSIdeal.nD Cert.PrepareSIdeal.τ).loc Cert.PrepareSIdeal.main_arg2)), fun c => Cert.PrepareSReferenceIdeal.Read.val_main_v53 (F := Ideal) (m ((c.tc : Thread Cert.PrepareSIdeal.nD Cert.PrepareSIdeal.τ).loc Cert.PrepareSIdeal.main_arg0)), ?_, ?_⟩
  · refine θ_run_mono (θ_run_and (Cert.PrepareSIdeal.Gen.run_main m g) (Cert.PrepareSIdeal.Gen.unchanged m g)) ?_
    intro r hr c
    have hc := hr.1 c
    exact ⟨(hc.1 13).trans (Cert.PrepareSIdeal.Rotated.final_ql m c), (hc.1 14).trans (Cert.PrepareSIdeal.Rotated.final_qp m c),
      (hc.1 15).trans (Cert.PrepareSIdeal.Rotated.final_lat m c), last_array m c r (hc.1 16), hr.2 c⟩
  · refine θ_run_mono (Cert.PrepareSReferenceIdeal.Value.run m' g') ?_
    intro r hr c
    obtain ⟨h0, h1, h2, h3, h4⟩ := hr c
    obtain ⟨a0, a1, a2, a3, a4⟩ := hagree c
    refine ⟨h0.trans ?_, h1.trans ?_, h2.trans ?_, h3.trans ?_, h4⟩
    · rw [Cert.PrepareSReferenceIdeal.Read.val_main_v92_eq, a0, a1, a3, a4]
    · rw [Cert.PrepareSReferenceIdeal.Read.val_main_v93_eq, a0, a1, a3]
    · rw [Cert.PrepareSReferenceIdeal.Read.val_main_v26_eq, a0, a2]
    · rw [Cert.PrepareSReferenceIdeal.Read.val_main_v53_eq, a0]

end Cert.Proof.PrepareS

end
-- ==== Proof.KernelTables.lean ====
/-
The two tables of (query tile, key tile) pairs of `Kernel`, the pipeline at these tables, and what the
two tables say at each of the 136 grid points: which point is the first of its query tile, which the last.
-/
module

public import proofs.«01_k».proof.Defs
public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables and the scratch buffers the body is handed, whole. -/
abbrev qTab : Memref sig .tc .smem S136 .i32 := Memref.whole main_c
abbrev kTab : Memref sig .tc .smem S136 .i32 := Memref.whole main_c_0
abbrev maxBuf : Memref sig .tc .vmem S8x1024 .f32 := Memref.whole cc0_scratch0
abbrev accBuf : Memref sig .tc .vmem S8x128x1024 .f32 := Memref.whole cc0_scratch1

/-- The query tile and the key tile of each grid point: the two constants of @main. -/
def qTabV : S136.Idx → Elt Bits .i32 := fun i => lit0 (S136.rowMajor i)
def kTabV : S136.Idx → Elt Bits .i32 := fun i => lit1 (S136.rowMajor i)

set_option backward.proofsInPublic true in
/-- The contents of the prefetched tables. -/
def tabs : pre0.Contents (Elt Bits) := fun | ⟨0, _⟩ => qTabV | ⟨1, _⟩ => kTabV | ⟨_ + 2, h⟩ => absurd h (by simp)

/-- Every block the tables name lies inside its array. -/
theorem inside0 : ∀ i : grid0.Coords, ∀ a, (cc0_transform_0 k0_off1_inb numel1_S1 tabs i a + 1) * S8x128x1024.size a ≤ S8x128x16384.size a := by decide +kernel
theorem inside1 : ∀ i : grid0.Coords, ∀ a, (cc0_transform_1 k0_off1_inb numel1_S1 tabs i a + 1) * S8x1024x128.size a ≤ S8x16384x128.size a := by decide +kernel
theorem inside2 : ∀ i : grid0.Coords, ∀ a, (cc0_transform_2 k0_off1_inb numel1_S1 tabs i a + 1) * S8x128x1024.size a ≤ S8x128x16384.size a := by decide +kernel
theorem inside3 : ∀ i : grid0.Coords, ∀ a, (cc0_transform_3 k0_off1_inb numel1_S1 tabs i a + 1) * S1024x1024.size a ≤ S16384x1024.size a := by decide +kernel

/-- The pipeline's side condition at the tables. -/
theorem ok_tabs : ok0 (F := Bits) tabs :=
  ⟨fun i => ⟨inside0 i, .inr (Affine.block_words_dvd (s := S8x128x16384) (p := EltTy.packing .bf16) (by decide) (by decide))⟩,
   fun i => ⟨inside1 i, .inr (Affine.block_words_dvd (s := S8x16384x128) (p := EltTy.packing .bf16) (by decide) (by decide))⟩,
   fun i => ⟨inside2 i, .inr (Affine.block_words_dvd (s := S8x128x16384) (p := EltTy.packing .bf16) (by decide) (by decide))⟩,
   fun i => ⟨inside3 i, .inr (Affine.block_words_dvd (s := S16384x1024) (p := EltTy.packing .bf16) (by decide) (by decide))⟩⟩

/-- The tables as admissible contents, and the pipeline at them. -/
def adm : (pcfg0 (F := Bits)).Adm := ⟨tabs, ok_tabs⟩
abbrev cfgA : Pipeline.Cfg sig Λ₀ := cfg0 (F := Bits) adm
abbrev pcs : Fin 1 → Pipeline.Cfg sig Λ₀ := Pipeline.pin (pcfgs (F := Bits)) fun _ => adm

/-- The coordinates of point `t`. -/
abbrev crd (t : Fin cfgA.N) : cfgA.grid.Coords := cfgA.grid.coords t

/-- Each window's staging buffer at point `t`, and that it is whole. -/
abbrev ms0 (t : Fin cfgA.N) : Memref sig .tc .vmem S8x128x1024 .bf16 := spec0_0.stage (cfgA.slots t (0 : Fin 4))
abbrev hs0 (t : Fin cfgA.N) : (ms0 t).IsWhole := hstage0_0 ((cfgA.slots t (0 : Fin 4)).cast nbuf0_0)
abbrev ms1 (t : Fin cfgA.N) : Memref sig .tc .vmem S8x1024x128 .bf16 := spec0_1.stage (cfgA.slots t (1 : Fin 4))
abbrev hs1 (t : Fin cfgA.N) : (ms1 t).IsWhole := hstage0_1 ((cfgA.slots t (1 : Fin 4)).cast nbuf0_1)
abbrev ms2 (t : Fin cfgA.N) : Memref sig .tc .vmem S8x128x1024 .bf16 := spec0_2.stage (cfgA.slots t (2 : Fin 4))
abbrev hs2 (t : Fin cfgA.N) : (ms2 t).IsWhole := hstage0_2 ((cfgA.slots t (2 : Fin 4)).cast nbuf0_2)
abbrev ms3 (t : Fin cfgA.N) : Memref sig .tc .vmem S1024x1024 .bf16 := spec0_3.stage (cfgA.slots t (3 : Fin 4))
abbrev hs3 (t : Fin cfgA.N) : (ms3 t).IsWhole := hstage0_3 ((cfgA.slots t (3 : Fin 4)).cast nbuf0_3)

/-- The words the body reads at coordinates `i` from tables holding `T0`, `T1`: its query tile and its key tile. -/
abbrev qWord (i : grid0.Coords) (T0 : S136.Idx → Elt Bits .i32) : Elt Bits .i32 := View.readAt (Elt Bits) qTab.view (Rect.unit (s := S136) (k0_off1 i) S1.size (k0_off1_inb i)).toLoadRect T0 (Shape.Idx.first (numel1_S1.symm ▸ Nat.one_pos))
abbrev kWord (i : grid0.Coords) (T1 : S136.Idx → Elt Bits .i32) : Elt Bits .i32 := View.readAt (Elt Bits) kTab.view (Rect.unit (s := S136) (k0_off1 i) S1.size (k0_off1_inb i)).toLoadRect T1 (Shape.Idx.first (numel1_S1.symm ▸ Nat.one_pos))

/-- The key tile is the first one; it lies before the query tile; it is the query tile (the body's own tests). -/
abbrev IsFirst (i : grid0.Coords) (T1 : S136.Idx → Elt Bits .i32) : Prop := Scalar.cmpi .ne (Scalar.extui (Scalar.cmpi .eq (kWord i T1) 0#32)) 0#32 = 1#1
abbrev IsBefore (i : grid0.Coords) (T0 T1 : S136.Idx → Elt Bits .i32) : Prop := Scalar.cmpi .ne (Scalar.extui (Scalar.cmpi .slt (kWord i T1) (qWord i T0))) 0#32 = 1#1
abbrev IsDiag (i : grid0.Coords) (T0 T1 : S136.Idx → Elt Bits .i32) : Prop := k0_cond3 (qWord i T0) (kWord i T1) = 1#1

/-- The same at point `t`, with the tables of the program. -/
abbrev First (t : Fin cfgA.N) : Prop := IsFirst (crd t) kTabV
abbrev Before (t : Fin cfgA.N) : Prop := IsBefore (crd t) qTabV kTabV
abbrev Diag (t : Fin cfgA.N) : Prop := IsDiag (crd t) qTabV kTabV

/-- What is decided at each point: the key tile is the query tile exactly where it isn't before it; the output
    block is stored and written back exactly there; and the first point begins a query tile. -/
abbrev FactsAt (t : Fin cfgA.N) : Prop :=
  (Before t ↔ ¬Diag t) ∧ cfgA.idle (3 : Fin 4) (cfgA.grid.coords t) = decide (Before t)
    ∧ (cfgA.win (3 : Fin 4)).flush t = !decide (Before t) ∧ (t.val = 0 → First t)

theorem facts_0 : ∀ t : Fin cfgA.N, 0 ≤ t.val → t.val < 17 → FactsAt t := by decide +kernel
theorem facts_17 : ∀ t : Fin cfgA.N, 17 ≤ t.val → t.val < 34 → FactsAt t := by decide +kernel
theorem facts_34 : ∀ t : Fin cfgA.N, 34 ≤ t.val → t.val < 51 → FactsAt t := by decide +kernel
theorem facts_51 : ∀ t : Fin cfgA.N, 51 ≤ t.val → t.val < 68 → FactsAt t := by decide +kernel
theorem facts_68 : ∀ t : Fin cfgA.N, 68 ≤ t.val → t.val < 85 → FactsAt t := by decide +kernel
theorem facts_85 : ∀ t : Fin cfgA.N, 85 ≤ t.val → t.val < 102 → FactsAt t := by decide +kernel
theorem facts_102 : ∀ t : Fin cfgA.N, 102 ≤ t.val → t.val < 119 → FactsAt t := by decide +kernel
theorem facts_119 : ∀ t : Fin cfgA.N, 119 ≤ t.val → t.val < 136 → FactsAt t := by decide +kernel
theorem factsAt (t : Fin cfgA.N) : FactsAt t := by
  have h0 : 0 ≤ t.val := Nat.zero_le _
  rcases Nat.lt_or_ge t.val 17 with h1 | h1; · exact facts_0 t h0 h1
  rcases Nat.lt_or_ge t.val 34 with h2 | h2; · exact facts_17 t h1 h2
  rcases Nat.lt_or_ge t.val 51 with h3 | h3; · exact facts_34 t h2 h3
  rcases Nat.lt_or_ge t.val 68 with h4 | h4; · exact facts_51 t h3 h4
  rcases Nat.lt_or_ge t.val 85 with h5 | h5; · exact facts_68 t h4 h5
  rcases Nat.lt_or_ge t.val 102 with h6 | h6; · exact facts_85 t h5 h6
  rcases Nat.lt_or_ge t.val 119 with h7 | h7; · exact facts_102 t h6 h7
  exact facts_119 t h7 t.isLt

/-- The output's buffer holds nothing to keep before any point: at each point it is either left alone since the
    last write-back, or stored and written back. -/
theorem fresh3 (t : Fin cfgA.N) : cfgA.fresh (3 : Fin 4) t.val = true :=
  Pipeline.Cfg.fresh_tab cfgA (3 : Fin 4) (fun _ => true) rfl (fun t => by
    obtain ⟨-, hi, hf, -⟩ := factsAt t
    rw [hi, hf]; cases decide (Before t) <;> rfl) t.val (Nat.le_of_lt t.isLt)

theorem idle_of_before {t : Fin cfgA.N} (h : Before t) : cfgA.idle (3 : Fin 4) (cfgA.grid.coords t) = true := by
  rw [(factsAt t).2.1]; exact decide_eq_true h
theorem flush_of_before {t : Fin cfgA.N} (h : Before t) : (cfgA.win (3 : Fin 4)).flush t = false := by
  rw [(factsAt t).2.2.1, decide_eq_true h]; rfl
theorem idle_of_not_before {t : Fin cfgA.N} (h : ¬Before t) : cfgA.idle (3 : Fin 4) (cfgA.grid.coords t) = false := by
  rw [(factsAt t).2.1]; exact decide_eq_false h
theorem flush_of_not_before {t : Fin cfgA.N} (h : ¬Before t) : (cfgA.win (3 : Fin 4)).flush t = true := by
  rw [(factsAt t).2.2.1, decide_eq_false h]; rfl
theorem not_diag {t : Fin cfgA.N} (h : Before t) : ¬Diag t := (factsAt t).1.1 h
theorem diag {t : Fin cfgA.N} (h : ¬Before t) : Diag t := not_not.1 fun hd => h ((factsAt t).1.2 hd)
theorem ne_zero_of_not_first {t : Fin cfgA.N} (h : ¬First t) : t.val ≠ 0 := fun h0 => h ((factsAt t).2.2.2 h0)

end Cert.Kernel.Flash

end
-- ==== Proof.KernelRunsAB.lean ====
/-
The body of `Kernel` run on whole buffers, along the control paths A and B: what it leaves in the scratch
buffers and, where it stores it, in the output block, found by running it.
-/
module

public import proofs.«01_k».proof.Proof.KernelTables

@[expose] public section

set_option maxRecDepth 16384
set_option Elab.async false

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource the proof is written over. -/
local notation "𝕄" => MT nD τ sig Unit (Elt Bits) ℕ (UR sig nD τ) ℕ

variable (c : Dev nD) (i : grid0.Coords) (arg3 : Memref sig .tc .vmem S8x128x1024 .bf16) (harg3 : arg3.IsWhole)
  (arg4 : Memref sig .tc .vmem S8x1024x128 .bf16) (harg4 : arg4.IsWhole)
  (arg5 : Memref sig .tc .vmem S8x128x1024 .bf16) (harg5 : arg5.IsWhole)
  (arg6 : Memref sig .tc .vmem S1024x1024 .bf16) (harg6 : arg6.IsWhole)
  (T0 T1 : S136.Idx → Elt Bits .i32)
  (x0 : S8x128x1024.Idx → Elt Bits .bf16) (x1 : S8x1024x128.Idx → Elt Bits .bf16) (x2 : S8x128x1024.Idx → Elt Bits .bf16)

set_option backward.proofsInPublic true in
set_option maxHeartbeats 8000000 in
/-- The only key tile of its query tile: the scratches are filled first, and the output block is stored. -/
def runA (hc0 : IsFirst i T1) (hc1 : ¬IsBefore i T0 T1) (k0_h3 : IsDiag i T0 T1) :
    Σ' (pcs : List (View.Piece (Elt Bits) S1024x1024 .bf16)) (m₁ : Buf (Elt Bits) ((c : Thread nD τ).loc cc0_scratch0)), { a₁ : Buf (Elt Bits) ((c : Thread nD τ).loc cc0_scratch1) //
      ∀ (m₀ : Buf (Elt Bits) ((c : Thread nD τ).loc cc0_scratch0)) (a₀ : Buf (Elt Bits) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare.right} T0)
          ∗ (kTab.view.loc (c : Thread nD τ) ↦{fullShare.right} T1)
          ∗ (∃ d, owns (c : Thread nD τ) arg6 fullShare d)
          ∗ (maxBuf.view.loc (c : Thread nD τ) ↦{fullShare} m₀)
          ∗ (accBuf.view.loc (c : Thread nD τ) ↦{fullShare} a₀)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (qTab.view.loc (c : Thread nD τ) ↦{fullShare.right} T0)
              ∗ (kTab.view.loc (c : Thread nD τ) ↦{fullShare.right} T1)
              ∗ (∃ f, arg6.view.loc (c : Thread nD τ) ↦[arg6.view.set]{fullShare} arg6.view.writes (Elt Bits) f pcs)
              ∗ (maxBuf.view.loc (c : Thread nD τ) ↦{fullShare} m₁)
              ∗ (accBuf.view.loc (c : Thread nD τ) ↦{fullShare} a₁)) -∗ K ⟨⟩))
          ⊢ wp frame (wpE (defs₀ (F := Bits)) Variants.none c none) Set.univ (cc0_flash_attention i qTab (Memref.isWhole_whole _) kTab (Memref.isWhole_whole _) arg3 harg3 arg4 harg4 arg5 harg5 arg6 harg6 maxBuf (Memref.isWhole_whole _) accBuf (Memref.isWhole_whole _)) K } :=
  ⟨_, _, _, fun m₀ a₀ K => by
    unfold owns
    rw [cc0_flash_attention_eq_skeleton]; unfold cc0_flash_attention_skel
    iintro ⟨H0, H1, H2, HT0, HT1, ⟨%d3, %f3, -, HO3⟩, HS0, HS1, Hk⟩
    have hS0 : maxBuf.IsWhole := Memref.isWhole_whole _
    have hS1 : accBuf.IsWhole := Memref.isWhole_whole _
    have hT0 : qTab.IsWhole := Memref.isWhole_whole _
    have hT1 : kTab.IsWhole := Memref.isWhole_whole _
    sl_exec! (disch := first | exact hc0 | exact hc1 | exact k0_h3)
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- The eight stores of the output block tile it. -/
theorem coverA (hc0 : IsFirst i T1) (hc1 : ¬IsBefore i T0 T1) (k0_h3 : IsDiag i T0 T1) (y : S1024x1024.Idx) :
    ∃ pc ∈ (runA c i arg3 harg3 arg4 harg4 arg5 harg5 arg6 harg6 T0 T1 x0 x1 x2 hc0 hc1 k0_h3).1, y ∈ pc.1.set :=
  View.cover_of_tiledL (runA c i arg3 harg3 arg4 harg4 arg5 harg5 arg6 harg6 T0 T1 x0 x1 x2 hc0 hc1 k0_h3).1 S1024x128.size (by sl_kernel_rfl) y

set_option backward.proofsInPublic true in
set_option maxHeartbeats 8000000 in
/-- The first key tile of several: the scratches are filled first, the output block is left alone. -/
def runB (hc0 : IsFirst i T1) (hc1 : IsBefore i T0 T1) (k0_h3 : ¬IsDiag i T0 T1) :
    Σ' (m₁ : Buf (Elt Bits) ((c : Thread nD τ).loc cc0_scratch0)), { a₁ : Buf (Elt Bits) ((c : Thread nD τ).loc cc0_scratch1) //
      ∀ (y3 : S1024x1024.Idx → Elt Bits .bf16) (m₀ : Buf (Elt Bits) ((c : Thread nD τ).loc cc0_scratch0)) (a₀ : Buf (Elt Bits) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare.right} T0)
          ∗ (kTab.view.loc (c : Thread nD τ) ↦{fullShare.right} T1)
          ∗ owns (c : Thread nD τ) arg6 fullShare y3
          ∗ (maxBuf.view.loc (c : Thread nD τ) ↦{fullShare} m₀)
          ∗ (accBuf.view.loc (c : Thread nD τ) ↦{fullShare} a₀)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (qTab.view.loc (c : Thread nD τ) ↦{fullShare.right} T0)
              ∗ (kTab.view.loc (c : Thread nD τ) ↦{fullShare.right} T1)
              ∗ owns (c : Thread nD τ) arg6 fullShare y3
              ∗ (maxBuf.view.loc (c : Thread nD τ) ↦{fullShare} m₁)
              ∗ (accBuf.view.loc (c : Thread nD τ) ↦{fullShare} a₁)) -∗ K ⟨⟩))
          ⊢ wp frame (wpE (defs₀ (F := Bits)) Variants.none c none) Set.univ (cc0_flash_attention i qTab (Memref.isWhole_whole _) kTab (Memref.isWhole_whole _) arg3 harg3 arg4 harg4 arg5 harg5 arg6 harg6 maxBuf (Memref.isWhole_whole _) accBuf (Memref.isWhole_whole _)) K } :=
  ⟨_, _, fun y3 m₀ a₀ K => by
    unfold owns
    rw [cc0_flash_attention_eq_skeleton]; unfold cc0_flash_attention_skel
    iintro ⟨H0, H1, H2, HT0, HT1, ⟨%f3, %hf3, HO3⟩, HS0, HS1, Hk⟩
    obtain rfl := harg6.eq_unread hf3
    have hS0 : maxBuf.IsWhole := Memref.isWhole_whole _
    have hS1 : accBuf.IsWhole := Memref.isWhole_whole _
    have hT0 : qTab.IsWhole := Memref.isWhole_whole _
    have hT1 : kTab.IsWhole := Memref.isWhole_whole _
    sl_exec! (disch := first | exact hc0 | exact hc1 | exact k0_h3)
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg6.read_unread _
      iexact HO3
    isplitl [HS0]; · iexact HS0
    iexact HS1⟩

end Cert.Kernel.Flash

end
-- ==== Proof.KernelRunsCD.lean ====
/-
The body of `Kernel` run on whole buffers, along the control paths C and D: what it leaves in the scratch
buffers and, where it stores it, in the output block, found by running it.
-/
module

public import proofs.«01_k».proof.Proof.KernelTables

@[expose] public section

set_option maxRecDepth 16384
set_option Elab.async false

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource the proof is written over. -/
local notation "𝕄" => MT nD τ sig Unit (Elt Bits) ℕ (UR sig nD τ) ℕ

variable (c : Dev nD) (i : grid0.Coords) (arg3 : Memref sig .tc .vmem S8x128x1024 .bf16) (harg3 : arg3.IsWhole)
  (arg4 : Memref sig .tc .vmem S8x1024x128 .bf16) (harg4 : arg4.IsWhole)
  (arg5 : Memref sig .tc .vmem S8x128x1024 .bf16) (harg5 : arg5.IsWhole)
  (arg6 : Memref sig .tc .vmem S1024x1024 .bf16) (harg6 : arg6.IsWhole)
  (T0 T1 : S136.Idx → Elt Bits .i32)
  (x0 : S8x128x1024.Idx → Elt Bits .bf16) (x1 : S8x1024x128.Idx → Elt Bits .bf16) (x2 : S8x128x1024.Idx → Elt Bits .bf16)

set_option backward.proofsInPublic true in
set_option maxHeartbeats 8000000 in
/-- The last key tile of several: the scratches carry on, and the output block is stored. -/
def runC (m₀ : Buf (Elt Bits) ((c : Thread nD τ).loc cc0_scratch0)) (a₀ : Buf (Elt Bits) ((c : Thread nD τ).loc cc0_scratch1)) (hc0 : ¬IsFirst i T1) (hc1 : ¬IsBefore i T0 T1) (k0_h3 : IsDiag i T0 T1) :
    Σ' (pcs : List (View.Piece (Elt Bits) S1024x1024 .bf16)) (m₁ : Buf (Elt Bits) ((c : Thread nD τ).loc cc0_scratch0)), { a₁ : Buf (Elt Bits) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare.right} T0)
          ∗ (kTab.view.loc (c : Thread nD τ) ↦{fullShare.right} T1)
          ∗ (∃ d, owns (c : Thread nD τ) arg6 fullShare d)
          ∗ (maxBuf.view.loc (c : Thread nD τ) ↦{fullShare} m₀)
          ∗ (accBuf.view.loc (c : Thread nD τ) ↦{fullShare} a₀)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (qTab.view.loc (c : Thread nD τ) ↦{fullShare.right} T0)
              ∗ (kTab.view.loc (c : Thread nD τ) ↦{fullShare.right} T1)
              ∗ (∃ f, arg6.view.loc (c : Thread nD τ) ↦[arg6.view.set]{fullShare} arg6.view.writes (Elt Bits) f pcs)
              ∗ (maxBuf.view.loc (c : Thread nD τ) ↦{fullShare} m₁)
              ∗ (accBuf.view.loc (c : Thread nD τ) ↦{fullShare} a₁)) -∗ K ⟨⟩))
          ⊢ wp frame (wpE (defs₀ (F := Bits)) Variants.none c none) Set.univ (cc0_flash_attention i qTab (Memref.isWhole_whole _) kTab (Memref.isWhole_whole _) arg3 harg3 arg4 harg4 arg5 harg5 arg6 harg6 maxBuf (Memref.isWhole_whole _) accBuf (Memref.isWhole_whole _)) K } :=
  ⟨_, _, _, fun K => by
    unfold owns
    rw [cc0_flash_attention_eq_skeleton]; unfold cc0_flash_attention_skel
    iintro ⟨H0, H1, H2, HT0, HT1, ⟨%d3, %f3, -, HO3⟩, HS0, HS1, Hk⟩
    have hS0 : maxBuf.IsWhole := Memref.isWhole_whole _
    have hS1 : accBuf.IsWhole := Memref.isWhole_whole _
    have hT0 : qTab.IsWhole := Memref.isWhole_whole _
    have hT1 : kTab.IsWhole := Memref.isWhole_whole _
    sl_exec! (disch := first | exact hc0 | exact hc1 | exact k0_h3)
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- The eight stores of the output block tile it. -/
theorem coverC (m₀ : Buf (Elt Bits) ((c : Thread nD τ).loc cc0_scratch0)) (a₀ : Buf (Elt Bits) ((c : Thread nD τ).loc cc0_scratch1)) (hc0 : ¬IsFirst i T1) (hc1 : ¬IsBefore i T0 T1) (k0_h3 : IsDiag i T0 T1) (y : S1024x1024.Idx) :
    ∃ pc ∈ (runC c i arg3 harg3 arg4 harg4 arg5 harg5 arg6 harg6 T0 T1 x0 x1 x2 m₀ a₀ hc0 hc1 k0_h3).1, y ∈ pc.1.set :=
  View.cover_of_tiledL (runC c i arg3 harg3 arg4 harg4 arg5 harg5 arg6 harg6 T0 T1 x0 x1 x2 m₀ a₀ hc0 hc1 k0_h3).1 S1024x128.size (by sl_kernel_rfl) y

set_option backward.proofsInPublic true in
set_option maxHeartbeats 8000000 in
/-- A key tile between: the scratches carry on, the output block is left alone. -/
def runD (m₀ : Buf (Elt Bits) ((c : Thread nD τ).loc cc0_scratch0)) (a₀ : Buf (Elt Bits) ((c : Thread nD τ).loc cc0_scratch1)) (hc0 : ¬IsFirst i T1) (hc1 : IsBefore i T0 T1) (k0_h3 : ¬IsDiag i T0 T1) :
    Σ' (m₁ : Buf (Elt Bits) ((c : Thread nD τ).loc cc0_scratch0)), { a₁ : Buf (Elt Bits) ((c : Thread nD τ).loc cc0_scratch1) //
      ∀ (y3 : S1024x1024.Idx → Elt Bits .bf16) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare.right} T0)
          ∗ (kTab.view.loc (c : Thread nD τ) ↦{fullShare.right} T1)
          ∗ owns (c : Thread nD τ) arg6 fullShare y3
          ∗ (maxBuf.view.loc (c : Thread nD τ) ↦{fullShare} m₀)
          ∗ (accBuf.view.loc (c : Thread nD τ) ↦{fullShare} a₀)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (qTab.view.loc (c : Thread nD τ) ↦{fullShare.right} T0)
              ∗ (kTab.view.loc (c : Thread nD τ) ↦{fullShare.right} T1)
              ∗ owns (c : Thread nD τ) arg6 fullShare y3
              ∗ (maxBuf.view.loc (c : Thread nD τ) ↦{fullShare} m₁)
              ∗ (accBuf.view.loc (c : Thread nD τ) ↦{fullShare} a₁)) -∗ K ⟨⟩))
          ⊢ wp frame (wpE (defs₀ (F := Bits)) Variants.none c none) Set.univ (cc0_flash_attention i qTab (Memref.isWhole_whole _) kTab (Memref.isWhole_whole _) arg3 harg3 arg4 harg4 arg5 harg5 arg6 harg6 maxBuf (Memref.isWhole_whole _) accBuf (Memref.isWhole_whole _)) K } :=
  ⟨_, _, fun y3 K => by
    unfold owns
    rw [cc0_flash_attention_eq_skeleton]; unfold cc0_flash_attention_skel
    iintro ⟨H0, H1, H2, HT0, HT1, ⟨%f3, %hf3, HO3⟩, HS0, HS1, Hk⟩
    obtain rfl := harg6.eq_unread hf3
    have hS0 : maxBuf.IsWhole := Memref.isWhole_whole _
    have hS1 : accBuf.IsWhole := Memref.isWhole_whole _
    have hT0 : qTab.IsWhole := Memref.isWhole_whole _
    have hT1 : kTab.IsWhole := Memref.isWhole_whole _
    sl_exec! (disch := first | exact hc0 | exact hc1 | exact k0_h3)
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg6.read_unread _
      iexact HO3
    isplitl [HS0]; · iexact HS0
    iexact HS1⟩

end Cert.Kernel.Flash

end
-- ==== Proof.KernelFrame.lean ====
/-
What the output block and the two scratch buffers of `Kernel` hold after each grid point, the body's obligation
at every point, and the run of @main: it terminates, its arguments end unchanged, every semaphore counter is at zero
again, and the output array holds what the points wrote back.
-/
module

public import proofs.«01_k».proof.Proof.KernelRunsAB
public import proofs.«01_k».proof.Proof.KernelRunsCD
public import Idealize.ShloMosaic.Lib.Pipeline.Frame
public import Idealize.ShloMosaic.Lib.StableHlo.Run

@[expose] public section

set_option maxRecDepth 16384
set_option Elab.async false

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource the proof is written over. -/
local notation "𝕄" => MT nD τ sig Unit (Elt Bits) ℕ (UR sig nD τ) ℕ

/-- The rounds library's resource, embedded whole. -/
abbrev EP : Emb (UR sig nD τ) 𝕄 := emb₁

variable (m : (ℓ : Loc nD τ sig) → Buf (Elt Bits) ℓ) (ρ : Dev nD → PrngReg)

/-- The block of window `w` at point `t`, read off its array as it is at launch. -/
def iblk (c : Dev nD) (w : Fin 4) (t : Fin cfgA.N) : ((cfgA.win w).xblock (crd t)).Idx → Elt Bits (cfgA.win w).elt :=
  ((cfgA.win w).blk t).view.read (Elt Bits) (m ((cfgA.win w).arr.view.loc (c : Thread nD τ)))

/-- The scratch buffers: the running maximum, the running sums. -/
abbrev Scr (c : Dev nD) : Type := Buf (Elt Bits) ((c : Thread nD τ).loc cc0_scratch0) × Buf (Elt Bits) ((c : Thread nD τ).loc cc0_scratch1)

/-- The scratch buffers after the body at point `t`, from what they held before. -/
@[irreducible] def scrStep (c : Dev nD) (t : Fin cfgA.N) (s : Scr c) : Scr c :=
  if q0 : First t then
    if q1 : Before t then ((runB c (crd t) (ms0 t) (hs0 t) (ms1 t) (hs1 t) (ms2 t) (hs2 t) (ms3 t) (hs3 t) qTabV kTabV (iblk m c 0 t) (iblk m c 1 t) (iblk m c 2 t) q0 q1 (not_diag q1)).1, (runB c (crd t) (ms0 t) (hs0 t) (ms1 t) (hs1 t) (ms2 t) (hs2 t) (ms3 t) (hs3 t) qTabV kTabV (iblk m c 0 t) (iblk m c 1 t) (iblk m c 2 t) q0 q1 (not_diag q1)).2.1)
    else ((runA c (crd t) (ms0 t) (hs0 t) (ms1 t) (hs1 t) (ms2 t) (hs2 t) (ms3 t) (hs3 t) qTabV kTabV (iblk m c 0 t) (iblk m c 1 t) (iblk m c 2 t) q0 q1 (diag q1)).2.1, (runA c (crd t) (ms0 t) (hs0 t) (ms1 t) (hs1 t) (ms2 t) (hs2 t) (ms3 t) (hs3 t) qTabV kTabV (iblk m c 0 t) (iblk m c 1 t) (iblk m c 2 t) q0 q1 (diag q1)).2.2.1)
  else
    if q1 : Before t then ((runD c (crd t) (ms0 t) (hs0 t) (ms1 t) (hs1 t) (ms2 t) (hs2 t) (ms3 t) (hs3 t) qTabV kTabV (iblk m c 0 t) (iblk m c 1 t) (iblk m c 2 t) s.1 s.2 q0 q1 (not_diag q1)).1, (runD c (crd t) (ms0 t) (hs0 t) (ms1 t) (hs1 t) (ms2 t) (hs2 t) (ms3 t) (hs3 t) qTabV kTabV (iblk m c 0 t) (iblk m c 1 t) (iblk m c 2 t) s.1 s.2 q0 q1 (not_diag q1)).2.1)
    else ((runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).2.1, (runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).2.2.1)

/-- A buffer the output's stores are read through. -/
abbrev outView : View sig .tc .vmem S1024x1024 .bf16 := (Memref.whole cc0_stg3_0 : Memref sig .tc .vmem S1024x1024 .bf16).view

/-- The output block stored at point `t` (nothing where it is left alone), from what the scratches held before. -/
@[irreducible] def outStep (c : Dev nD) (t : Fin cfgA.N) (s : Scr c) : S1024x1024.Idx → Elt Bits .bf16 :=
  if q1 : Before t then default else
    if q0 : First t then outView.read (Elt Bits) (outView.writes (Elt Bits) outView.junk (runA c (crd t) (ms0 t) (hs0 t) (ms1 t) (hs1 t) (ms2 t) (hs2 t) (ms3 t) (hs3 t) qTabV kTabV (iblk m c 0 t) (iblk m c 1 t) (iblk m c 2 t) q0 q1 (diag q1)).1)
    else outView.read (Elt Bits) (outView.writes (Elt Bits) outView.junk (runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).1)

/-- The scratch buffers before position `n` (anything before the first). -/
def scr (c : Dev nD) : (n : ℕ) → n ≤ cfgA.N → Scr c
  | 0, _ => (default, default)
  | n + 1, h => scrStep m c ⟨n, h⟩ (scr c n (Nat.le_of_succ_le h))

theorem scr_succ (c : Dev nD) (t : Fin cfgA.N) (h : t.val + 1 ≤ cfgA.N) :
    scr m c (t.val + 1) h = scrStep m c t (scr m c t.val (Nat.le_of_lt t.isLt)) := rfl

theorem scrStep_A (c : Dev nD) (t : Fin cfgA.N) (s : Scr c) (q0 : First t) (q1 : ¬Before t) :
    scrStep m c t s = ((runA c (crd t) (ms0 t) (hs0 t) (ms1 t) (hs1 t) (ms2 t) (hs2 t) (ms3 t) (hs3 t) qTabV kTabV (iblk m c 0 t) (iblk m c 1 t) (iblk m c 2 t) q0 q1 (diag q1)).2.1, (runA c (crd t) (ms0 t) (hs0 t) (ms1 t) (hs1 t) (ms2 t) (hs2 t) (ms3 t) (hs3 t) qTabV kTabV (iblk m c 0 t) (iblk m c 1 t) (iblk m c 2 t) q0 q1 (diag q1)).2.2.1) := by
  unfold scrStep; simp only [dif_pos q0, dif_neg q1]
theorem outStep_A (c : Dev nD) (t : Fin cfgA.N) (s : Scr c) (q0 : First t) (q1 : ¬Before t) :
    outStep m c t s = outView.read (Elt Bits) (outView.writes (Elt Bits) outView.junk (runA c (crd t) (ms0 t) (hs0 t) (ms1 t) (hs1 t) (ms2 t) (hs2 t) (ms3 t) (hs3 t) qTabV kTabV (iblk m c 0 t) (iblk m c 1 t) (iblk m c 2 t) q0 q1 (diag q1)).1) := by
  unfold outStep; simp only [dif_pos q0, dif_neg q1]
theorem scrStep_B (c : Dev nD) (t : Fin cfgA.N) (s : Scr c) (q0 : First t) (q1 : Before t) :
    scrStep m c t s = ((runB c (crd t) (ms0 t) (hs0 t) (ms1 t) (hs1 t) (ms2 t) (hs2 t) (ms3 t) (hs3 t) qTabV kTabV (iblk m c 0 t) (iblk m c 1 t) (iblk m c 2 t) q0 q1 (not_diag q1)).1, (runB c (crd t) (ms0 t) (hs0 t) (ms1 t) (hs1 t) (ms2 t) (hs2 t) (ms3 t) (hs3 t) qTabV kTabV (iblk m c 0 t) (iblk m c 1 t) (iblk m c 2 t) q0 q1 (not_diag q1)).2.1) := by
  unfold scrStep; simp only [dif_pos q0, dif_pos q1]
theorem scrStep_C (c : Dev nD) (t : Fin cfgA.N) (s : Scr c) (q0 : ¬First t) (q1 : ¬Before t) :
    scrStep m c t s = ((runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).2.1, (runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).2.2.1) := by
  unfold scrStep; simp only [dif_neg q0, dif_neg q1]
theorem outStep_C (c : Dev nD) (t : Fin cfgA.N) (s : Scr c) (q0 : ¬First t) (q1 : ¬Before t) :
    outStep m c t s = outView.read (Elt Bits) (outView.writes (Elt Bits) outView.junk (runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).1) := by
  unfold outStep; simp only [dif_neg q0, dif_neg q1]
theorem scrStep_D (c : Dev nD) (t : Fin cfgA.N) (s : Scr c) (q0 : ¬First t) (q1 : Before t) :
    scrStep m c t s = ((runD c (crd t) (ms0 t) (hs0 t) (ms1 t) (hs1 t) (ms2 t) (hs2 t) (ms3 t) (hs3 t) qTabV kTabV (iblk m c 0 t) (iblk m c 1 t) (iblk m c 2 t) s.1 s.2 q0 q1 (not_diag q1)).1, (runD c (crd t) (ms0 t) (hs0 t) (ms1 t) (hs1 t) (ms2 t) (hs2 t) (ms3 t) (hs3 t) qTabV kTabV (iblk m c 0 t) (iblk m c 1 t) (iblk m c 2 t) s.1 s.2 q0 q1 (not_diag q1)).2.1) := by
  unfold scrStep; simp only [dif_neg q0, dif_pos q1]

/-- Before position `n`: the scratches at what the points before it left (anything before the first point), and the
    body's halves of the tables. -/
def Phi (c : Dev nD) (n : Fin (cfgA.N + 1)) : sProp 𝕄 :=
  iprop((∃ a, ⌜n.val ≠ 0 → a = (scr m c n.val (Nat.le_of_lt_succ n.isLt)).1⌝ ∗ (maxBuf.view.loc (c : Thread nD τ) ↦{fullShare} a))
    ∗ (∃ a, ⌜n.val ≠ 0 → a = (scr m c n.val (Nat.le_of_lt_succ n.isLt)).2⌝ ∗ (accBuf.view.loc (c : Thread nD τ) ↦{fullShare} a))
    ∗ (qTab.view.loc (c : Thread nD τ) ↦{fullShare.right} qTabV) ∗ (kTab.view.loc (c : Thread nD τ) ↦{fullShare.right} kTabV))

/-- The pipeline's proof data: each input window at its block, the output at what the point stores. -/
def dats (_ : Fin 1) (c : Dev nD) : Dat τ (Elt Bits) Unit ℕ (UR sig nD τ) ℕ cfgA c where
  A w := m ((cfgA.win w).arr.view.loc (c : Thread nD τ))
  after w t := match w with
    | ⟨0, _⟩ => iblk m c (0 : Fin 4) t
    | ⟨1, _⟩ => iblk m c (1 : Fin 4) t
    | ⟨2, _⟩ => iblk m c (2 : Fin 4) t
    | ⟨3, _⟩ => outStep m c t (scr m c t.val (Nat.le_of_lt t.isLt))
  Φ t := Phi m c t
  q _ := fullShare
  owed _ := 0

theorem after_0 (c : Dev nD) (t : Fin cfgA.N) : (dats m 0 c).after (0 : Fin 4) t = iblk m c (0 : Fin 4) t := rfl
theorem after_1 (c : Dev nD) (t : Fin cfgA.N) : (dats m 0 c).after (1 : Fin 4) t = iblk m c (1 : Fin 4) t := rfl
theorem after_2 (c : Dev nD) (t : Fin cfgA.N) : (dats m 0 c).after (2 : Fin 4) t = iblk m c (2 : Fin 4) t := rfl
theorem after_3 (c : Dev nD) (t : Fin cfgA.N) : (dats m 0 c).after (3 : Fin 4) t = outStep m c t (scr m c t.val (Nat.le_of_lt t.isLt)) := rfl

theorem before_0 (c : Dev nD) (t : Fin cfgA.N) (d) : (dats m 0 c).before (0 : Fin 4) t d = iblk m c (0 : Fin 4) t :=
  ((dats m 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin cfgA.N) (d) : (dats m 0 c).before (1 : Fin 4) t d = iblk m c (1 : Fin 4) t :=
  ((dats m 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin cfgA.N) (d) : (dats m 0 c).before (2 : Fin 4) t d = iblk m c (2 : Fin 4) t :=
  ((dats m 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The output's buffer holds anything when the body runs. -/
theorem before_3 (c : Dev nD) (t : Fin cfgA.N) (d) : (dats m 0 c).before (3 : Fin 4) t d = d := by
  rw [(dats m 0 c).before_out_traj (3 : Fin 4) rfl (fun _ _ => rfl)
    (fun t _ _ hf => by rw [fresh3 t] at hf; exact absurd hf (by decide)) t.val t rfl d]
  simp only [fresh3 t, ↓reduceIte]

/-- The body at point `t` on its buffers, as the pipeline calls it. -/
abbrev bodyAt (t : Fin cfgA.N) : Prog (TpuEff nD τ sig (Elt Bits) Λ₀ .tc) PUnit :=
  cc0_flash_attention (crd t) (Memref.whole main_c) (Memref.isWhole_whole _) (Memref.whole main_c_0) (Memref.isWhole_whole _) (ms0 t) (hs0 t) (ms1 t) (hs1 t) (ms2 t) (hs2 t) (ms3 t) (hs3 t) (Memref.whole cc0_scratch0) (Memref.isWhole_whole _) (Memref.whole cc0_scratch1) (Memref.isWhole_whole _)

set_option maxHeartbeats 4000000 in
/-- The body's obligation at point `t`, by its control path. -/
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 4) t d))
        ∗ (∃ d, owns (c : Thread nD τ) (ms1 t) fullShare ((dats m 0 c).before (1 : Fin 4) t d))
        ∗ (∃ d, owns (c : Thread nD τ) (ms2 t) fullShare ((dats m 0 c).before (2 : Fin 4) t d))
        ∗ (∃ d, owns (c : Thread nD τ) (ms3 t) fullShare ((dats m 0 c).before (3 : Fin 4) t d)))
      ⊢ wp frame (wpE (defs₀ (F := Bits)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0, show (dats m 0 c).Φ t.succ = Phi m c t.succ from rfl, show (dats m 0 c).Φ t.castSucc = Phi m c t.castSucc from rfl,
    show (dats m 0 c).owesAt () t.succ = (dats m 0 c).owesAt () t.castSucc from rfl]
  by_cases q0 : First t
  · by_cases q1 : Before t
    · have i3 := idle_of_before q1
      have f3 := flush_of_before q1
      rewrite [i3]
      simp only [before_0, before_1, before_2, before_3, after_0, after_1, after_2, after_3, f3]
      unfold Phi; simp only [Fin.val_castSucc, Fin.val_succ, scr_succ, scrStep_B m c t _ q0 q1]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((runB c (crd t) (ms0 t) (hs0 t) (ms1 t) (hs1 t) (ms2 t) (hs2 t) (ms3 t) (hs3 t) qTabV kTabV (iblk m c 0 t) (iblk m c 1 t) (iblk m c 2 t) q0 q1 (not_diag q1)).2.2 _ a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      iexists d3; iexact H3
    · have i3 := idle_of_not_before q1
      have f3 := flush_of_not_before q1
      rewrite [i3]
      simp only [before_0, before_1, before_2, before_3, after_0, after_1, after_2, after_3, f3]
      unfold Phi; simp only [Fin.val_castSucc, Fin.val_succ, scr_succ, scrStep_A m c t _ q0 q1, outStep_A m c t _ q0 q1]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((runA c (crd t) (ms0 t) (hs0 t) (ms1 t) (hs1 t) (ms2 t) (hs2 t) (ms3 t) (hs3 t) qTabV kTabV (iblk m c 0 t) (iblk m c 1 t) (iblk m c 2 t) q0 q1 (diag q1)).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; exact View.read_writes_of_cover _ _ _ _ _ (coverA c _ _ _ _ _ _ _ _ _ _ _ _ _ _ _ _ _)
  · by_cases q1 : Before t
    · have i3 := idle_of_before q1
      have f3 := flush_of_before q1
      rewrite [i3]
      simp only [before_0, before_1, before_2, before_3, after_0, after_1, after_2, after_3, f3]
      unfold Phi; simp only [Fin.val_castSucc, Fin.val_succ, scr_succ, scrStep_D m c t _ q0 q1]
      have hn := ne_zero_of_not_first q0
      simp only [exists_held hn]
      iintro ⟨⟨HS0, HS1, HT0, HT1⟩, Ho, ⟨%d0, H0⟩, ⟨%d1, H1⟩, ⟨%d2, H2⟩, ⟨%d3, H3⟩⟩
      iapply ((runD c (crd t) (ms0 t) (hs0 t) (ms1 t) (hs1 t) (ms2 t) (hs2 t) (ms3 t) (hs3 t) qTabV kTabV (iblk m c 0 t) (iblk m c 1 t) (iblk m c 2 t) _ _ q0 q1 (not_diag q1)).2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      iexists d3; iexact H3
    · have i3 := idle_of_not_before q1
      have f3 := flush_of_not_before q1
      rewrite [i3]
      simp only [before_0, before_1, before_2, before_3, after_0, after_1, after_2, after_3, f3]
      unfold Phi; simp only [Fin.val_castSucc, Fin.val_succ, scr_succ, scrStep_C m c t _ q0 q1, outStep_C m c t _ q0 q1]
      have hn := ne_zero_of_not_first q0
      simp only [exists_held hn]
      iintro ⟨⟨HS0, HS1, HT0, HT1⟩, Ho, ⟨%d0, H0⟩, ⟨%d1, H1⟩, ⟨%d2, H2⟩, ⟨%d3, H3⟩⟩
      iapply ((runC c (crd t) (ms0 t) (hs0 t) (ms1 t) (hs1 t) (ms2 t) (hs2 t) (ms3 t) (hs3 t) qTabV kTabV (iblk m c 0 t) (iblk m c 1 t) (iblk m c 2 t) _ _ q0 q1 (diag q1)).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; exact View.read_writes_of_cover _ _ _ _ _ (coverC c _ _ _ _ _ _ _ _ _ _ _ _ _ _ _ _ _ _ _)

theorem body_obligation (c : Dev nD) : BodyObligation (dats m 0 c) (defs₀ (F := Bits)) Variants.none () Set.univ := fun t => by
  rw [bigSep_W0]
  exact sound_body m c t

/-! ## The launch -/

def u₀ : UR sig nD τ :=
  initOf (Pipeline.cells pcs ((launch0 (F := Bits)).cellOf_inj fun _ => adm))
    (Pipeline.launchToks pcs ((launch0 (F := Bits)).cellOf_inj fun _ => adm))

theorem share_eq (c : Dev nD) (w : Fin cfgA.W) : (dats m 0 c).share w = fullShare := by unfold Dat.share; split <;> rfl

/-- The memory when the pipeline starts: the two constants of @main are in place. -/
def V (c : Dev nD) (b : Ref sig .tc) : Buf (Elt Bits) ((c : Thread nD τ).loc b) := StableHlo.after hostOps0 (fun b => m (c, b)) b

theorem V_q (c : Dev nD) : V m c main_c = qTabV := by
  unfold V; simp only [StableHlo.after_cons, StableHlo.after_nil]
  rw [StableHlo.nullary_result_ne _ _ _ _ (by decide)]
  exact StableHlo.nullary_result _ _ _ _

theorem V_k (c : Dev nD) : V m c main_c_0 = kTabV := by
  unfold V; simp only [StableHlo.after_cons, StableHlo.after_nil]
  exact StableHlo.nullary_result _ _ _ _

/-- Neither constant is a window's array. -/
theorem V_arr (c : Dev nD) : ∀ w : Fin 4, m ((cfgA.win w).arr.view.loc (c : Thread nD τ)) = V m c (Pipeline.arrRef spec0 w) := by
  have h : ∀ b : Ref sig .tc, b ≠ main_c → b ≠ main_c_0 → V m c b = m ((c : Thread nD τ).loc b) := fun b h0 h1 => by
    unfold V; simp only [StableHlo.after_cons, StableHlo.after_nil]
    rw [StableHlo.nullary_result_ne _ _ _ _ h1, StableHlo.nullary_result_ne _ _ _ _ h0]
  intro w
  fin_cases w
  · exact (h main_arg0 (by decide) (by decide)).symm
  · exact (h main_arg1 (by decide) (by decide)).symm
  · exact (h main_arg2 (by decide) (by decide)).symm
  · exact (h main_v0 (by decide) (by decide)).symm

theorem V_pre (c : Dev nD) (j : Fin 2) : V m c (pre0.ref j) = adm.1 j := by
  fin_cases j
  · exact V_q m c
  · exact V_k m c

/-- The tables as the launch hands them to the region. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) adm.1 ∗ Pipeline.scopedRest spec0 c) ⊢ (dats m 0 c).Φ 0 := by
  rw [prefHeld_eq, scopedRest0_eq, show (dats m 0 c).Φ 0 = Phi m c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

theorem phi_exit (c : Dev nD) : (dats m 0 c).Φ (Fin.last cfgA.N) ⊢ iprop(BI.emp ∗ Pipeline.scopedRest spec0 c) := by
  rw [scopedRest0_eq, show (dats m 0 c).Φ (Fin.last cfgA.N) = Phi m c (Fin.last _) from rfl]
  unfold Phi
  iintro ⟨⟨%a0, -, HS0⟩, ⟨%a1, -, HS1⟩, -, -⟩
  isplitr; · iempintro
  isplitl [HS0]
  · iexists a0; iexact HS0
  iexists a1; iexact HS1

set_option backward.isDefEq.respectTransparency.types false in
set_option maxHeartbeats 4000000 in
/-- Every weakly fair execution of @main terminates without a fault; at the end each window's array holds what the
    pipeline computes, and every semaphore counter is zero. -/
theorem run_main : θ_run (defs (F := Bits)) (onTc (τ := τ) (main (F := Bits))) ⟨m, fun _ => 0, ρ⟩
    (fun r => (∀ (c : Dev nD) (w : Fin cfgA.W), r.2.mem ((cfgA.win w).arr.view.loc (c : Thread nD τ)) = (dats m 0 c).arrAt w cfgA.N)
      ∧ r.2.sem = fun _ => 0) :=
  Pipeline.θ_run_region_noSem_pf_quiescent pcfgs (fun _ => adm) (dats m) () ((launch0 (F := Bits)).cellOf_inj fun _ => adm) (0 : Fin 1)
    (launch0 (F := Bits)).win.to₀ (launch0 (F := Bits)).pre EP defs₀ Variants.none m ρ main
    (hbody := fun c => (body_obligation m c).loose) (hne := (launch0 (F := Bits)).block_pos)
    (harr := (launch0 (F := Bits)).arr_whole) (hstage := (launch0 (F := Bits)).stage_whole) (howed := fun _ _ => rfl)
    (u₀ := u₀) (hu₀ := .rfl)
    (V := V m)
    (hmain := Pipeline.hmainP_prefix pcfgs 0 defs₀ Variants.none m main hostOps0 hostOps0_sub ⟨rfl, rfl⟩ main_chain)
    (hsplit := fun c => Pipeline.arrays_split pcs (dats m) 0 (launch0 (F := Bits)).win.arr_inj c (launch0 (F := Bits)).arr_whole
      (share_eq m c) _ _ (V_arr m c))
    (hpf := V_pre m)
    (X := fun _ => iprop(emp)) (Y := fun _ => iprop(emp)) (Z := fun _ => iprop(emp))
    (hX := fun c => by rw [unscopedRestP0_eq]; iintro -; isplitr <;> iempintro)
    (hin := phi_intro m)
    (hout := phi_exit m)
    (QY := fun _ _ => True)
    (hY := fun c s' => by
      iintro ⟨-, -, HSI⟩; imodintro
      isplitr; · ipureintro; trivial
      iexact HSI)
    (hQ := fun _ h hz => ⟨fun c => (h c).1, hz⟩)

/-- The frame: the run ends, the arguments are unchanged, every semaphore counter is at zero. -/
theorem frame_holds :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c (0 : Fin 4)).trans ((dats m 0 c).arrAt_in (0 : Fin 4) rfl _),
    (h.1 c (1 : Fin 4)).trans ((dats m 0 c).arrAt_in (1 : Fin 4) rfl _), (h.1 c (2 : Fin 4)).trans ((dats m 0 c).arrAt_in (2 : Fin 4) rfl _)⟩, h.2⟩)
    (run_main m ρ)

end Cert.Kernel.Flash

end
-- ==== Proof.KernelIdealTables.lean ====
/-
The two tables of (query tile, key tile) pairs of `KernelIdeal`, the pipeline at these tables, and what the
two tables say at each of the 136 grid points: which point is the first of its query tile, which the last.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables and the scratch buffers the body is handed, whole. -/
abbrev qTab : Memref sig .tc .smem S136 .i32 := Memref.whole main_c
abbrev kTab : Memref sig .tc .smem S136 .i32 := Memref.whole main_c_0
abbrev maxBuf : Memref sig .tc .vmem S8x1024 .f32 := Memref.whole cc0_scratch0
abbrev accBuf : Memref sig .tc .vmem S8x128x1024 .f32 := Memref.whole cc0_scratch1

/-- The query tile and the key tile of each grid point: the two constants of @main. -/
def qTabV : S136.Idx → Elt Ideal .i32 := fun i => lit0 (S136.rowMajor i)
def kTabV : S136.Idx → Elt Ideal .i32 := fun i => lit1 (S136.rowMajor i)

set_option backward.proofsInPublic true in
/-- The contents of the prefetched tables. -/
def tabs : pre0.Contents (Elt Ideal) := fun | ⟨0, _⟩ => qTabV | ⟨1, _⟩ => kTabV | ⟨_ + 2, h⟩ => absurd h (by simp)

/-- Every block the tables name lies inside its array. -/
theorem inside0 : ∀ i : grid0.Coords, ∀ a, (cc0_transform_0 k0_off1_inb numel1_S1 tabs i a + 1) * S8x128x1024.size a ≤ S8x128x16384.size a := by decide +kernel
theorem inside1 : ∀ i : grid0.Coords, ∀ a, (cc0_transform_1 k0_off1_inb numel1_S1 tabs i a + 1) * S8x1024x128.size a ≤ S8x16384x128.size a := by decide +kernel
theorem inside2 : ∀ i : grid0.Coords, ∀ a, (cc0_transform_2 k0_off1_inb numel1_S1 tabs i a + 1) * S8x128x1024.size a ≤ S8x128x16384.size a := by decide +kernel
theorem inside3 : ∀ i : grid0.Coords, ∀ a, (cc0_transform_3 k0_off1_inb numel1_S1 tabs i a + 1) * S1024x1024.size a ≤ S16384x1024.size a := by decide +kernel

/-- The pipeline's side condition at the tables. -/
theorem ok_tabs : ok0 (F := Ideal) tabs :=
  ⟨fun i => ⟨inside0 i, .inr (Affine.block_words_dvd (s := S8x128x16384) (p := EltTy.packing .bf16) (by decide) (by decide))⟩,
   fun i => ⟨inside1 i, .inr (Affine.block_words_dvd (s := S8x16384x128) (p := EltTy.packing .bf16) (by decide) (by decide))⟩,
   fun i => ⟨inside2 i, .inr (Affine.block_words_dvd (s := S8x128x16384) (p := EltTy.packing .bf16) (by decide) (by decide))⟩,
   fun i => ⟨inside3 i, .inr (Affine.block_words_dvd (s := S16384x1024) (p := EltTy.packing .bf16) (by decide) (by decide))⟩⟩

/-- The tables as admissible contents, and the pipeline at them. -/
def adm : (pcfg0 (F := Ideal)).Adm := ⟨tabs, ok_tabs⟩
abbrev cfgA : Pipeline.Cfg sig Λ₀ := cfg0 (F := Ideal) adm
abbrev pcs : Fin 1 → Pipeline.Cfg sig Λ₀ := Pipeline.pin (pcfgs (F := Ideal)) fun _ => adm

/-- The coordinates of point `t`. -/
abbrev crd (t : Fin cfgA.N) : cfgA.grid.Coords := cfgA.grid.coords t

/-- Each window's staging buffer at point `t`, and that it is whole. -/
abbrev ms0 (t : Fin cfgA.N) : Memref sig .tc .vmem S8x128x1024 .bf16 := spec0_0.stage (cfgA.slots t (0 : Fin 4))
abbrev hs0 (t : Fin cfgA.N) : (ms0 t).IsWhole := hstage0_0 ((cfgA.slots t (0 : Fin 4)).cast nbuf0_0)
abbrev ms1 (t : Fin cfgA.N) : Memref sig .tc .vmem S8x1024x128 .bf16 := spec0_1.stage (cfgA.slots t (1 : Fin 4))
abbrev hs1 (t : Fin cfgA.N) : (ms1 t).IsWhole := hstage0_1 ((cfgA.slots t (1 : Fin 4)).cast nbuf0_1)
abbrev ms2 (t : Fin cfgA.N) : Memref sig .tc .vmem S8x128x1024 .bf16 := spec0_2.stage (cfgA.slots t (2 : Fin 4))
abbrev hs2 (t : Fin cfgA.N) : (ms2 t).IsWhole := hstage0_2 ((cfgA.slots t (2 : Fin 4)).cast nbuf0_2)
abbrev ms3 (t : Fin cfgA.N) : Memref sig .tc .vmem S1024x1024 .bf16 := spec0_3.stage (cfgA.slots t (3 : Fin 4))
abbrev hs3 (t : Fin cfgA.N) : (ms3 t).IsWhole := hstage0_3 ((cfgA.slots t (3 : Fin 4)).cast nbuf0_3)

/-- The words the body reads at coordinates `i` from tables holding `T0`, `T1`: its query tile and its key tile. -/
abbrev qWord (i : grid0.Coords) (T0 : S136.Idx → Elt Ideal .i32) : Elt Ideal .i32 := View.readAt (Elt Ideal) qTab.view (Rect.unit (s := S136) (k0_off1 i) S1.size (k0_off1_inb i)).toLoadRect T0 (Shape.Idx.first (numel1_S1.symm ▸ Nat.one_pos))
abbrev kWord (i : grid0.Coords) (T1 : S136.Idx → Elt Ideal .i32) : Elt Ideal .i32 := View.readAt (Elt Ideal) kTab.view (Rect.unit (s := S136) (k0_off1 i) S1.size (k0_off1_inb i)).toLoadRect T1 (Shape.Idx.first (numel1_S1.symm ▸ Nat.one_pos))

/-- The key tile is the first one; it lies before the query tile; it is the query tile (the body's own tests). -/
abbrev IsFirst (i : grid0.Coords) (T1 : S136.Idx → Elt Ideal .i32) : Prop := Scalar.cmpi .ne (Scalar.extui (Scalar.cmpi .eq (kWord i T1) 0#32)) 0#32 = 1#1
abbrev IsBefore (i : grid0.Coords) (T0 T1 : S136.Idx → Elt Ideal .i32) : Prop := Scalar.cmpi .ne (Scalar.extui (Scalar.cmpi .slt (kWord i T1) (qWord i T0))) 0#32 = 1#1
abbrev IsDiag (i : grid0.Coords) (T0 T1 : S136.Idx → Elt Ideal .i32) : Prop := k0_cond3 (qWord i T0) (kWord i T1) = 1#1

/-- The same at point `t`, with the tables of the program. -/
abbrev First (t : Fin cfgA.N) : Prop := IsFirst (crd t) kTabV
abbrev Before (t : Fin cfgA.N) : Prop := IsBefore (crd t) qTabV kTabV
abbrev Diag (t : Fin cfgA.N) : Prop := IsDiag (crd t) qTabV kTabV

/-- What is decided at each point: the key tile is the query tile exactly where it isn't before it; the output
    block is stored and written back exactly there; and the first point begins a query tile. -/
abbrev FactsAt (t : Fin cfgA.N) : Prop :=
  (Before t ↔ ¬Diag t) ∧ cfgA.idle (3 : Fin 4) (cfgA.grid.coords t) = decide (Before t)
    ∧ (cfgA.win (3 : Fin 4)).flush t = !decide (Before t) ∧ (t.val = 0 → First t)

theorem facts_0 : ∀ t : Fin cfgA.N, 0 ≤ t.val → t.val < 17 → FactsAt t := by decide +kernel
theorem facts_17 : ∀ t : Fin cfgA.N, 17 ≤ t.val → t.val < 34 → FactsAt t := by decide +kernel
theorem facts_34 : ∀ t : Fin cfgA.N, 34 ≤ t.val → t.val < 51 → FactsAt t := by decide +kernel
theorem facts_51 : ∀ t : Fin cfgA.N, 51 ≤ t.val → t.val < 68 → FactsAt t := by decide +kernel
theorem facts_68 : ∀ t : Fin cfgA.N, 68 ≤ t.val → t.val < 85 → FactsAt t := by decide +kernel
theorem facts_85 : ∀ t : Fin cfgA.N, 85 ≤ t.val → t.val < 102 → FactsAt t := by decide +kernel
theorem facts_102 : ∀ t : Fin cfgA.N, 102 ≤ t.val → t.val < 119 → FactsAt t := by decide +kernel
theorem facts_119 : ∀ t : Fin cfgA.N, 119 ≤ t.val → t.val < 136 → FactsAt t := by decide +kernel
theorem factsAt (t : Fin cfgA.N) : FactsAt t := by
  have h0 : 0 ≤ t.val := Nat.zero_le _
  rcases Nat.lt_or_ge t.val 17 with h1 | h1; · exact facts_0 t h0 h1
  rcases Nat.lt_or_ge t.val 34 with h2 | h2; · exact facts_17 t h1 h2
  rcases Nat.lt_or_ge t.val 51 with h3 | h3; · exact facts_34 t h2 h3
  rcases Nat.lt_or_ge t.val 68 with h4 | h4; · exact facts_51 t h3 h4
  rcases Nat.lt_or_ge t.val 85 with h5 | h5; · exact facts_68 t h4 h5
  rcases Nat.lt_or_ge t.val 102 with h6 | h6; · exact facts_85 t h5 h6
  rcases Nat.lt_or_ge t.val 119 with h7 | h7; · exact facts_102 t h6 h7
  exact facts_119 t h7 t.isLt

/-- The output's buffer holds nothing to keep before any point: at each point it is either left alone since the
    last write-back, or stored and written back. -/
theorem fresh3 (t : Fin cfgA.N) : cfgA.fresh (3 : Fin 4) t.val = true :=
  Pipeline.Cfg.fresh_tab cfgA (3 : Fin 4) (fun _ => true) rfl (fun t => by
    obtain ⟨-, hi, hf, -⟩ := factsAt t
    rw [hi, hf]; cases decide (Before t) <;> rfl) t.val (Nat.le_of_lt t.isLt)

theorem idle_of_before {t : Fin cfgA.N} (h : Before t) : cfgA.idle (3 : Fin 4) (cfgA.grid.coords t) = true := by
  rw [(factsAt t).2.1]; exact decide_eq_true h
theorem flush_of_before {t : Fin cfgA.N} (h : Before t) : (cfgA.win (3 : Fin 4)).flush t = false := by
  rw [(factsAt t).2.2.1, decide_eq_true h]; rfl
theorem idle_of_not_before {t : Fin cfgA.N} (h : ¬Before t) : cfgA.idle (3 : Fin 4) (cfgA.grid.coords t) = false := by
  rw [(factsAt t).2.1]; exact decide_eq_false h
theorem flush_of_not_before {t : Fin cfgA.N} (h : ¬Before t) : (cfgA.win (3 : Fin 4)).flush t = true := by
  rw [(factsAt t).2.2.1, decide_eq_false h]; rfl
theorem not_diag {t : Fin cfgA.N} (h : Before t) : ¬Diag t := (factsAt t).1.1 h
theorem diag {t : Fin cfgA.N} (h : ¬Before t) : Diag t := not_not.1 fun hd => h ((factsAt t).1.2 hd)
theorem ne_zero_of_not_first {t : Fin cfgA.N} (h : ¬First t) : t.val ≠ 0 := fun h0 => h ((factsAt t).2.2.2 h0)

end Cert.KernelIdeal.Flash

end
-- ==== Proof.KernelIdealRunsAB.lean ====
/-
The body of `KernelIdeal` run on whole buffers, along the control paths A and B: what it leaves in the scratch
buffers and, where it stores it, in the output block, found by running it.
-/
module

public import proofs.«01_k».proof.Proof.KernelIdealTables

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource the proof is written over. -/
local notation "𝕄" => MT nD τ sig Unit (Elt Ideal) ℕ (UR sig nD τ) ℕ

variable (c : Dev nD) (i : grid0.Coords) (arg3 : Memref sig .tc .vmem S8x128x1024 .bf16) (harg3 : arg3.IsWhole)
  (arg4 : Memref sig .tc .vmem S8x1024x128 .bf16) (harg4 : arg4.IsWhole)
  (arg5 : Memref sig .tc .vmem S8x128x1024 .bf16) (harg5 : arg5.IsWhole)
  (arg6 : Memref sig .tc .vmem S1024x1024 .bf16) (harg6 : arg6.IsWhole)
  (T0 T1 : S136.Idx → Elt Ideal .i32)
  (x0 : S8x128x1024.Idx → Elt Ideal .bf16) (x1 : S8x1024x128.Idx → Elt Ideal .bf16) (x2 : S8x128x1024.Idx → Elt Ideal .bf16)

set_option backward.proofsInPublic true in
set_option maxHeartbeats 8000000 in
/-- The only key tile of its query tile: the scratches are filled first, and the output block is stored. -/
def runA (hc0 : IsFirst i T1) (hc1 : ¬IsBefore i T0 T1) (k0_h3 : IsDiag i T0 T1) :
    Σ' (pcs : List (View.Piece (Elt Ideal) S1024x1024 .bf16)) (m₁ : Buf (Elt Ideal) ((c : Thread nD τ).loc cc0_scratch0)), { a₁ : Buf (Elt Ideal) ((c : Thread nD τ).loc cc0_scratch1) //
      ∀ (m₀ : Buf (Elt Ideal) ((c : Thread nD τ).loc cc0_scratch0)) (a₀ : Buf (Elt Ideal) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare.right} T0)
          ∗ (kTab.view.loc (c : Thread nD τ) ↦{fullShare.right} T1)
          ∗ (∃ d, owns (c : Thread nD τ) arg6 fullShare d)
          ∗ (maxBuf.view.loc (c : Thread nD τ) ↦{fullShare} m₀)
          ∗ (accBuf.view.loc (c : Thread nD τ) ↦{fullShare} a₀)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (qTab.view.loc (c : Thread nD τ) ↦{fullShare.right} T0)
              ∗ (kTab.view.loc (c : Thread nD τ) ↦{fullShare.right} T1)
              ∗ (∃ f, arg6.view.loc (c : Thread nD τ) ↦[arg6.view.set]{fullShare} arg6.view.writes (Elt Ideal) f pcs)
              ∗ (maxBuf.view.loc (c : Thread nD τ) ↦{fullShare} m₁)
              ∗ (accBuf.view.loc (c : Thread nD τ) ↦{fullShare} a₁)) -∗ K ⟨⟩))
          ⊢ wp frame (wpE (defs₀ (F := Ideal)) Variants.none c none) Set.univ (cc0_flash_attention i qTab (Memref.isWhole_whole _) kTab (Memref.isWhole_whole _) arg3 harg3 arg4 harg4 arg5 harg5 arg6 harg6 maxBuf (Memref.isWhole_whole _) accBuf (Memref.isWhole_whole _)) K } :=
  ⟨_, _, _, fun m₀ a₀ K => by
    unfold owns
    rw [cc0_flash_attention_eq_skeleton]; unfold cc0_flash_attention_skel
    iintro ⟨H0, H1, H2, HT0, HT1, ⟨%d3, %f3, -, HO3⟩, HS0, HS1, Hk⟩
    have hS0 : maxBuf.IsWhole := Memref.isWhole_whole _
    have hS1 : accBuf.IsWhole := Memref.isWhole_whole _
    have hT0 : qTab.IsWhole := Memref.isWhole_whole _
    have hT1 : kTab.IsWhole := Memref.isWhole_whole _
    sl_exec! (disch := first | exact hc0 | exact hc1 | exact k0_h3)
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- The eight stores of the output block tile it. -/
theorem coverA (hc0 : IsFirst i T1) (hc1 : ¬IsBefore i T0 T1) (k0_h3 : IsDiag i T0 T1) (y : S1024x1024.Idx) :
    ∃ pc ∈ (runA c i arg3 harg3 arg4 harg4 arg5 harg5 arg6 harg6 T0 T1 x0 x1 x2 hc0 hc1 k0_h3).1, y ∈ pc.1.set :=
  View.cover_of_tiledL (runA c i arg3 harg3 arg4 harg4 arg5 harg5 arg6 harg6 T0 T1 x0 x1 x2 hc0 hc1 k0_h3).1 S1024x128.size (by sl_kernel_rfl) y

set_option backward.proofsInPublic true in
set_option maxHeartbeats 8000000 in
/-- The first key tile of several: the scratches are filled first, the output block is left alone. -/
def runB (hc0 : IsFirst i T1) (hc1 : IsBefore i T0 T1) (k0_h3 : ¬IsDiag i T0 T1) :
    Σ' (m₁ : Buf (Elt Ideal) ((c : Thread nD τ).loc cc0_scratch0)), { a₁ : Buf (Elt Ideal) ((c : Thread nD τ).loc cc0_scratch1) //
      ∀ (y3 : S1024x1024.Idx → Elt Ideal .bf16) (m₀ : Buf (Elt Ideal) ((c : Thread nD τ).loc cc0_scratch0)) (a₀ : Buf (Elt Ideal) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare.right} T0)
          ∗ (kTab.view.loc (c : Thread nD τ) ↦{fullShare.right} T1)
          ∗ owns (c : Thread nD τ) arg6 fullShare y3
          ∗ (maxBuf.view.loc (c : Thread nD τ) ↦{fullShare} m₀)
          ∗ (accBuf.view.loc (c : Thread nD τ) ↦{fullShare} a₀)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (qTab.view.loc (c : Thread nD τ) ↦{fullShare.right} T0)
              ∗ (kTab.view.loc (c : Thread nD τ) ↦{fullShare.right} T1)
              ∗ owns (c : Thread nD τ) arg6 fullShare y3
              ∗ (maxBuf.view.loc (c : Thread nD τ) ↦{fullShare} m₁)
              ∗ (accBuf.view.loc (c : Thread nD τ) ↦{fullShare} a₁)) -∗ K ⟨⟩))
          ⊢ wp frame (wpE (defs₀ (F := Ideal)) Variants.none c none) Set.univ (cc0_flash_attention i qTab (Memref.isWhole_whole _) kTab (Memref.isWhole_whole _) arg3 harg3 arg4 harg4 arg5 harg5 arg6 harg6 maxBuf (Memref.isWhole_whole _) accBuf (Memref.isWhole_whole _)) K } :=
  ⟨_, _, fun y3 m₀ a₀ K => by
    unfold owns
    rw [cc0_flash_attention_eq_skeleton]; unfold cc0_flash_attention_skel
    iintro ⟨H0, H1, H2, HT0, HT1, ⟨%f3, %hf3, HO3⟩, HS0, HS1, Hk⟩
    obtain rfl := harg6.eq_unread hf3
    have hS0 : maxBuf.IsWhole := Memref.isWhole_whole _
    have hS1 : accBuf.IsWhole := Memref.isWhole_whole _
    have hT0 : qTab.IsWhole := Memref.isWhole_whole _
    have hT1 : kTab.IsWhole := Memref.isWhole_whole _
    sl_exec! (disch := first | exact hc0 | exact hc1 | exact k0_h3)
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg6.read_unread _
      iexact HO3
    isplitl [HS0]; · iexact HS0
    iexact HS1⟩

end Cert.KernelIdeal.Flash

end
-- ==== Proof.KernelIdealRunsCD.lean ====
/-
The body of `KernelIdeal` run on whole buffers, along the control paths C and D: what it leaves in the scratch
buffers and, where it stores it, in the output block, found by running it.
-/
module

public import proofs.«01_k».proof.Proof.KernelIdealTables

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource the proof is written over. -/
local notation "𝕄" => MT nD τ sig Unit (Elt Ideal) ℕ (UR sig nD τ) ℕ

variable (c : Dev nD) (i : grid0.Coords) (arg3 : Memref sig .tc .vmem S8x128x1024 .bf16) (harg3 : arg3.IsWhole)
  (arg4 : Memref sig .tc .vmem S8x1024x128 .bf16) (harg4 : arg4.IsWhole)
  (arg5 : Memref sig .tc .vmem S8x128x1024 .bf16) (harg5 : arg5.IsWhole)
  (arg6 : Memref sig .tc .vmem S1024x1024 .bf16) (harg6 : arg6.IsWhole)
  (T0 T1 : S136.Idx → Elt Ideal .i32)
  (x0 : S8x128x1024.Idx → Elt Ideal .bf16) (x1 : S8x1024x128.Idx → Elt Ideal .bf16) (x2 : S8x128x1024.Idx → Elt Ideal .bf16)

set_option backward.proofsInPublic true in
set_option maxHeartbeats 8000000 in
/-- The last key tile of several: the scratches carry on, and the output block is stored. -/
def runC (m₀ : Buf (Elt Ideal) ((c : Thread nD τ).loc cc0_scratch0)) (a₀ : Buf (Elt Ideal) ((c : Thread nD τ).loc cc0_scratch1)) (hc0 : ¬IsFirst i T1) (hc1 : ¬IsBefore i T0 T1) (k0_h3 : IsDiag i T0 T1) :
    Σ' (pcs : List (View.Piece (Elt Ideal) S1024x1024 .bf16)) (m₁ : Buf (Elt Ideal) ((c : Thread nD τ).loc cc0_scratch0)), { a₁ : Buf (Elt Ideal) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare.right} T0)
          ∗ (kTab.view.loc (c : Thread nD τ) ↦{fullShare.right} T1)
          ∗ (∃ d, owns (c : Thread nD τ) arg6 fullShare d)
          ∗ (maxBuf.view.loc (c : Thread nD τ) ↦{fullShare} m₀)
          ∗ (accBuf.view.loc (c : Thread nD τ) ↦{fullShare} a₀)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (qTab.view.loc (c : Thread nD τ) ↦{fullShare.right} T0)
              ∗ (kTab.view.loc (c : Thread nD τ) ↦{fullShare.right} T1)
              ∗ (∃ f, arg6.view.loc (c : Thread nD τ) ↦[arg6.view.set]{fullShare} arg6.view.writes (Elt Ideal) f pcs)
              ∗ (maxBuf.view.loc (c : Thread nD τ) ↦{fullShare} m₁)
              ∗ (accBuf.view.loc (c : Thread nD τ) ↦{fullShare} a₁)) -∗ K ⟨⟩))
          ⊢ wp frame (wpE (defs₀ (F := Ideal)) Variants.none c none) Set.univ (cc0_flash_attention i qTab (Memref.isWhole_whole _) kTab (Memref.isWhole_whole _) arg3 harg3 arg4 harg4 arg5 harg5 arg6 harg6 maxBuf (Memref.isWhole_whole _) accBuf (Memref.isWhole_whole _)) K } :=
  ⟨_, _, _, fun K => by
    unfold owns
    rw [cc0_flash_attention_eq_skeleton]; unfold cc0_flash_attention_skel
    iintro ⟨H0, H1, H2, HT0, HT1, ⟨%d3, %f3, -, HO3⟩, HS0, HS1, Hk⟩
    have hS0 : maxBuf.IsWhole := Memref.isWhole_whole _
    have hS1 : accBuf.IsWhole := Memref.isWhole_whole _
    have hT0 : qTab.IsWhole := Memref.isWhole_whole _
    have hT1 : kTab.IsWhole := Memref.isWhole_whole _
    sl_exec! (disch := first | exact hc0 | exact hc1 | exact k0_h3)
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- The eight stores of the output block tile it. -/
theorem coverC (m₀ : Buf (Elt Ideal) ((c : Thread nD τ).loc cc0_scratch0)) (a₀ : Buf (Elt Ideal) ((c : Thread nD τ).loc cc0_scratch1)) (hc0 : ¬IsFirst i T1) (hc1 : ¬IsBefore i T0 T1) (k0_h3 : IsDiag i T0 T1) (y : S1024x1024.Idx) :
    ∃ pc ∈ (runC c i arg3 harg3 arg4 harg4 arg5 harg5 arg6 harg6 T0 T1 x0 x1 x2 m₀ a₀ hc0 hc1 k0_h3).1, y ∈ pc.1.set :=
  View.cover_of_tiledL (runC c i arg3 harg3 arg4 harg4 arg5 harg5 arg6 harg6 T0 T1 x0 x1 x2 m₀ a₀ hc0 hc1 k0_h3).1 S1024x128.size (by sl_kernel_rfl) y

set_option backward.proofsInPublic true in
set_option maxHeartbeats 8000000 in
/-- A key tile between: the scratches carry on, the output block is left alone. -/
def runD (m₀ : Buf (Elt Ideal) ((c : Thread nD τ).loc cc0_scratch0)) (a₀ : Buf (Elt Ideal) ((c : Thread nD τ).loc cc0_scratch1)) (hc0 : ¬IsFirst i T1) (hc1 : IsBefore i T0 T1) (k0_h3 : ¬IsDiag i T0 T1) :
    Σ' (m₁ : Buf (Elt Ideal) ((c : Thread nD τ).loc cc0_scratch0)), { a₁ : Buf (Elt Ideal) ((c : Thread nD τ).loc cc0_scratch1) //
      ∀ (y3 : S1024x1024.Idx → Elt Ideal .bf16) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare.right} T0)
          ∗ (kTab.view.loc (c : Thread nD τ) ↦{fullShare.right} T1)
          ∗ owns (c : Thread nD τ) arg6 fullShare y3
          ∗ (maxBuf.view.loc (c : Thread nD τ) ↦{fullShare} m₀)
          ∗ (accBuf.view.loc (c : Thread nD τ) ↦{fullShare} a₀)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (qTab.view.loc (c : Thread nD τ) ↦{fullShare.right} T0)
              ∗ (kTab.view.loc (c : Thread nD τ) ↦{fullShare.right} T1)
              ∗ owns (c : Thread nD τ) arg6 fullShare y3
              ∗ (maxBuf.view.loc (c : Thread nD τ) ↦{fullShare} m₁)
              ∗ (accBuf.view.loc (c : Thread nD τ) ↦{fullShare} a₁)) -∗ K ⟨⟩))
          ⊢ wp frame (wpE (defs₀ (F := Ideal)) Variants.none c none) Set.univ (cc0_flash_attention i qTab (Memref.isWhole_whole _) kTab (Memref.isWhole_whole _) arg3 harg3 arg4 harg4 arg5 harg5 arg6 harg6 maxBuf (Memref.isWhole_whole _) accBuf (Memref.isWhole_whole _)) K } :=
  ⟨_, _, fun y3 K => by
    unfold owns
    rw [cc0_flash_attention_eq_skeleton]; unfold cc0_flash_attention_skel
    iintro ⟨H0, H1, H2, HT0, HT1, ⟨%f3, %hf3, HO3⟩, HS0, HS1, Hk⟩
    obtain rfl := harg6.eq_unread hf3
    have hS0 : maxBuf.IsWhole := Memref.isWhole_whole _
    have hS1 : accBuf.IsWhole := Memref.isWhole_whole _
    have hT0 : qTab.IsWhole := Memref.isWhole_whole _
    have hT1 : kTab.IsWhole := Memref.isWhole_whole _
    sl_exec! (disch := first | exact hc0 | exact hc1 | exact k0_h3)
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg6.read_unread _
      iexact HO3
    isplitl [HS0]; · iexact HS0
    iexact HS1⟩

end Cert.KernelIdeal.Flash

end
-- ==== Proof.KernelIdealFrame.lean ====
/-
What the output block and the two scratch buffers of `KernelIdeal` hold after each grid point, the body's obligation
at every point, and the run of @main: it terminates, its arguments end unchanged, every semaphore counter is at zero
again, and the output array holds what the points wrote back.
-/
module

public import proofs.«01_k».proof.Proof.KernelIdealRunsAB
public import proofs.«01_k».proof.Proof.KernelIdealRunsCD
public import Idealize.ShloMosaic.Lib.Pipeline.Frame
public import Idealize.ShloMosaic.Lib.StableHlo.Run

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource the proof is written over. -/
local notation "𝕄" => MT nD τ sig Unit (Elt Ideal) ℕ (UR sig nD τ) ℕ

/-- The rounds library's resource, embedded whole. -/
abbrev EP : Emb (UR sig nD τ) 𝕄 := emb₁

variable (m : (ℓ : Loc nD τ sig) → Buf (Elt Ideal) ℓ) (ρ : Dev nD → PrngReg)

/-- The block of window `w` at point `t`, read off its array as it is at launch. -/
def iblk (c : Dev nD) (w : Fin 4) (t : Fin cfgA.N) : ((cfgA.win w).xblock (crd t)).Idx → Elt Ideal (cfgA.win w).elt :=
  ((cfgA.win w).blk t).view.read (Elt Ideal) (m ((cfgA.win w).arr.view.loc (c : Thread nD τ)))

/-- The scratch buffers: the running maximum, the running sums. -/
abbrev Scr (c : Dev nD) : Type := Buf (Elt Ideal) ((c : Thread nD τ).loc cc0_scratch0) × Buf (Elt Ideal) ((c : Thread nD τ).loc cc0_scratch1)

/-- The scratch buffers after the body at point `t`, from what they held before. -/
@[irreducible] def scrStep (c : Dev nD) (t : Fin cfgA.N) (s : Scr c) : Scr c :=
  if q0 : First t then
    if q1 : Before t then ((runB c (crd t) (ms0 t) (hs0 t) (ms1 t) (hs1 t) (ms2 t) (hs2 t) (ms3 t) (hs3 t) qTabV kTabV (iblk m c 0 t) (iblk m c 1 t) (iblk m c 2 t) q0 q1 (not_diag q1)).1, (runB c (crd t) (ms0 t) (hs0 t) (ms1 t) (hs1 t) (ms2 t) (hs2 t) (ms3 t) (hs3 t) qTabV kTabV (iblk m c 0 t) (iblk m c 1 t) (iblk m c 2 t) q0 q1 (not_diag q1)).2.1)
    else ((runA c (crd t) (ms0 t) (hs0 t) (ms1 t) (hs1 t) (ms2 t) (hs2 t) (ms3 t) (hs3 t) qTabV kTabV (iblk m c 0 t) (iblk m c 1 t) (iblk m c 2 t) q0 q1 (diag q1)).2.1, (runA c (crd t) (ms0 t) (hs0 t) (ms1 t) (hs1 t) (ms2 t) (hs2 t) (ms3 t) (hs3 t) qTabV kTabV (iblk m c 0 t) (iblk m c 1 t) (iblk m c 2 t) q0 q1 (diag q1)).2.2.1)
  else
    if q1 : Before t then ((runD c (crd t) (ms0 t) (hs0 t) (ms1 t) (hs1 t) (ms2 t) (hs2 t) (ms3 t) (hs3 t) qTabV kTabV (iblk m c 0 t) (iblk m c 1 t) (iblk m c 2 t) s.1 s.2 q0 q1 (not_diag q1)).1, (runD c (crd t) (ms0 t) (hs0 t) (ms1 t) (hs1 t) (ms2 t) (hs2 t) (ms3 t) (hs3 t) qTabV kTabV (iblk m c 0 t) (iblk m c 1 t) (iblk m c 2 t) s.1 s.2 q0 q1 (not_diag q1)).2.1)
    else ((runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).2.1, (runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).2.2.1)

/-- A buffer the output's stores are read through. -/
abbrev outView : View sig .tc .vmem S1024x1024 .bf16 := (Memref.whole cc0_stg3_0 : Memref sig .tc .vmem S1024x1024 .bf16).view

/-- The output block stored at point `t` (nothing where it is left alone), from what the scratches held before. -/
@[irreducible] def outStep (c : Dev nD) (t : Fin cfgA.N) (s : Scr c) : S1024x1024.Idx → Elt Ideal .bf16 :=
  if q1 : Before t then default else
    if q0 : First t then outView.read (Elt Ideal) (outView.writes (Elt Ideal) outView.junk (runA c (crd t) (ms0 t) (hs0 t) (ms1 t) (hs1 t) (ms2 t) (hs2 t) (ms3 t) (hs3 t) qTabV kTabV (iblk m c 0 t) (iblk m c 1 t) (iblk m c 2 t) q0 q1 (diag q1)).1)
    else outView.read (Elt Ideal) (outView.writes (Elt Ideal) outView.junk (runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).1)

/-- The scratch buffers before position `n` (anything before the first). -/
def scr (c : Dev nD) : (n : ℕ) → n ≤ cfgA.N → Scr c
  | 0, _ => (default, default)
  | n + 1, h => scrStep m c ⟨n, h⟩ (scr c n (Nat.le_of_succ_le h))

theorem scr_succ (c : Dev nD) (t : Fin cfgA.N) (h : t.val + 1 ≤ cfgA.N) :
    scr m c (t.val + 1) h = scrStep m c t (scr m c t.val (Nat.le_of_lt t.isLt)) := rfl

theorem scrStep_A (c : Dev nD) (t : Fin cfgA.N) (s : Scr c) (q0 : First t) (q1 : ¬Before t) :
    scrStep m c t s = ((runA c (crd t) (ms0 t) (hs0 t) (ms1 t) (hs1 t) (ms2 t) (hs2 t) (ms3 t) (hs3 t) qTabV kTabV (iblk m c 0 t) (iblk m c 1 t) (iblk m c 2 t) q0 q1 (diag q1)).2.1, (runA c (crd t) (ms0 t) (hs0 t) (ms1 t) (hs1 t) (ms2 t) (hs2 t) (ms3 t) (hs3 t) qTabV kTabV (iblk m c 0 t) (iblk m c 1 t) (iblk m c 2 t) q0 q1 (diag q1)).2.2.1) := by
  unfold scrStep; simp only [dif_pos q0, dif_neg q1]
theorem outStep_A (c : Dev nD) (t : Fin cfgA.N) (s : Scr c) (q0 : First t) (q1 : ¬Before t) :
    outStep m c t s = outView.read (Elt Ideal) (outView.writes (Elt Ideal) outView.junk (runA c (crd t) (ms0 t) (hs0 t) (ms1 t) (hs1 t) (ms2 t) (hs2 t) (ms3 t) (hs3 t) qTabV kTabV (iblk m c 0 t) (iblk m c 1 t) (iblk m c 2 t) q0 q1 (diag q1)).1) := by
  unfold outStep; simp only [dif_pos q0, dif_neg q1]
theorem scrStep_B (c : Dev nD) (t : Fin cfgA.N) (s : Scr c) (q0 : First t) (q1 : Before t) :
    scrStep m c t s = ((runB c (crd t) (ms0 t) (hs0 t) (ms1 t) (hs1 t) (ms2 t) (hs2 t) (ms3 t) (hs3 t) qTabV kTabV (iblk m c 0 t) (iblk m c 1 t) (iblk m c 2 t) q0 q1 (not_diag q1)).1, (runB c (crd t) (ms0 t) (hs0 t) (ms1 t) (hs1 t) (ms2 t) (hs2 t) (ms3 t) (hs3 t) qTabV kTabV (iblk m c 0 t) (iblk m c 1 t) (iblk m c 2 t) q0 q1 (not_diag q1)).2.1) := by
  unfold scrStep; simp only [dif_pos q0, dif_pos q1]
theorem scrStep_C (c : Dev nD) (t : Fin cfgA.N) (s : Scr c) (q0 : ¬First t) (q1 : ¬Before t) :
    scrStep m c t s = ((runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).2.1, (runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).2.2.1) := by
  unfold scrStep; simp only [dif_neg q0, dif_neg q1]
theorem outStep_C (c : Dev nD) (t : Fin cfgA.N) (s : Scr c) (q0 : ¬First t) (q1 : ¬Before t) :
    outStep m c t s = outView.read (Elt Ideal) (outView.writes (Elt Ideal) outView.junk (runC c (crd t) (ms0 t) (hs0 t) (ms1 t) (hs1 t) (ms2 t) (hs2 t) (ms3 t) (hs3 t) qTabV kTabV (iblk m c 0 t) (iblk m c 1 t) (iblk m c 2 t) s.1 s.2 q0 q1 (diag q1)).1) := by
  unfold outStep; simp only [dif_neg q0, dif_neg q1]
theorem scrStep_D (c : Dev nD) (t : Fin cfgA.N) (s : Scr c) (q0 : ¬First t) (q1 : Before t) :
    scrStep m c t s = ((runD c (crd t) (ms0 t) (hs0 t) (ms1 t) (hs1 t) (ms2 t) (hs2 t) (ms3 t) (hs3 t) qTabV kTabV (iblk m c 0 t) (iblk m c 1 t) (iblk m c 2 t) s.1 s.2 q0 q1 (not_diag q1)).1, (runD c (crd t) (ms0 t) (hs0 t) (ms1 t) (hs1 t) (ms2 t) (hs2 t) (ms3 t) (hs3 t) qTabV kTabV (iblk m c 0 t) (iblk m c 1 t) (iblk m c 2 t) s.1 s.2 q0 q1 (not_diag q1)).2.1) := by
  unfold scrStep; simp only [dif_neg q0, dif_pos q1]

/-- Before position `n`: the scratches at what the points before it left (anything before the first point), and the
    body's halves of the tables. -/
def Phi (c : Dev nD) (n : Fin (cfgA.N + 1)) : sProp 𝕄 :=
  iprop((∃ a, ⌜n.val ≠ 0 → a = (scr m c n.val (Nat.le_of_lt_succ n.isLt)).1⌝ ∗ (maxBuf.view.loc (c : Thread nD τ) ↦{fullShare} a))
    ∗ (∃ a, ⌜n.val ≠ 0 → a = (scr m c n.val (Nat.le_of_lt_succ n.isLt)).2⌝ ∗ (accBuf.view.loc (c : Thread nD τ) ↦{fullShare} a))
    ∗ (qTab.view.loc (c : Thread nD τ) ↦{fullShare.right} qTabV) ∗ (kTab.view.loc (c : Thread nD τ) ↦{fullShare.right} kTabV))

/-- The pipeline's proof data: each input window at its block, the output at what the point stores. -/
def dats (_ : Fin 1) (c : Dev nD) : Dat τ (Elt Ideal) Unit ℕ (UR sig nD τ) ℕ cfgA c where
  A w := m ((cfgA.win w).arr.view.loc (c : Thread nD τ))
  after w t := match w with
    | ⟨0, _⟩ => iblk m c (0 : Fin 4) t
    | ⟨1, _⟩ => iblk m c (1 : Fin 4) t
    | ⟨2, _⟩ => iblk m c (2 : Fin 4) t
    | ⟨3, _⟩ => outStep m c t (scr m c t.val (Nat.le_of_lt t.isLt))
  Φ t := Phi m c t
  q _ := fullShare
  owed _ := 0

theorem after_0 (c : Dev nD) (t : Fin cfgA.N) : (dats m 0 c).after (0 : Fin 4) t = iblk m c (0 : Fin 4) t := rfl
theorem after_1 (c : Dev nD) (t : Fin cfgA.N) : (dats m 0 c).after (1 : Fin 4) t = iblk m c (1 : Fin 4) t := rfl
theorem after_2 (c : Dev nD) (t : Fin cfgA.N) : (dats m 0 c).after (2 : Fin 4) t = iblk m c (2 : Fin 4) t := rfl
theorem after_3 (c : Dev nD) (t : Fin cfgA.N) : (dats m 0 c).after (3 : Fin 4) t = outStep m c t (scr m c t.val (Nat.le_of_lt t.isLt)) := rfl

theorem before_0 (c : Dev nD) (t : Fin cfgA.N) (d) : (dats m 0 c).before (0 : Fin 4) t d = iblk m c (0 : Fin 4) t :=
  ((dats m 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin cfgA.N) (d) : (dats m 0 c).before (1 : Fin 4) t d = iblk m c (1 : Fin 4) t :=
  ((dats m 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin cfgA.N) (d) : (dats m 0 c).before (2 : Fin 4) t d = iblk m c (2 : Fin 4) t :=
  ((dats m 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The output's buffer holds anything when the body runs. -/
theorem before_3 (c : Dev nD) (t : Fin cfgA.N) (d) : (dats m 0 c).before (3 : Fin 4) t d = d := by
  rw [(dats m 0 c).before_out_traj (3 : Fin 4) rfl (fun _ _ => rfl)
    (fun t _ _ hf => by rw [fresh3 t] at hf; exact absurd hf (by decide)) t.val t rfl d]
  simp only [fresh3 t, ↓reduceIte]

/-- The body at point `t` on its buffers, as the pipeline calls it. -/
abbrev bodyAt (t : Fin cfgA.N) : Prog (TpuEff nD τ sig (Elt Ideal) Λ₀ .tc) PUnit :=
  cc0_flash_attention (crd t) (Memref.whole main_c) (Memref.isWhole_whole _) (Memref.whole main_c_0) (Memref.isWhole_whole _) (ms0 t) (hs0 t) (ms1 t) (hs1 t) (ms2 t) (hs2 t) (ms3 t) (hs3 t) (Memref.whole cc0_scratch0) (Memref.isWhole_whole _) (Memref.whole cc0_scratch1) (Memref.isWhole_whole _)

set_option maxHeartbeats 4000000 in
/-- The body's obligation at point `t`, by its control path. -/
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 4) t d))
        ∗ (∃ d, owns (c : Thread nD τ) (ms1 t) fullShare ((dats m 0 c).before (1 : Fin 4) t d))
        ∗ (∃ d, owns (c : Thread nD τ) (ms2 t) fullShare ((dats m 0 c).before (2 : Fin 4) t d))
        ∗ (∃ d, owns (c : Thread nD τ) (ms3 t) fullShare ((dats m 0 c).before (3 : Fin 4) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0, show (dats m 0 c).Φ t.succ = Phi m c t.succ from rfl, show (dats m 0 c).Φ t.castSucc = Phi m c t.castSucc from rfl,
    show (dats m 0 c).owesAt () t.succ = (dats m 0 c).owesAt () t.castSucc from rfl]
  by_cases q0 : First t
  · by_cases q1 : Before t
    · have i3 := idle_of_before q1
      have f3 := flush_of_before q1
      rewrite [i3]
      simp only [before_0, before_1, before_2, before_3, after_0, after_1, after_2, after_3, f3]
      unfold Phi; simp only [Fin.val_castSucc, Fin.val_succ, scr_succ, scrStep_B m c t _ q0 q1]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((runB c (crd t) (ms0 t) (hs0 t) (ms1 t) (hs1 t) (ms2 t) (hs2 t) (ms3 t) (hs3 t) qTabV kTabV (iblk m c 0 t) (iblk m c 1 t) (iblk m c 2 t) q0 q1 (not_diag q1)).2.2 _ a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      iexists d3; iexact H3
    · have i3 := idle_of_not_before q1
      have f3 := flush_of_not_before q1
      rewrite [i3]
      simp only [before_0, before_1, before_2, before_3, after_0, after_1, after_2, after_3, f3]
      unfold Phi; simp only [Fin.val_castSucc, Fin.val_succ, scr_succ, scrStep_A m c t _ q0 q1, outStep_A m c t _ q0 q1]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((runA c (crd t) (ms0 t) (hs0 t) (ms1 t) (hs1 t) (ms2 t) (hs2 t) (ms3 t) (hs3 t) qTabV kTabV (iblk m c 0 t) (iblk m c 1 t) (iblk m c 2 t) q0 q1 (diag q1)).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; exact View.read_writes_of_cover _ _ _ _ _ (coverA c _ _ _ _ _ _ _ _ _ _ _ _ _ _ _ _ _)
  · by_cases q1 : Before t
    · have i3 := idle_of_before q1
      have f3 := flush_of_before q1
      rewrite [i3]
      simp only [before_0, before_1, before_2, before_3, after_0, after_1, after_2, after_3, f3]
      unfold Phi; simp only [Fin.val_castSucc, Fin.val_succ, scr_succ, scrStep_D m c t _ q0 q1]
      have hn := ne_zero_of_not_first q0
      simp only [exists_held hn]
      iintro ⟨⟨HS0, HS1, HT0, HT1⟩, Ho, ⟨%d0, H0⟩, ⟨%d1, H1⟩, ⟨%d2, H2⟩, ⟨%d3, H3⟩⟩
      iapply ((runD c (crd t) (ms0 t) (hs0 t) (ms1 t) (hs1 t) (ms2 t) (hs2 t) (ms3 t) (hs3 t) qTabV kTabV (iblk m c 0 t) (iblk m c 1 t) (iblk m c 2 t) _ _ q0 q1 (not_diag q1)).2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      iexists d3; iexact H3
    · have i3 := idle_of_not_before q1
      have f3 := flush_of_not_before q1
      rewrite [i3]
      simp only [before_0, before_1, before_2, before_3, after_0, after_1, after_2, after_3, f3]
      unfold Phi; simp only [Fin.val_castSucc, Fin.val_succ, scr_succ, scrStep_C m c t _ q0 q1, outStep_C m c t _ q0 q1]
      have hn := ne_zero_of_not_first q0
      simp only [exists_held hn]
      iintro ⟨⟨HS0, HS1, HT0, HT1⟩, Ho, ⟨%d0, H0⟩, ⟨%d1, H1⟩, ⟨%d2, H2⟩, ⟨%d3, H3⟩⟩
      iapply ((runC c (crd t) (ms0 t) (hs0 t) (ms1 t) (hs1 t) (ms2 t) (hs2 t) (ms3 t) (hs3 t) qTabV kTabV (iblk m c 0 t) (iblk m c 1 t) (iblk m c 2 t) _ _ q0 q1 (diag q1)).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; exact View.read_writes_of_cover _ _ _ _ _ (coverC c _ _ _ _ _ _ _ _ _ _ _ _ _ _ _ _ _ _ _)

theorem body_obligation (c : Dev nD) : BodyObligation (dats m 0 c) (defs₀ (F := Ideal)) Variants.none () Set.univ := fun t => by
  rw [bigSep_W0]
  exact sound_body m c t

/-! ## The launch -/

def u₀ : UR sig nD τ :=
  initOf (Pipeline.cells pcs ((launch0 (F := Ideal)).cellOf_inj fun _ => adm))
    (Pipeline.launchToks pcs ((launch0 (F := Ideal)).cellOf_inj fun _ => adm))

theorem share_eq (c : Dev nD) (w : Fin cfgA.W) : (dats m 0 c).share w = fullShare := by unfold Dat.share; split <;> rfl

/-- The memory when the pipeline starts: the two constants of @main are in place. -/
def V (c : Dev nD) (b : Ref sig .tc) : Buf (Elt Ideal) ((c : Thread nD τ).loc b) := StableHlo.after hostOps0 (fun b => m (c, b)) b

theorem V_q (c : Dev nD) : V m c main_c = qTabV := by
  unfold V; simp only [StableHlo.after_cons, StableHlo.after_nil]
  rw [StableHlo.nullary_result_ne _ _ _ _ (by decide)]
  exact StableHlo.nullary_result _ _ _ _

theorem V_k (c : Dev nD) : V m c main_c_0 = kTabV := by
  unfold V; simp only [StableHlo.after_cons, StableHlo.after_nil]
  exact StableHlo.nullary_result _ _ _ _

/-- Neither constant is a window's array. -/
theorem V_arr (c : Dev nD) : ∀ w : Fin 4, m ((cfgA.win w).arr.view.loc (c : Thread nD τ)) = V m c (Pipeline.arrRef spec0 w) := by
  have h : ∀ b : Ref sig .tc, b ≠ main_c → b ≠ main_c_0 → V m c b = m ((c : Thread nD τ).loc b) := fun b h0 h1 => by
    unfold V; simp only [StableHlo.after_cons, StableHlo.after_nil]
    rw [StableHlo.nullary_result_ne _ _ _ _ h1, StableHlo.nullary_result_ne _ _ _ _ h0]
  intro w
  fin_cases w
  · exact (h main_arg0 (by decide) (by decide)).symm
  · exact (h main_arg1 (by decide) (by decide)).symm
  · exact (h main_arg2 (by decide) (by decide)).symm
  · exact (h main_v0 (by decide) (by decide)).symm

theorem V_pre (c : Dev nD) (j : Fin 2) : V m c (pre0.ref j) = adm.1 j := by
  fin_cases j
  · exact V_q m c
  · exact V_k m c

/-- The tables as the launch hands them to the region. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) adm.1 ∗ Pipeline.scopedRest spec0 c) ⊢ (dats m 0 c).Φ 0 := by
  rw [prefHeld_eq, scopedRest0_eq, show (dats m 0 c).Φ 0 = Phi m c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

theorem phi_exit (c : Dev nD) : (dats m 0 c).Φ (Fin.last cfgA.N) ⊢ iprop(BI.emp ∗ Pipeline.scopedRest spec0 c) := by
  rw [scopedRest0_eq, show (dats m 0 c).Φ (Fin.last cfgA.N) = Phi m c (Fin.last _) from rfl]
  unfold Phi
  iintro ⟨⟨%a0, -, HS0⟩, ⟨%a1, -, HS1⟩, -, -⟩
  isplitr; · iempintro
  isplitl [HS0]
  · iexists a0; iexact HS0
  iexists a1; iexact HS1

set_option backward.isDefEq.respectTransparency.types false in
set_option maxHeartbeats 4000000 in
/-- Every weakly fair execution of @main terminates without a fault; at the end each window's array holds what the
    pipeline computes, and every semaphore counter is zero. -/
theorem run_main : θ_run (defs (F := Ideal)) (onTc (τ := τ) (main (F := Ideal))) ⟨m, fun _ => 0, ρ⟩
    (fun r => (∀ (c : Dev nD) (w : Fin cfgA.W), r.2.mem ((cfgA.win w).arr.view.loc (c : Thread nD τ)) = (dats m 0 c).arrAt w cfgA.N)
      ∧ r.2.sem = fun _ => 0) :=
  Pipeline.θ_run_region_noSem_pf_quiescent pcfgs (fun _ => adm) (dats m) () ((launch0 (F := Ideal)).cellOf_inj fun _ => adm) (0 : Fin 1)
    (launch0 (F := Ideal)).win.to₀ (launch0 (F := Ideal)).pre EP defs₀ Variants.none m ρ main
    (hbody := fun c => (body_obligation m c).loose) (hne := (launch0 (F := Ideal)).block_pos)
    (harr := (launch0 (F := Ideal)).arr_whole) (hstage := (launch0 (F := Ideal)).stage_whole) (howed := fun _ _ => rfl)
    (u₀ := u₀) (hu₀ := .rfl)
    (V := V m)
    (hmain := Pipeline.hmainP_prefix pcfgs 0 defs₀ Variants.none m main hostOps0 hostOps0_sub ⟨rfl, rfl⟩ main_chain)
    (hsplit := fun c => Pipeline.arrays_split pcs (dats m) 0 (launch0 (F := Ideal)).win.arr_inj c (launch0 (F := Ideal)).arr_whole
      (share_eq m c) _ _ (V_arr m c))
    (hpf := V_pre m)
    (X := fun _ => iprop(emp)) (Y := fun _ => iprop(emp)) (Z := fun _ => iprop(emp))
    (hX := fun c => by rw [unscopedRestP0_eq]; iintro -; isplitr <;> iempintro)
    (hin := phi_intro m)
    (hout := phi_exit m)
    (QY := fun _ _ => True)
    (hY := fun c s' => by
      iintro ⟨-, -, HSI⟩; imodintro
      isplitr; · ipureintro; trivial
      iexact HSI)
    (hQ := fun _ h hz => ⟨fun c => (h c).1, hz⟩)

/-- The frame: the run ends, the arguments are unchanged, every semaphore counter is at zero. -/
theorem frame_holds :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c (0 : Fin 4)).trans ((dats m 0 c).arrAt_in (0 : Fin 4) rfl _),
    (h.1 c (1 : Fin 4)).trans ((dats m 0 c).arrAt_in (1 : Fin 4) rfl _), (h.1 c (2 : Fin 4)).trans ((dats m 0 c).arrAt_in (2 : Fin 4) rfl _)⟩, h.2⟩)
    (run_main m ρ)

end Cert.KernelIdeal.Flash

end
-- ==== Proof.SoftmaxMath.lean ====
/-
The softmax of a row of scores, computed in tiles: a running maximum and running weighted sums that are rescaled when
the maximum grows end as the sums weighted from the row's own maximum, and their quotient by the sum of the weights is
the softmax's weighted sum. Scores may be bottom (a masked key) and values may be infinite.
-/
module

public import Idealize.ShloMosaic.PureOps.Ideal.Laws
public import Mathlib.Data.EReal.Operations
public import Mathlib.Data.EReal.Inv
public import Mathlib.Analysis.SpecialFunctions.Pow.Real

@[expose] public section

noncomputable section

namespace Cert.Softmax

open Idealize.ShloMosaic
open scoped BigOperators

/-- A nonnegative real factor goes under a finite sum of extended reals. -/
theorem mul_sum_real {ι : Type*} (S : Finset ι) (f : ι → EReal) (c : ℝ) (hc : 0 ≤ c) :
    (c : EReal) * ∑ k ∈ S, f k = ∑ k ∈ S, (c : EReal) * f k := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A real weight is the power of two of the difference of the scores. -/
theorem exp2_sub_real (a b : ℝ) : Ideal.exp2 ((a : EReal) - (b : EReal)) = ((2 : ℝ) ^ (a - b) : ℝ) := by
  rw [← EReal.coe_sub]; rfl

/-- A finite sum of reals, as extended reals. -/
theorem coe_sum {ι : Type*} (S : Finset ι) (f : ι → ℝ) : ((∑ k ∈ S, f k : ℝ) : EReal) = ∑ k ∈ S, (f k : EReal) :=
  map_sum (⟨⟨Real.toEReal, EReal.coe_zero⟩, EReal.coe_add⟩ : ℝ →+ EReal) f S

theorem exp2_bot_sub (b : EReal) : Ideal.exp2 (⊥ - b) = 0 := by
  rw [EReal.bot_sub]; rfl

/-- A sum of weighted values is rescaled when the maximum grows. -/
theorem rescale (n : ℕ) (s v : ℕ → EReal) (M M' : EReal) (hM : M = (Finset.range n).sup s) (hle : M ≤ M') (ht : M' ≠ ⊤) :
    Ideal.exp2 (M - M') * ∑ k ∈ Finset.range n, v k * Ideal.exp2 (s k - M)
      = ∑ k ∈ Finset.range n, v k * Ideal.exp2 (s k - M') := by
  have hk : ∀ k ∈ Finset.range n, s k ≤ M := fun k hk => hM ▸ Finset.le_sup hk
  induction M with
  | top => exact absurd (top_le_iff.mp hle) ht
  | bot =>
    rw [exp2_bot_sub, zero_mul]
    refine (Finset.sum_eq_zero fun k hk' => ?_).symm
    rw [le_bot_iff.mp (hk k hk'), exp2_bot_sub, mul_zero]
  | coe r =>
    induction M' with
    | top => exact absurd rfl ht
    | bot => exact absurd (le_bot_iff.mp hle) (EReal.coe_ne_bot r)
    | coe r' =>
      rw [exp2_sub_real, mul_sum_real _ _ _ (Real.rpow_nonneg (by norm_num) _)]
      refine Finset.sum_congr rfl fun k hk' => ?_
      have hle' := hk k hk'
      generalize s k = t at hle'
      rw [mul_left_comm]
      congr 1
      induction t with
      | top => exact absurd (top_le_iff.mp hle') (EReal.coe_ne_top r)
      | bot => rw [exp2_bot_sub, exp2_bot_sub, mul_zero]
      | coe a =>
        rw [exp2_sub_real, exp2_sub_real, ← EReal.coe_mul, ← Real.rpow_add (by norm_num)]
        congr 2; ring

/-- The state after the first `n` keys: the maximum of their scores, and their values weighted from it. -/
def Upto (s v : ℕ → EReal) (n : ℕ) (M A : EReal) : Prop :=
  M = (Finset.range n).sup s ∧ A = ∑ k ∈ Finset.range n, v k * Ideal.exp2 (s k - M)

theorem upto_zero (s v : ℕ → EReal) : Upto s v 0 ⊥ 0 := ⟨rfl, rfl⟩

theorem sup_range_add (s : ℕ → EReal) (n t : ℕ) :
    (Finset.range (n + t)).sup s = max ((Finset.range n).sup s) (Finset.univ.sup fun y : Fin t => s (n + y.val)) := by
  apply le_antisymm
  · refine Finset.sup_le fun k hk => ?_
    rcases lt_or_ge k n with h | h
    · exact le_max_of_le_left (Finset.le_sup (f := s) (Finset.mem_range.mpr h))
    · refine le_max_of_le_right ?_
      have hk' := Finset.mem_range.mp hk
      have := Finset.le_sup (f := fun y : Fin t => s (n + y.val)) (Finset.mem_univ ⟨k - n, by omega⟩)
      simpa [Nat.add_sub_cancel' h] using this
  · refine max_le (Finset.sup_mono (Finset.range_mono (Nat.le_add_right n t))) (Finset.sup_le fun y _ => ?_)
    exact Finset.le_sup (f := s) (Finset.mem_range.mpr (by have := y.isLt; omega))

/-- One tile of `t` keys more. -/
theorem upto_step (s v : ℕ → EReal) (n t : ℕ) (M A : EReal) (h : Upto s v n M A) (hs : ∀ k < n + t, s k ≠ ⊤) :
    Upto s v (n + t) (max M (Finset.univ.sup fun y : Fin t => s (n + y.val)))
      (Ideal.exp2 (M - max M (Finset.univ.sup fun y : Fin t => s (n + y.val))) * A
        + ∑ y : Fin t, v (n + y.val) * Ideal.exp2 (s (n + y.val) - max M (Finset.univ.sup fun y : Fin t => s (n + y.val)))) := by
  obtain ⟨hM, hA⟩ := h
  have hM' : max M (Finset.univ.sup fun y : Fin t => s (n + y.val)) = (Finset.range (n + t)).sup s := by
    rw [sup_range_add, hM]
  have ht : max M (Finset.univ.sup fun y : Fin t => s (n + y.val)) ≠ ⊤ := by
    rw [hM']
    refine ne_of_lt ((Finset.sup_lt_iff (by exact bot_lt_top)).mpr fun k hk => ?_)
    exact lt_top_iff_ne_top.mpr (hs k (Finset.mem_range.mp hk))
  refine ⟨hM', ?_⟩
  rw [hA, rescale n s v M _ hM (le_max_left _ _) ht, Finset.sum_range_add (fun k => v k * Ideal.exp2 (s k - _)) n t,
    Finset.sum_range (fun x => v (n + x) * Ideal.exp2 (s (n + x) - _))]

theorem log_two : Ideal.log ((2 : ℝ) : EReal) = (Real.log 2 : EReal) := by
  show (if (2 : ℝ) ≤ 0 then (⊥ : EReal) else (Real.log 2 : EReal)) = _
  rw [if_neg (by norm_num)]

/-- A real power of two is the exponential of its exponent times the logarithm of two. -/
theorem exp_scaled (t : EReal) (r : ℝ) (ht : t ≠ ⊤) :
    Ideal.exp (t * (Real.log 2 : EReal) - (r : EReal) * (Real.log 2 : EReal)) = Ideal.exp2 (t - r) := by
  induction t with
  | top => exact absurd rfl ht
  | bot =>
    rw [EReal.bot_mul_of_pos (by exact_mod_cast Real.log_pos (by norm_num)), EReal.bot_sub, EReal.bot_sub]; rfl
  | coe a =>
    rw [exp2_sub_real, ← EReal.coe_mul, ← EReal.coe_mul, ← EReal.coe_sub]
    show ((Real.exp _ : ℝ) : EReal) = _
    rw [Real.rpow_def_of_pos (by norm_num)]
    congr 2; ring

/-- The maximum of scaled scores is the scaled maximum. -/
theorem sup_scaled (N n : ℕ) (s : ℕ → EReal) (hn : n ≤ N) (hz : ∀ k, n ≤ k → k < N → s k = ⊥) (h0 : 0 < N) :
    (Finset.univ.sup fun k : Fin N => s k.val * (Real.log 2 : EReal)) = (Finset.range n).sup s * (Real.log 2 : EReal) := by
  have hl : (0 : EReal) < (Real.log 2 : EReal) := by exact_mod_cast Real.log_pos (by norm_num)
  apply le_antisymm
  · refine Finset.sup_le fun k _ => ?_
    refine mul_le_mul_of_nonneg_right ?_ hl.le
    rcases lt_or_ge k.val n with h | h
    · exact Finset.le_sup (f := s) (Finset.mem_range.mpr h)
    · rw [hz k.val h k.isLt]; exact bot_le
  · rcases Finset.eq_empty_or_nonempty (Finset.range n) with he | hne
    · rw [he, Finset.sup_empty, EReal.bot_mul_of_pos hl]; exact bot_le
    · obtain ⟨k, hk, hk'⟩ := Finset.exists_mem_eq_sup (Finset.range n) hne s
      rw [hk']
      exact Finset.le_sup (f := fun k : Fin N => s k.val * (Real.log 2 : EReal))
        (Finset.mem_univ ⟨k, lt_of_lt_of_le (Finset.mem_range.mp hk) hn⟩)

/-- **The tiled sums' quotient is the softmax's weighted sum.** -/
theorem finish (N n : ℕ) (s v : ℕ → EReal) (M A L : EReal) (h0 : 0 < n) (hn : n ≤ N) (hs : ∀ k < N, s k ≠ ⊤) (hs0 : s 0 ≠ ⊥)
    (hz : ∀ k, n ≤ k → k < N → s k = ⊥) (hA : Upto s v n M A) (hL : Upto s (fun _ => 1) n M L) :
    Ideal.div A L = ∑ k : Fin N,
      Ideal.div (Ideal.exp (s k.val * (Real.log 2 : EReal) - Finset.univ.sup fun k : Fin N => s k.val * (Real.log 2 : EReal)))
        (∑ j : Fin N, Ideal.exp (s j.val * (Real.log 2 : EReal) - Finset.univ.sup fun k : Fin N => s k.val * (Real.log 2 : EReal))) * v k.val := by
  obtain ⟨hM, hA⟩ := hA
  obtain ⟨-, hL⟩ := hL
  rw [sup_scaled N n s hn hz (by omega), ← hM]
  -- the maximum is real
  have hMt : M ≠ ⊤ := by
    rw [hM]
    refine ne_of_lt ((Finset.sup_lt_iff (by exact bot_lt_top)).mpr fun k hk => ?_)
    exact lt_top_iff_ne_top.mpr (hs k (lt_of_lt_of_le (Finset.mem_range.mp hk) hn))
  have hMb : M ≠ ⊥ := by
    intro h
    have : s 0 ≤ M := hM ▸ Finset.le_sup (f := s) (Finset.mem_range.mpr h0)
    exact hs0 (le_bot_iff.mp (h ▸ this))
  obtain ⟨r, rfl⟩ : ∃ r : ℝ, M = (r : EReal) := ⟨M.toReal, (EReal.coe_toReal hMt hMb).symm⟩
  -- the reference's weights are the powers of two
  have hw : ∀ k < N, Ideal.exp (s k * (Real.log 2 : EReal) - (r : EReal) * (Real.log 2 : EReal)) = Ideal.exp2 (s k - r) :=
    fun k hk => exp_scaled (s k) r (hs k hk)
  have hreal : ∀ k < N, ∃ e : ℝ, 0 ≤ e ∧ Ideal.exp2 (s k - r) = (e : EReal) ∧ (s k ≠ ⊥ → 0 < e) := by
    intro k hk
    have ht := hs k hk
    generalize s k = t at ht
    induction t with
    | top => exact absurd rfl ht
    | bot => exact ⟨0, le_rfl, exp2_bot_sub _, fun h => absurd rfl h⟩
    | coe a => exact ⟨_, Real.rpow_nonneg (by norm_num) _, exp2_sub_real a r, fun _ => Real.rpow_pos_of_pos (by norm_num) _⟩
  choose! e he0 he hepos using hreal
  have hsum : ∀ f : ℕ → EReal, (∀ k, n ≤ k → k < N → f k = 0) → ∑ k : Fin N, f k.val = ∑ k ∈ Finset.range n, f k := by
    intro f hf
    rw [← Finset.sum_range f]
    exact (Finset.sum_subset (Finset.range_mono hn) fun k hk hk' => hf k (by simpa using hk') (Finset.mem_range.mp hk)).symm
  have hzero : ∀ k, n ≤ k → k < N → Ideal.exp2 (s k - r) = 0 := fun k h h' => by rw [hz k h h', exp2_bot_sub]
  have hden : ∑ j : Fin N, Ideal.exp (s j.val * (Real.log 2 : EReal) - (r : EReal) * (Real.log 2 : EReal)) = L := by
    rw [hL, Finset.sum_congr rfl fun (j : Fin N) _ => hw j.val j.isLt, hsum (fun k => Ideal.exp2 (s k - r)) hzero]
    simp
  rw [hden]
  have hLr : L = ((∑ k ∈ Finset.range n, e k : ℝ) : EReal) := by
    rw [hL, coe_sum]
    refine Finset.sum_congr rfl fun k hk => ?_
    rw [one_mul, he k (lt_of_lt_of_le (Finset.mem_range.mp hk) hn)]
  have hLpos : 0 < ∑ k ∈ Finset.range n, e k :=
    Finset.sum_pos' (fun k hk => he0 k (lt_of_lt_of_le (Finset.mem_range.mp hk) hn))
      ⟨0, Finset.mem_range.mpr h0, hepos 0 (by omega) hs0⟩
  generalize (∑ k ∈ Finset.range n, e k) = l at hLr hLpos
  have hdiv : ∀ x : EReal, Ideal.div x L = ((l⁻¹ : ℝ) : EReal) * x := by
    intro x
    unfold Ideal.div
    rw [hLr, if_neg (by exact_mod_cast hLpos.ne'), mul_comm, ← EReal.coe_inv]
  rw [hdiv, hA, mul_sum_real _ _ _ (inv_nonneg.mpr hLpos.le)]
  rw [← hsum (fun k => ((l⁻¹ : ℝ) : EReal) * (v k * Ideal.exp2 (s k - r)))
    (fun k h h' => by rw [hzero k h h', mul_zero, mul_zero])]
  refine Finset.sum_congr rfl fun k _ => ?_
  rw [hdiv, hw k.val k.isLt]
  rw [mul_assoc, mul_comm (v k.val)]

end Cert.Softmax
end
end
-- ==== Proof.Attention.lean ====
/-
Causal attention over the whole prompt, entry by entry: the scores a query sees, the values, and the weighted mean.
-/
module

public import proofs.«01_k».proof.Proof.SoftmaxMath

@[expose] public section

noncomputable section

namespace Cert.Attention

open Idealize.ShloMosaic

/-- Head `h`'s product of the query at `x` with the key at `y`. -/
def dot (q : Fin 8 → Fin 128 → Fin 16384 → EReal) (k : Fin 8 → Fin 16384 → Fin 128 → EReal) (h : Fin 8) (x y : Fin 16384) : EReal :=
  ∑ j : Fin 128, k h y j * q h j x

/-- The score the query at `x` gives position `y`: the product up to the query itself, minus infinity past it. -/
def score (q : Fin 8 → Fin 128 → Fin 16384 → EReal) (k : Fin 8 → Fin 16384 → Fin 128 → EReal) (h : Fin 8) (x : Fin 16384) (y : ℕ) : EReal :=
  if hy : y < 16384 then if y ≤ x.val then dot q k h x ⟨y, hy⟩ else ⊥ else ⊥

/-- Head `h`'s value at position `y`, coordinate `d`. -/
def value (v : Fin 8 → Fin 128 → Fin 16384 → EReal) (h : Fin 8) (d : Fin 128) (y : ℕ) : EReal :=
  if hy : y < 16384 then v h d ⟨y, hy⟩ else 0

/-- The scores in natural units, and their largest. -/
def logit (q : Fin 8 → Fin 128 → Fin 16384 → EReal) (k : Fin 8 → Fin 16384 → Fin 128 → EReal) (h : Fin 8) (x y : Fin 16384) : EReal :=
  score q k h x y.val * (Real.log 2 : ℝ)
def top (q : Fin 8 → Fin 128 → Fin 16384 → EReal) (k : Fin 8 → Fin 16384 → Fin 128 → EReal) (h : Fin 8) (x : Fin 16384) : EReal :=
  Finset.univ.sup fun y : Fin 16384 => logit q k h x y

/-- Coordinate `d` of the mean of head `h`'s values under the softmax weights of the query at `x`. -/
def mean (q : Fin 8 → Fin 128 → Fin 16384 → EReal) (k : Fin 8 → Fin 16384 → Fin 128 → EReal) (v : Fin 8 → Fin 128 → Fin 16384 → EReal)
    (h : Fin 8) (d : Fin 128) (x : Fin 16384) : EReal :=
  ∑ y : Fin 16384, Ideal.div (Ideal.exp (logit q k h x y - top q k h x)) (∑ j : Fin 16384, Ideal.exp (logit q k h x j - top q k h x)) * v h d y

section
variable {q : Fin 8 → Fin 128 → Fin 16384 → EReal} {k : Fin 8 → Fin 16384 → Fin 128 → EReal} {v : Fin 8 → Fin 128 → Fin 16384 → EReal}

theorem score_ne_top (hdot : ∀ h x y, dot q k h x y ≠ ⊤ ∧ dot q k h x y ≠ ⊥) (h : Fin 8) (x : Fin 16384) (y : ℕ) : score q k h x y ≠ ⊤ := by
  unfold score
  split_ifs with h1 h2
  · exact (hdot h x _).1
  · exact bot_ne_top
  · exact bot_ne_top

/-- Where the running maximum and sums have met every key up to the query, their quotient is the mean. -/
theorem mean_of_upto (hdot : ∀ h x y, dot q k h x y ≠ ⊤ ∧ dot q k h x y ≠ ⊥) (hone : ∀ h y, v h 64 y = 1)
    (h : Fin 8) (d : Fin 128) (x : Fin 16384) (n : ℕ) (hx : x.val < n) (hn : n ≤ 16384) (M A L : EReal)
    (hA : Softmax.Upto (score q k h x) (value v h d) n M A) (hL : Softmax.Upto (score q k h x) (value v h 64) n M L) :
    Ideal.div A L = mean q k v h d x := by
  have hL' : Softmax.Upto (score q k h x) (fun _ => 1) n M L := by
    refine ⟨hL.1, hL.2.trans (Finset.sum_congr rfl fun y hy => ?_)⟩
    have hy' : y < 16384 := lt_of_lt_of_le (Finset.mem_range.1 hy) hn
    unfold value; rw [dif_pos hy', hone]
  have h0 : score q k h x 0 ≠ ⊥ := by
    unfold score; rw [dif_pos (by omega), if_pos (Nat.zero_le _)]; exact (hdot h x _).2
  have hz : ∀ y, n ≤ y → y < 16384 → score q k h x y = ⊥ := fun y hy hN => by
    unfold score; rw [dif_pos hN, if_neg (by omega)]
  rw [Softmax.finish 16384 n _ _ M A L (by omega) hn (fun y _ => score_ne_top hdot h x y) h0 hz hA hL']
  unfold mean top logit
  refine Finset.sum_congr rfl fun y _ => ?_
  unfold value; rw [dif_pos y.isLt]
end

end Cert.Attention
end
end
-- ==== Proof.KernelIdealPoints.lean ====
/-
Which tile each of the 136 grid points of `KernelIdeal` works at: point by point through the key tiles of each query
tile, up to the query tile itself. Each point's blocks are then rows of the whole arrays.
-/
module

public import proofs.«01_k».proof.Proof.KernelIdealTables
public import Idealize.ShloMosaic.Lib.Pipeline.ValueKit
public import Idealize.ShloMosaic.Lib.Pointwise.Index

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic

/-- The query tile and the key tile of a point. -/
def qT (t : Fin cfgA.N) : ℕ := (cfgA.win (0 : Fin 4)).index t (2 : Fin 3)
def kT (t : Fin cfgA.N) : ℕ := (cfgA.win (1 : Fin 4)).index t (1 : Fin 3)
/-- The point before. -/
def prev (t : Fin cfgA.N) : Fin cfgA.N := ⟨t.val - 1, Nat.lt_of_le_of_lt (Nat.sub_le _ _) t.isLt⟩

/-- What is decided at each point: the blocks' places; the two tests in terms of the tiles; and the point before, in
    the middle of a query tile. -/
abbrev TileAt (t : Fin cfgA.N) : Prop :=
  ((cfgA.win (0 : Fin 4)).index t = (![0, 0, qT t] : Fin 3 → ℕ) ∧ (cfgA.win (1 : Fin 4)).index t = (![0, kT t, 0] : Fin 3 → ℕ)
    ∧ (cfgA.win (2 : Fin 4)).index t = (![0, 0, kT t] : Fin 3 → ℕ) ∧ (cfgA.win (3 : Fin 4)).index t = (![qT t, 0] : Fin 2 → ℕ))
  ∧ qT t < 16 ∧ kT t ≤ qT t ∧ (First t ↔ kT t = 0) ∧ (Before t ↔ kT t < qT t)
  ∧ (¬First t → kT t = kT (prev t) + 1 ∧ qT t = qT (prev t))

theorem tile_0 : ∀ t : Fin cfgA.N, 0 ≤ t.val → t.val < 17 → TileAt t := by decide +kernel
theorem tile_17 : ∀ t : Fin cfgA.N, 17 ≤ t.val → t.val < 34 → TileAt t := by decide +kernel
theorem tile_34 : ∀ t : Fin cfgA.N, 34 ≤ t.val → t.val < 51 → TileAt t := by decide +kernel
theorem tile_51 : ∀ t : Fin cfgA.N, 51 ≤ t.val → t.val < 68 → TileAt t := by decide +kernel
theorem tile_68 : ∀ t : Fin cfgA.N, 68 ≤ t.val → t.val < 85 → TileAt t := by decide +kernel
theorem tile_85 : ∀ t : Fin cfgA.N, 85 ≤ t.val → t.val < 102 → TileAt t := by decide +kernel
theorem tile_102 : ∀ t : Fin cfgA.N, 102 ≤ t.val → t.val < 119 → TileAt t := by decide +kernel
theorem tile_119 : ∀ t : Fin cfgA.N, 119 ≤ t.val → t.val < 136 → TileAt t := by decide +kernel
theorem tileAt (t : Fin cfgA.N) : TileAt t := by
  have h0 : 0 ≤ t.val := Nat.zero_le _
  rcases Nat.lt_or_ge t.val 17 with h1 | h1; · exact tile_0 t h0 h1
  rcases Nat.lt_or_ge t.val 34 with h2 | h2; · exact tile_17 t h1 h2
  rcases Nat.lt_or_ge t.val 51 with h3 | h3; · exact tile_34 t h2 h3
  rcases Nat.lt_or_ge t.val 68 with h4 | h4; · exact tile_51 t h3 h4
  rcases Nat.lt_or_ge t.val 85 with h5 | h5; · exact tile_68 t h4 h5
  rcases Nat.lt_or_ge t.val 102 with h6 | h6; · exact tile_85 t h5 h6
  rcases Nat.lt_or_ge t.val 119 with h7 | h7; · exact tile_102 t h6 h7
  exact tile_119 t h7 t.isLt

end Cert.KernelIdeal.Flash
end
end
-- ==== Proof.KernelIdealHeads.lean ====
module

public import proofs.«01_k».proof.Proof.KernelIdealRunsCD

@[expose] public section
set_option maxRecDepth 16384

noncomputable section
namespace Cert.KernelIdeal.Flash
open Cert.KernelIdeal Cert.KernelIdeal.Gen
open Idealize.ShloMosaic
open Idealize.ShloMosaic.TcCoe Idealize.ShloMosaic.Tactic

/-- The scores of one head's key tile against its query tile: keys down, queries across. -/
def hScore (k : Vec Ideal S1x1024x128 .bf16) (q : Vec Ideal S1x128x1024 .bf16) : FVec Ideal S1024x1024 .f32 :=
  matmul (φ₁ := .bf16) (φ₂ := .bf16) dot_S1024x128_S128x1024_S1024x1024_1_0_0_1_n_n none (shapeCast S1024x128 k shapeCasts_S1x1024x128_S1024x128)
    (shapeCast S128x1024 q shapeCasts_S1x128x1024_S128x1024) (constant S1024x1024 .f32 0x00000000#32)

/-- Scores with the keys after their query masked out. -/
def hMasked (s : FVec Ideal S1024x1024 .f32) : FVec Ideal S1024x1024 .f32 :=
  select (k0_pay48) s (broadcast S1024x1024 (Named.named (F := Ideal) κ "mask" 0xF149F2CA#32))

/-- The running maximum after a tile's scores. -/
def hMax (s : FVec Ideal S1024x1024 .f32) (mr : Vec Ideal S1x1024 .f32) : FVec Ideal S1x1024 .f32 :=
  maximumf mr (shapeCast S1x1024 (multiReduction .maximumf [0] S1024 s 0xFF800000#32 reduces_S1024x1024_S1024 (.inl rfl) rfl) shapeCasts_S1024_S1x1024)

/-- The weights of a tile's keys. -/
def hWeights (s : FVec Ideal S1024x1024 .f32) (mr : Vec Ideal S1x1024 .f32) : FVec Ideal S1024x1024 .bf16 :=
  truncf .bf16 (exp2 (subf s (broadcastTo S1024x1024 (hMax s mr) broadcasts_S1x1024_S1024x1024))) bitsLt_bf16_f32

/-- The running sums after a tile. -/
def hAcc (s : FVec Ideal S1024x1024 .f32) (mr : Vec Ideal S1x1024 .f32) (a : Vec Ideal S1x128x1024 .f32) (v : Vec Ideal S1x128x1024 .bf16) :
    FVec Ideal S1x128x1024 .f32 :=
  shapeCast S1x128x1024 (addf (mulf (broadcastTo S128x1024 (exp2 (subf mr (hMax s mr))) broadcasts_S1x1024_S128x1024)
      (shapeCast S128x1024 a shapeCasts_S1x128x1024_S128x1024))
    (matmul (φ₁ := .bf16) (φ₂ := .bf16) dot_S128x1024_S1024x1024_S128x1024_1_0_0_1_n_n none (shapeCast S128x1024 v shapeCasts_S1x128x1024_S128x1024)
      (hWeights s mr) (constant S128x1024 .f32 0x00000000#32))) shapeCasts_S128x1024_S1x128x1024

/-- One head's output tile: every sum over the sum in row 64, queries down. -/
def hOut (a : Vec Ideal S1x128x1024 .f32) : FVec Ideal S1024x128 .bf16 := k0_pay5 a

theorem inbM : ∀ (h : Fin 8) (a : Fin 2), (![h.val, 0] : Fin 2 → ℕ) a + S1x1024.size a ≤ S8x1024.size a := by decide
theorem inbA : ∀ (h : Fin 8) (a : Fin 3), (![h.val, 0, 0] : Fin 3 → ℕ) a + S1x128x1024.size a ≤ S8x128x1024.size a := by decide
theorem inbK : ∀ (h : Fin 8) (a : Fin 3), (![h.val, 0, 0] : Fin 3 → ℕ) a + S1x1024x128.size a ≤ S8x1024x128.size a := by decide
theorem inbO : ∀ (h : Fin 8) (a : Fin 2), (![0, h.val * 128] : Fin 2 → ℕ) a + S1024x128.size a ≤ S1024x1024.size a := by decide

/-- Head `h`'s row of a buffer of maxima. -/
abbrev rowM (h : Fin 8) : Rect S8x1024 := Rect.unit ![h.val, 0] S1x1024.size (inbM h)
/-- Head `h`'s rows of a buffer of 128 × 1024 a head. -/
abbrev rowA (h : Fin 8) : Rect S8x128x1024 := Rect.unit ![h.val, 0, 0] S1x128x1024.size (inbA h)
/-- Head `h`'s rows of a key tile. -/
abbrev rowK (h : Fin 8) : Rect S8x1024x128 := Rect.unit ![h.val, 0, 0] S1x1024x128.size (inbK h)
/-- Head `h`'s columns of the output block. -/
abbrev colO (h : Fin 8) : Rect S1024x1024 := Rect.unit ![0, h.val * 128] S1024x128.size (inbO h)

/-- The heads, the one stored last first. -/
abbrev heads : List (Fin 8) := [7, 6, 5, 4, 3, 2, 1, 0]

variable (c : Dev nD) (i : grid0.Coords) (arg3 : Memref sig .tc .vmem S8x128x1024 .bf16) (harg3 : arg3.IsWhole)
  (arg4 : Memref sig .tc .vmem S8x1024x128 .bf16) (harg4 : arg4.IsWhole)
  (arg5 : Memref sig .tc .vmem S8x128x1024 .bf16) (harg5 : arg5.IsWhole)
  (arg6 : Memref sig .tc .vmem S1024x1024 .bf16) (harg6 : arg6.IsWhole)
  (T0 T1 : S136.Idx → Elt Ideal .i32)
  (x0 : S8x128x1024.Idx → Elt Ideal .bf16) (x1 : S8x1024x128.Idx → Elt Ideal .bf16) (x2 : S8x128x1024.Idx → Elt Ideal .bf16)
  (m₀ : Buf (Elt Ideal) ((c : Thread nD τ).loc cc0_scratch0)) (a₀ : Buf (Elt Ideal) ((c : Thread nD τ).loc cc0_scratch1))

/-- Head `h`'s scores, from the buffers. -/
def sc (h : Fin 8) : FVec Ideal S1024x1024 .f32 :=
  hScore (View.readAt (Elt Ideal) arg4.view (rowK h).toLoadRect (arg4.view.rep x1)) (View.readAt (Elt Ideal) arg3.view (rowA h).toLoadRect (arg3.view.rep x0))

/-- Head `h`'s values, from the buffer. -/
def vl (h : Fin 8) : Vec Ideal S1x128x1024 .bf16 := View.readAt (Elt Ideal) arg5.view (rowA h).toLoadRect (arg5.view.rep x2)

/-- Head `h`'s maxima before. -/
def mr (h : Fin 8) : Vec Ideal S1x1024 .f32 := View.readAt (Elt Ideal) maxBuf.view (rowM h).toLoadRect m₀
/-- Head `h`'s sums before. -/
def ar (h : Fin 8) : Vec Ideal S1x128x1024 .f32 := View.readAt (Elt Ideal) accBuf.view (rowA h).toLoadRect a₀

/-- What is stored into head `h`'s maxima. -/
abbrev maxPiece (s : Fin 8 → FVec Ideal S1024x1024 .f32) (mr : Fin 8 → Vec Ideal S1x1024 .f32) (h : Fin 8) : View.Piece (Elt Ideal) S8x1024 .f32 :=
  ⟨rowM h, shapeCast S1x1024 (hMax (s h) (mr h)) shapeCasts_S1x1024_S1x1024⟩
/-- What is stored into head `h`'s sums. -/
abbrev accPiece (s : Fin 8 → FVec Ideal S1024x1024 .f32) (mr : Fin 8 → Vec Ideal S1x1024 .f32) (ar : Fin 8 → Vec Ideal S1x128x1024 .f32)
    (v : Fin 8 → Vec Ideal S1x128x1024 .bf16) (h : Fin 8) : View.Piece (Elt Ideal) S8x128x1024 .f32 :=
  ⟨rowA h, hAcc (s h) (mr h) (ar h) (v h)⟩
/-- What is stored into head `h`'s columns of the output block. -/
abbrev outPiece (a : Fin 8 → Vec Ideal S1x128x1024 .f32) (h : Fin 8) : View.Piece (Elt Ideal) S1024x1024 .bf16 :=
  ⟨colO h, hOut (a h)⟩

/-- The pieces stored into the maxima, from every head's scores and maxima before. -/
def maxPieces (s : Fin 8 → FVec Ideal S1024x1024 .f32) (mr : Fin 8 → Vec Ideal S1x1024 .f32) : List (View.Piece (Elt Ideal) S8x1024 .f32) :=
  [maxPiece s mr 7, maxPiece s mr 6, maxPiece s mr 5, maxPiece s mr 4, maxPiece s mr 3, maxPiece s mr 2, maxPiece s mr 1, maxPiece s mr 0]
/-- The pieces stored into the sums. -/
def accPieces (s : Fin 8 → FVec Ideal S1024x1024 .f32) (mr : Fin 8 → Vec Ideal S1x1024 .f32) (ar : Fin 8 → Vec Ideal S1x128x1024 .f32)
    (v : Fin 8 → Vec Ideal S1x128x1024 .bf16) : List (View.Piece (Elt Ideal) S8x128x1024 .f32) :=
  [accPiece s mr ar v 7, accPiece s mr ar v 6, accPiece s mr ar v 5, accPiece s mr ar v 4, accPiece s mr ar v 3, accPiece s mr ar v 2, accPiece s mr ar v 1, accPiece s mr ar v 0]

/-- The pieces stored into the output block, from every head's sums. -/
def outPieces (a : Fin 8 → Vec Ideal S1x128x1024 .f32) : List (View.Piece (Elt Ideal) S1024x1024 .bf16) :=
  [outPiece a 7, outPiece a 6, outPiece a 5, outPiece a 4, outPiece a 3, outPiece a 2, outPiece a 1, outPiece a 0]

/-- The maxima stored over a fill, head by head: each head reads its row of what is stored so far. -/
def stackM (s : Fin 8 → FVec Ideal S1024x1024 .f32) : ℕ → List (View.Piece (Elt Ideal) S8x1024 .f32)
  | 0 => [⟨Rect.unit ![0, 0] S8x1024.size inb_S8x1024_S8x1024_0_0, k0_pay1 (F := Ideal)⟩]
  | n + 1 => maxPiece s (fun h => maxBuf.view.readCov (stackM s n) (rowM h).toLoadRect) (Fin.ofNat 8 n) :: stackM s n
/-- The sums stored over a fill, head by head. -/
def stackA (s : Fin 8 → FVec Ideal S1024x1024 .f32) (v : Fin 8 → Vec Ideal S1x128x1024 .bf16) : ℕ → List (View.Piece (Elt Ideal) S8x128x1024 .f32)
  | 0 => [⟨Rect.unit ![0, 0, 0] S8x128x1024.size inb_S8x128x1024_S8x128x1024_0_0_0, k0_pay2 (F := Ideal)⟩]
  | n + 1 => accPiece s (fun h => maxBuf.view.readCov (stackM s n) (rowM h).toLoadRect)
      (fun h => accBuf.view.readCov (stackA s v n) (rowA h).toLoadRect) v (Fin.ofNat 8 n) :: stackA s v n

end Cert.KernelIdeal.Flash
end
end
-- ==== Proof.KernelIdealHeadValue.lean ====
/-
One head's work on a tile, read entry by entry: its scores, its running maximum, its running sums and its output tile.
-/
module

public import proofs.«01_k».proof.Proof.KernelIdealHeads
public import Idealize.ShloMosaic.Lib.Pipeline.ValueKit
public import Idealize.ShloMosaic.Lib.WordCmp

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic

/-- A key's score against a query: the product of their 128 coordinates. -/
theorem hScore_apply (k : Vec Ideal S1x1024x128 .bf16) (q : Vec Ideal S1x128x1024 .bf16) (y x : Fin 1024) :
    hScore k q (ix2 y x) = ∑ j : Fin 128, (k (ix3 0 y j) : EReal) * (q (ix3 0 j x) : EReal) := by
  unfold hScore
  simp only [pointwise]
  simp

/-- A masked score is the score up to the query and bottom after it. -/
theorem hMasked_apply (s : FVec Ideal S1024x1024 .f32) (y x : Fin 1024) :
    hMasked s (ix2 y x) = if y ≤ x then (s (ix2 y x) : EReal) else ⊥ := by
  unfold hMasked k0_pay48
  simp only [pointwise]
  rw [show Named.named (F := Ideal) κ "mask" (φ := .f32) 0xF149F2CA#32 = (⊥ : EReal) from rfl,
    show IntOp.cmpi .sle (BitVec.ofNat 32 (List.foldl (fun n a => n * ![1024, 1024] a + ((ix2 y x : S1024x1024.Idx) a).val) 0 [0]))
        (BitVec.ofNat 32 (List.foldl (fun n a => n * ![1024, 1024] a + ((ix2 y x : S1024x1024.Idx) a).val) 0 [1]))
      = BitVec.ofBool (decide (y.val ≤ x.val)) from by
        have e0 : List.foldl (fun n a => n * ![1024, 1024] a + ((ix2 y x : S1024x1024.Idx) a).val) 0 [0] = y.val := by simp
        have e1 : List.foldl (fun n a => n * ![1024, 1024] a + ((ix2 y x : S1024x1024.Idx) a).val) 0 [1] = x.val := by simp
        rw [e0, e1]
        exact WordCmp.cmpi_sle_ofNat (by have := y.isLt; omega) (by have := x.isLt; omega)]
  unfold Scalar.select
  by_cases h : y ≤ x
  · rw [if_pos h, decide_eq_true (show y.val ≤ x.val from h)]; rfl
  · rw [if_neg h, decide_eq_false (show ¬ y.val ≤ x.val from h)]; rfl

/-- The new maximum of a query. -/
theorem hMax_apply (s : FVec Ideal S1024x1024 .f32) (mr : Vec Ideal S1x1024 .f32) (x : Fin 1024) :
    hMax s mr (ix2 0 x) = max (mr (ix2 0 x) : EReal) (Finset.univ.sup fun y : Fin 1024 => (s (ix2 y x) : EReal)) := by
  unfold hMax
  simp only [pointwise]
  rw [show Ideal.ofBits FTy.f32 4286578688#32 = (⊥ : EReal) from by simp [Ideal.ofBits, Ideal.ieee]]
  rfl

/-- The new sums of a query. -/
theorem hAcc_apply (s : FVec Ideal S1024x1024 .f32) (mr : Vec Ideal S1x1024 .f32) (a : Vec Ideal S1x128x1024 .f32)
    (v : Vec Ideal S1x128x1024 .bf16) (d : Fin 128) (x : Fin 1024) :
    hAcc s mr a v (ix3 0 d x) = Ideal.exp2 ((mr (ix2 0 x) : EReal) - hMax s mr (ix2 0 x)) * (a (ix3 0 d x) : EReal)
      + ∑ y : Fin 1024, (v (ix3 0 d y) : EReal) * Ideal.exp2 ((s (ix2 y x) : EReal) - hMax s mr (ix2 0 x)) := by
  unfold hAcc hWeights
  generalize hMax s mr = M
  simp only [pointwise]
  rw [zero_add]
  rfl

/-- The output of a query. -/
theorem hOut_apply (a : Vec Ideal S1x128x1024 .f32) (x : Fin 1024) (d : Fin 128) :
    hOut a (ix2 x d) = Ideal.div (a (ix3 0 d x) : EReal) (a (ix3 0 64 x) : EReal) := by
  unfold hOut k0_pay5
  simp only [pointwise]
  congr 2
  ext a
  fin_cases a <;> simp

end Cert.KernelIdeal.Flash
end
end
-- ==== Proof.KernelIdealBuffers.lean ====
/-
What the stores of the eight heads leave in the buffers, read entry by entry.
-/
module

public import proofs.«01_k».proof.Proof.KernelIdealHeadValue
public import Idealize.ShloMosaic.Lib.Pipeline.ReadBack

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic

/-! ## Where a head's row lies -/

theorem rowM_idx (h : Fin 8) (x : S1x1024.Idx) : (rowM h).idx x = (ix2 h (x 1 : Fin 1024) : S8x1024.Idx) := by
  have h0 : (x 0).val = 0 := by have : (x 0).val < 1 := (x 0).isLt; omega
  funext a; apply Fin.ext
  match a with
  | ⟨0, _⟩ => show h.val + 1 * (x 0).val = h.val; omega
  | ⟨1, _⟩ => show 0 + 1 * (x 1).val = (x 1).val; omega

theorem rowA_idx (h : Fin 8) (x : S1x128x1024.Idx) : (rowA h).idx x = (ix3 h (x 1 : Fin 128) (x 2 : Fin 1024) : S8x128x1024.Idx) := by
  have h0 : (x 0).val = 0 := by have : (x 0).val < 1 := (x 0).isLt; omega
  funext a; apply Fin.ext
  match a with
  | ⟨0, _⟩ => show h.val + 1 * (x 0).val = h.val; omega
  | ⟨1, _⟩ => show 0 + 1 * (x 1).val = (x 1).val; omega
  | ⟨2, _⟩ => show 0 + 1 * (x 2).val = (x 2).val; omega

theorem rowK_idx (h : Fin 8) (x : S1x1024x128.Idx) : (rowK h).idx x = (ix3 h (x 1 : Fin 1024) (x 2 : Fin 128) : S8x1024x128.Idx) := by
  have h0 : (x 0).val = 0 := by have : (x 0).val < 1 := (x 0).isLt; omega
  funext a; apply Fin.ext
  match a with
  | ⟨0, _⟩ => show h.val + 1 * (x 0).val = h.val; omega
  | ⟨1, _⟩ => show 0 + 1 * (x 1).val = (x 1).val; omega
  | ⟨2, _⟩ => show 0 + 1 * (x 2).val = (x 2).val; omega

/-- The column of the output block that holds head `h`'s coordinate `d`. -/
def ocol (h : Fin 8) (d : Fin 128) : Fin 1024 := ⟨h.val * 128 + d.val, by have := h.isLt; have := d.isLt; omega⟩

/-- The head a column of the output block belongs to. -/
def colHead (j : Fin 1024) : Fin 8 := ⟨j.val / 128, by have := j.isLt; omega⟩

theorem colO_idx (h : Fin 8) (x : S1024x128.Idx) : (colO h).idx x = (ix2 (x 0 : Fin 1024) (ocol h (x 1)) : S1024x1024.Idx) := by
  funext a; apply Fin.ext
  match a with
  | ⟨0, _⟩ => show 0 + 1 * (x 0).val = (x 0).val; omega
  | ⟨1, _⟩ => show h.val * 128 + 1 * (x 1).val = h.val * 128 + (x 1).val; omega

theorem mem_heads (h : Fin 8) : h ∈ heads := by revert h; decide

/-! ## Lists of pieces, one a head -/

theorem piecesOf_map {s : Shape} {e : EltTy} (G : s.Idx → Elt Ideal e) (P : Fin 8 → View.Piece (Elt Ideal) s e)
    (hP : ∀ h, ∀ x : (P h).1.shape.Idx, (P h).2 x = G ((P h).1.emb x)) :
    View.PiecesOf G [P 7, P 6, P 5, P 4, P 3, P 2, P 1, P 0] :=
  ⟨hP 7, hP 6, hP 5, hP 4, hP 3, hP 2, hP 1, hP 0, trivial⟩

theorem mem_pieces {s : Shape} {e : EltTy} (P : Fin 8 → View.Piece (Elt Ideal) s e) (h : Fin 8) :
    P h ∈ [P 7, P 6, P 5, P 4, P 3, P 2, P 1, P 0] := by
  fin_cases h <;> simp

/-- A buffer stored head by head, over anything, holds at each head's entries what that head stored. -/
theorem canon_heads {s : Shape} {e : EltTy} (G : s.Idx → Elt Ideal e) (P : Fin 8 → View.Piece (Elt Ideal) s e)
    (L : List (View.Piece (Elt Ideal) s e))
    (hP : ∀ h, ∀ x : (P h).1.shape.Idx, (P h).2 x = G ((P h).1.emb x)) (h : Fin 8) (x : (P h).1.shape.Idx) :
    View.canon ([P 7, P 6, P 5, P 4, P 3, P 2, P 1, P 0] ++ L) ((P h).1.idx x) = (P h).2 x := by
  rw [View.canon_append_of_piecesOf G L _ (piecesOf_map G P hP) _ ⟨P h, mem_pieces P h, (P h).1.idx_mem x⟩]
  exact (hP h x).symm

variable (s : Fin 8 → FVec Ideal S1024x1024 .f32) (mr : Fin 8 → Vec Ideal S1x1024 .f32) (ar : Fin 8 → Vec Ideal S1x128x1024 .f32)
  (v : Fin 8 → Vec Ideal S1x128x1024 .bf16)

theorem canon_max (L : List (View.Piece (Elt Ideal) S8x1024 .f32)) (h : Fin 8) (x : Fin 1024) :
    View.canon (maxPieces s mr ++ L) (ix2 h x) = hMax (s h) (mr h) (ix2 0 x) := by
  have := canon_heads (fun y => hMax (s (y 0)) (mr (y 0)) (ix2 0 (y 1 : Fin 1024))) (maxPiece s mr) L (fun h x => by
    show shapeCast S1x1024 (hMax (s h) (mr h)) _ x = _
    rw [shapeCast_id]
    show _ = (fun y : S8x1024.Idx => hMax (s (y 0)) (mr (y 0)) (ix2 0 (y 1 : Fin 1024))) ((rowM h).idx x)
    rw [rowM_idx]
    exact congrArg (hMax (s h) (mr h)) (by
      funext a; apply Fin.ext
      match a with
      | ⟨0, _⟩ => show (x 0).val = 0; have : (x 0).val < 1 := (x 0).isLt; omega
      | ⟨1, _⟩ => rfl)) h (ix2 0 x)
  rw [show (maxPiece s mr h).1.idx (ix2 0 x) = (rowM h).idx (ix2 0 x : S1x1024.Idx) from rfl, rowM_idx] at this
  refine this.trans ?_
  show shapeCast S1x1024 (hMax (s h) (mr h)) _ (ix2 0 x) = _
  rw [shapeCast_id]

theorem canon_acc (L : List (View.Piece (Elt Ideal) S8x128x1024 .f32)) (h : Fin 8) (d : Fin 128) (x : Fin 1024) :
    View.canon (accPieces s mr ar v ++ L) (ix3 h d x) = hAcc (s h) (mr h) (ar h) (v h) (ix3 0 d x) := by
  have := canon_heads (fun y => hAcc (s (y 0)) (mr (y 0)) (ar (y 0)) (v (y 0)) (ix3 0 (y 1 : Fin 128) (y 2 : Fin 1024)))
    (accPiece s mr ar v) L (fun h x => by
      show hAcc (s h) (mr h) (ar h) (v h) x = (fun y : S8x128x1024.Idx => hAcc (s (y 0)) (mr (y 0)) (ar (y 0)) (v (y 0)) (ix3 0 (y 1 : Fin 128) (y 2 : Fin 1024))) ((rowA h).idx x)
      rw [rowA_idx]
      exact congrArg (hAcc (s h) (mr h) (ar h) (v h)) (by
        funext a; apply Fin.ext
        match a with
        | ⟨0, _⟩ => show (x 0).val = 0; have : (x 0).val < 1 := (x 0).isLt; omega
        | ⟨1, _⟩ => rfl
        | ⟨2, _⟩ => rfl)) h (ix3 0 d x)
  rw [show (accPiece s mr ar v h).1.idx (ix3 0 d x) = (rowA h).idx (ix3 0 d x : S1x128x1024.Idx) from rfl, rowA_idx] at this
  exact this

theorem canon_out (h : Fin 8) (d : Fin 128) (x : Fin 1024) :
    View.canon (outPieces ar) (ix2 x (ocol h d)) = hOut (ar h) (ix2 x d) := by
  have := canon_heads (fun y => hOut (ar (colHead (y 1)))
      (ix2 (y 0 : Fin 1024) (⟨(y 1 : Fin 1024).val % 128, Nat.mod_lt _ (by norm_num)⟩ : Fin 128)))
    (outPiece ar) [] (fun h x => by
      show hOut (ar h) x = (fun y : S1024x1024.Idx => hOut (ar (colHead (y 1)))
        (ix2 (y 0 : Fin 1024) (⟨(y 1 : Fin 1024).val % 128, Nat.mod_lt _ (by norm_num)⟩ : Fin 128))) ((colO h).idx x)
      rw [colO_idx]
      have hx : (x 1).val < 128 := (x 1).isLt
      have e1 : colHead (ocol h (x 1)) = h :=
        Fin.ext (show (h.val * 128 + (x 1).val) / 128 = h.val by omega)
      show hOut (ar h) x = hOut (ar (colHead (ocol h (x 1)))) (ix2 (x 0 : Fin 1024) (⟨(ocol h (x 1)).val % 128, _⟩ : Fin 128))
      rw [e1]
      exact congrArg (hOut (ar h)) (by
        funext a; apply Fin.ext
        match a with
        | ⟨0, _⟩ => rfl
        | ⟨1, _⟩ => show (x 1).val = (h.val * 128 + (x 1).val) % 128; omega)) h (ix2 x d)
  rw [List.append_nil] at this
  rw [show (outPiece ar h).1.idx (ix2 x d) = (colO h).idx (ix2 x d : S1024x128.Idx) from rfl, colO_idx] at this
  exact this

/-! ## The stores over a fill -/

theorem disjM : ∀ a b : Fin 8, a ≠ b → LoadRect.disj (rowM a) (rowM b).toLoadRect = true := by decide
theorem disjA : ∀ a b : Fin 8, a ≠ b → LoadRect.disj (rowA a) (rowA b).toLoadRect = true := by decide

/-- The maxima begin at bottom, the sums at zero. -/
def fillM : Vec Ideal S1x1024 .f32 := fun _ => (⊥ : EReal)
def fillA : Vec Ideal S1x128x1024 .f32 := fun _ => (0 : EReal)

theorem pay1_eq : k0_pay1 (F := Ideal) = fun _ => (⊥ : EReal) := rfl
theorem pay2_eq : k0_pay2 (F := Ideal) = fun _ => (0 : EReal) := by
  unfold k0_pay2
  funext i
  show Ideal.ofBits .f32 0x00000000#32 = 0
  simp [Ideal.ofBits, Ideal.ieee]

theorem readCov_stackM (n : ℕ) (h : Fin 8) (hn : n ≤ h.val) : maxBuf.view.readCov (stackM s n) (rowM h).toLoadRect = fillM := by
  induction n with
  | zero => unfold stackM; rw [View.readCov_fill _ _ _ _ _ (by decide), pay1_eq]; rfl
  | succ n ih =>
    unfold stackM
    rw [View.readCov_skip _ _ _ _ _ (disjM _ _ (fun e => by
      have := congrArg Fin.val e; rw [Fin.val_ofNat, Nat.mod_eq_of_lt (by have := h.isLt; omega)] at this; omega))]
    exact ih (by omega)

theorem readCov_stackA (n : ℕ) (h : Fin 8) (hn : n ≤ h.val) : accBuf.view.readCov (stackA s v n) (rowA h).toLoadRect = fillA := by
  induction n with
  | zero => unfold stackA; rw [View.readCov_fill _ _ _ _ _ (by decide), pay2_eq]; rfl
  | succ n ih =>
    unfold stackA
    rw [View.readCov_skip _ _ _ _ _ (disjA _ _ (fun e => by
      have := congrArg Fin.val e; rw [Fin.val_ofNat, Nat.mod_eq_of_lt (by have := h.isLt; omega)] at this; omega))]
    exact ih (by omega)

theorem stackM_succ (n : ℕ) (hn : n < 8) : stackM s (n + 1) = maxPiece s (fun _ => fillM) ⟨n, hn⟩ :: stackM s n := by
  have e : Fin.ofNat 8 n = ⟨n, hn⟩ := Fin.ext (Nat.mod_eq_of_lt hn)
  rw [stackM, e]; unfold maxPiece; beta_reduce; rw [readCov_stackM s n ⟨n, hn⟩ le_rfl]

theorem stackA_succ (n : ℕ) (hn : n < 8) : stackA s v (n + 1) = accPiece s (fun _ => fillM) (fun _ => fillA) v ⟨n, hn⟩ :: stackA s v n := by
  have e : Fin.ofNat 8 n = ⟨n, hn⟩ := Fin.ext (Nat.mod_eq_of_lt hn)
  rw [stackA, e]; unfold accPiece; beta_reduce; rw [readCov_stackM s n ⟨n, hn⟩ le_rfl, readCov_stackA s v n ⟨n, hn⟩ le_rfl]

theorem stackM_eq : stackM s 8 = maxPieces s (fun _ => fillM) ++ stackM s 0 := by
  rw [stackM_succ s 7 (by omega), stackM_succ s 6 (by omega), stackM_succ s 5 (by omega), stackM_succ s 4 (by omega),
    stackM_succ s 3 (by omega), stackM_succ s 2 (by omega), stackM_succ s 1 (by omega), stackM_succ s 0 (by omega)]
  rfl

theorem stackA_eq : stackA s v 8 = accPieces s (fun _ => fillM) (fun _ => fillA) v ++ stackA s v 0 := by
  rw [stackA_succ s v 7 (by omega), stackA_succ s v 6 (by omega), stackA_succ s v 5 (by omega), stackA_succ s v 4 (by omega),
    stackA_succ s v 3 (by omega), stackA_succ s v 2 (by omega), stackA_succ s v 1 (by omega), stackA_succ s v 0 (by omega)]
  rfl

end Cert.KernelIdeal.Flash
end
end
-- ==== Proof.KernelIdealBlocks.lean ====
/-
The blocks of `KernelIdeal` as rows of the whole arrays: a point's queries, keys and values, and the rows of the output
it writes back.
-/
module

public import proofs.«01_k».proof.Proof.KernelIdealPoints
public import proofs.«01_k».proof.Proof.KernelIdealBuffers
public import proofs.«01_k».proof.Proof.KernelIdealFrame

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic

theorem qRow_lt (t : Fin cfgA.N) (x : Fin 1024) : qT t * 1024 + x.val < 16384 := by
  have := (tileAt t).2.1; omega
theorem kRow_lt (t : Fin cfgA.N) (y : Fin 1024) : kT t * 1024 + y.val < 16384 := by
  have := (tileAt t).2.1; have := (tileAt t).2.2.1; omega
/-- The position of a point's query `x`, and of its key `y`. -/
def qRow (t : Fin cfgA.N) (x : Fin 1024) : Fin 16384 := ⟨qT t * 1024 + x.val, qRow_lt t x⟩
def kRow (t : Fin cfgA.N) (y : Fin 1024) : Fin 16384 := ⟨kT t * 1024 + y.val, kRow_lt t y⟩

theorem emb_0 (t : Fin cfgA.N) (h : Fin 8) (j : Fin 128) (x : Fin 1024) :
    ((cfgA.win (0 : Fin 4)).blk t).view.emb (ix3 h j x : S8x128x1024.Idx) = (ix3 h j (qRow t x) : S8x128x16384.Idx) := by
  have e := (tileAt t).1.1
  refine funext fun a => Fin.ext ?_
  fin_cases a <;> blk_simp [e] <;> rfl

theorem emb_1 (t : Fin cfgA.N) (h : Fin 8) (y : Fin 1024) (j : Fin 128) :
    ((cfgA.win (1 : Fin 4)).blk t).view.emb (ix3 h y j : S8x1024x128.Idx) = (ix3 h (kRow t y) j : S8x16384x128.Idx) := by
  have e := (tileAt t).1.2.1
  refine funext fun a => Fin.ext ?_
  fin_cases a <;> blk_simp [e] <;> rfl

theorem emb_2 (t : Fin cfgA.N) (h : Fin 8) (d : Fin 128) (y : Fin 1024) :
    ((cfgA.win (2 : Fin 4)).blk t).view.emb (ix3 h d y : S8x128x1024.Idx) = (ix3 h d (kRow t y) : S8x128x16384.Idx) := by
  have e := (tileAt t).1.2.2.1
  refine funext fun a => Fin.ext ?_
  fin_cases a <;> blk_simp [e] <;> rfl

theorem emb_3 (t : Fin cfgA.N) (x : Fin 1024) (l : Fin 1024) :
    ((cfgA.win (3 : Fin 4)).blk t).view.emb (ix2 x l : S1024x1024.Idx) = (ix2 (qRow t x) l : S16384x1024.Idx) := by
  have e := (tileAt t).1.2.2.2
  refine funext fun a => Fin.ext ?_
  fin_cases a <;> blk_simp [e] <;> rfl

/-- The written-back blocks make up the output. -/
theorem covers_3 : (cfgA.win (3 : Fin 4)).Covers := by decide +kernel

end Cert.KernelIdeal.Flash
end
end
-- ==== Proof.KernelIdealOpened.lean ====
module

public import proofs.«01_k».proof.Proof.KernelIdealHeads
public import proofs.«01_k».proof.Proof.KernelIdealRunsAB

@[expose] public section
set_option maxRecDepth 16384

noncomputable section
namespace Cert.KernelIdeal.Flash
open Cert.KernelIdeal Cert.KernelIdeal.Gen
open Idealize.ShloMosaic
open Idealize.ShloMosaic.TcCoe Idealize.ShloMosaic.Tactic

variable (c : Dev nD) (i : grid0.Coords) (arg3 : Memref sig .tc .vmem S8x128x1024 .bf16) (harg3 : arg3.IsWhole)
  (arg4 : Memref sig .tc .vmem S8x1024x128 .bf16) (harg4 : arg4.IsWhole)
  (arg5 : Memref sig .tc .vmem S8x128x1024 .bf16) (harg5 : arg5.IsWhole)
  (arg6 : Memref sig .tc .vmem S1024x1024 .bf16) (harg6 : arg6.IsWhole)
  (T0 T1 : S136.Idx → Elt Ideal .i32)
  (x0 : S8x128x1024.Idx → Elt Ideal .bf16) (x1 : S8x1024x128.Idx → Elt Ideal .bf16) (x2 : S8x128x1024.Idx → Elt Ideal .bf16)
  (m₀ : Buf (Elt Ideal) ((c : Thread nD τ).loc cc0_scratch0)) (a₀ : Buf (Elt Ideal) ((c : Thread nD τ).loc cc0_scratch1))

set_option maxHeartbeats 4000000 in
theorem runD_max (hc0 : ¬IsFirst i T1) (hc1 : IsBefore i T0 T1) (h3 : ¬IsDiag i T0 T1) :
    (runD c i arg3 harg3 arg4 harg4 arg5 harg5 arg6 harg6 T0 T1 x0 x1 x2 m₀ a₀ hc0 hc1 h3).1
      = maxBuf.view.writes (Elt Ideal) maxBuf.view.junk (maxPieces (sc arg3 arg4 x0 x1) (mr c m₀)) := by sl_kernel_rfl
set_option maxHeartbeats 4000000 in
theorem runD_acc (hc0 : ¬IsFirst i T1) (hc1 : IsBefore i T0 T1) (h3 : ¬IsDiag i T0 T1) :
    (runD c i arg3 harg3 arg4 harg4 arg5 harg5 arg6 harg6 T0 T1 x0 x1 x2 m₀ a₀ hc0 hc1 h3).2.1
      = accBuf.view.writes (Elt Ideal) accBuf.view.junk (accPieces (sc arg3 arg4 x0 x1) (mr c m₀) (ar c a₀) (vl arg5 x2)) := by sl_kernel_rfl

/-- Head `h`'s masked scores. -/
def msc (h : Fin 8) : FVec Ideal S1024x1024 .f32 := hMasked (sc arg3 arg4 x0 x1 h)

set_option maxHeartbeats 4000000 in
theorem runC_max (hc0 : ¬IsFirst i T1) (hc1 : ¬IsBefore i T0 T1) (h3 : IsDiag i T0 T1) :
    (runC c i arg3 harg3 arg4 harg4 arg5 harg5 arg6 harg6 T0 T1 x0 x1 x2 m₀ a₀ hc0 hc1 h3).2.1
      = maxBuf.view.writes (Elt Ideal) maxBuf.view.junk (maxPieces (msc arg3 arg4 x0 x1) (mr c m₀)) := by sl_kernel_rfl
set_option maxHeartbeats 4000000 in
theorem runC_acc (hc0 : ¬IsFirst i T1) (hc1 : ¬IsBefore i T0 T1) (h3 : IsDiag i T0 T1) :
    (runC c i arg3 harg3 arg4 harg4 arg5 harg5 arg6 harg6 T0 T1 x0 x1 x2 m₀ a₀ hc0 hc1 h3).2.2.1
      = accBuf.view.writes (Elt Ideal) accBuf.view.junk (accPieces (msc arg3 arg4 x0 x1) (mr c m₀) (ar c a₀) (vl arg5 x2)) := by sl_kernel_rfl
set_option maxHeartbeats 4000000 in
theorem runC_out (hc0 : ¬IsFirst i T1) (hc1 : ¬IsBefore i T0 T1) (h3 : IsDiag i T0 T1) :
    (runC c i arg3 harg3 arg4 harg4 arg5 harg5 arg6 harg6 T0 T1 x0 x1 x2 m₀ a₀ hc0 hc1 h3).1
      = outPieces fun h => accBuf.view.readCov (accPieces (msc arg3 arg4 x0 x1) (mr c m₀) (ar c a₀) (vl arg5 x2)) (rowA h).toLoadRect := by sl_kernel_rfl

set_option maxHeartbeats 4000000 in
theorem runB_max (hc0 : IsFirst i T1) (hc1 : IsBefore i T0 T1) (h3 : ¬IsDiag i T0 T1) :
    (runB c i arg3 harg3 arg4 harg4 arg5 harg5 arg6 harg6 T0 T1 x0 x1 x2 hc0 hc1 h3).1
      = maxBuf.view.writes (Elt Ideal) maxBuf.view.junk (stackM (sc arg3 arg4 x0 x1) 8) := by sl_kernel_rfl
set_option maxHeartbeats 4000000 in
theorem runB_acc (hc0 : IsFirst i T1) (hc1 : IsBefore i T0 T1) (h3 : ¬IsDiag i T0 T1) :
    (runB c i arg3 harg3 arg4 harg4 arg5 harg5 arg6 harg6 T0 T1 x0 x1 x2 hc0 hc1 h3).2.1
      = accBuf.view.writes (Elt Ideal) accBuf.view.junk (stackA (sc arg3 arg4 x0 x1) (vl arg5 x2) 8) := by sl_kernel_rfl
set_option maxHeartbeats 4000000 in
theorem runA_max (hc0 : IsFirst i T1) (hc1 : ¬IsBefore i T0 T1) (h3 : IsDiag i T0 T1) :
    (runA c i arg3 harg3 arg4 harg4 arg5 harg5 arg6 harg6 T0 T1 x0 x1 x2 hc0 hc1 h3).2.1
      = maxBuf.view.writes (Elt Ideal) maxBuf.view.junk (stackM (msc arg3 arg4 x0 x1) 8) := by sl_kernel_rfl
set_option maxHeartbeats 4000000 in
theorem runA_acc (hc0 : IsFirst i T1) (hc1 : ¬IsBefore i T0 T1) (h3 : IsDiag i T0 T1) :
    (runA c i arg3 harg3 arg4 harg4 arg5 harg5 arg6 harg6 T0 T1 x0 x1 x2 hc0 hc1 h3).2.2.1
      = accBuf.view.writes (Elt Ideal) accBuf.view.junk (stackA (msc arg3 arg4 x0 x1) (vl arg5 x2) 8) := by sl_kernel_rfl
set_option maxHeartbeats 4000000 in
theorem runA_out (hc0 : IsFirst i T1) (hc1 : ¬IsBefore i T0 T1) (h3 : IsDiag i T0 T1) :
    (runA c i arg3 harg3 arg4 harg4 arg5 harg5 arg6 harg6 T0 T1 x0 x1 x2 hc0 hc1 h3).1
      = outPieces fun h => accBuf.view.readCov (stackA (msc arg3 arg4 x0 x1) (vl arg5 x2) 8) (rowA h).toLoadRect := by sl_kernel_rfl

end Cert.KernelIdeal.Flash
end
end
-- ==== Proof.KernelIdealStep.lean ====
/-
One grid point of `KernelIdeal`, read entry by entry: how the running maximum and the running sums of a query move, and
what the output block holds where it is stored.
-/
module

public import proofs.«01_k».proof.Proof.KernelIdealBuffers
public import proofs.«01_k».proof.Proof.KernelIdealOpened
public import proofs.«01_k».proof.Proof.KernelIdealFrame

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic

/-- A tile's score of key `y` against query `x`, from the tiles of queries and keys. -/
def raw (x0 : S8x128x1024.Idx → Elt Ideal .bf16) (x1 : S8x1024x128.Idx → Elt Ideal .bf16) (h : Fin 8) (y x : Fin 1024) : EReal :=
  ∑ j : Fin 128, (x1 (ix3 h y j) : EReal) * (x0 (ix3 h j x) : EReal)

/-- A maximum after a tile of scores. -/
def tileM (M : EReal) (S : Fin 1024 → EReal) : EReal := max M (Finset.univ.sup S)
/-- A sum after a tile of scores and values. -/
def tileA (M A : EReal) (S V : Fin 1024 → EReal) : EReal :=
  Ideal.exp2 (M - tileM M S) * A + ∑ y : Fin 1024, V y * Ideal.exp2 (S y - tileM M S)

/-! ## The loads -/

section Loads
variable (arg3 : Memref sig .tc .vmem S8x128x1024 .bf16) (arg4 : Memref sig .tc .vmem S8x1024x128 .bf16)
  (arg5 : Memref sig .tc .vmem S8x128x1024 .bf16)
  (x0 : S8x128x1024.Idx → Elt Ideal .bf16) (x1 : S8x1024x128.Idx → Elt Ideal .bf16) (x2 : S8x128x1024.Idx → Elt Ideal .bf16)

theorem sc_apply (h : Fin 8) (y x : Fin 1024) : sc arg3 arg4 x0 x1 h (ix2 y x) = raw x0 x1 h y x := by
  unfold sc raw
  rw [hScore_apply, View.readAt_rep, View.readAt_rep]
  refine Finset.sum_congr rfl fun j _ => ?_
  show (x1 ((rowK h).idx (ix3 0 y j : S1x1024x128.Idx)) : EReal) * (x0 ((rowA h).idx (ix3 0 j x : S1x128x1024.Idx)) : EReal) = _
  rw [rowK_idx, rowA_idx]; rfl

theorem msc_apply (h : Fin 8) (y x : Fin 1024) : msc arg3 arg4 x0 x1 h (ix2 y x) = if y ≤ x then raw x0 x1 h y x else ⊥ := by
  unfold msc
  rw [hMasked_apply, sc_apply]

theorem vl_apply (h : Fin 8) (d : Fin 128) (y : Fin 1024) : vl arg5 x2 h (ix3 0 d y) = x2 (ix3 h d y) := by
  unfold vl
  rw [View.readAt_rep]
  show x2 ((rowA h).idx (ix3 0 d y : S1x128x1024.Idx)) = _
  rw [rowA_idx]; rfl
end Loads

/-! ## The scratches' entries -/

/-- The running maximum of head `h`'s query `x`. -/
def rdM {c : Dev nD} (s : Scr c) (h : Fin 8) (x : Fin 1024) : EReal := maxBuf.view.read (Elt Ideal) s.1 (ix2 h x)
/-- The running sum of head `h`'s coordinate `d` at query `x`. -/
def rdA {c : Dev nD} (s : Scr c) (h : Fin 8) (d : Fin 128) (x : Fin 1024) : EReal := accBuf.view.read (Elt Ideal) s.2 (ix3 h d x)

theorem mr_apply {c : Dev nD} (s : Scr c) (h : Fin 8) (x : Fin 1024) : mr c s.1 h (ix2 0 x) = rdM s h x := by
  show maxBuf.view.read (Elt Ideal) s.1 ((rowM h).idx (ix2 0 x : S1x1024.Idx)) = _
  rw [rowM_idx]; rfl
theorem ar_apply {c : Dev nD} (s : Scr c) (h : Fin 8) (d : Fin 128) (x : Fin 1024) : ar c s.2 h (ix3 0 d x) = rdA s h d x := by
  show accBuf.view.read (Elt Ideal) s.2 ((rowA h).idx (ix3 0 d x : S1x128x1024.Idx)) = _
  rw [rowA_idx]; rfl

section Writes
variable {c : Dev nD} (s : Fin 8 → FVec Ideal S1024x1024 .f32) (p : Fin 8 → Vec Ideal S1x1024 .f32) (a : Fin 8 → Vec Ideal S1x128x1024 .f32)
  (v : Fin 8 → Vec Ideal S1x128x1024 .bf16) (LM : List (View.Piece (Elt Ideal) S8x1024 .f32)) (LA : List (View.Piece (Elt Ideal) S8x128x1024 .f32))

theorem hMax_tile (h : Fin 8) (x : Fin 1024) : hMax (s h) (p h) (ix2 0 x) = tileM (p h (ix2 0 x)) fun y => s h (ix2 y x) := hMax_apply _ _ _

theorem hAcc_tile (h : Fin 8) (d : Fin 128) (x : Fin 1024) :
    hAcc (s h) (p h) (a h) (v h) (ix3 0 d x) = tileA (p h (ix2 0 x)) (a h (ix3 0 d x)) (fun y => s h (ix2 y x)) (fun y => v h (ix3 0 d y)) := by
  rw [hAcc_apply, hMax_tile]; rfl

theorem read_max (h : Fin 8) (x : Fin 1024) :
    maxBuf.view.read (Elt Ideal) (maxBuf.view.writes (Elt Ideal) maxBuf.view.junk (maxPieces s p ++ LM)) (ix2 h x)
      = tileM (p h (ix2 0 x)) fun y => s h (ix2 y x) := by
  rw [View.read_writes_junk_eq_canon, canon_max, hMax_tile]

theorem read_acc (h : Fin 8) (d : Fin 128) (x : Fin 1024) :
    accBuf.view.read (Elt Ideal) (accBuf.view.writes (Elt Ideal) accBuf.view.junk (accPieces s p a v ++ LA)) (ix3 h d x)
      = tileA (p h (ix2 0 x)) (a h (ix3 0 d x)) (fun y => s h (ix2 y x)) (fun y => v h (ix3 0 d y)) := by
  rw [View.read_writes_junk_eq_canon, canon_acc, hAcc_tile]

theorem read_out (L : List (View.Piece (Elt Ideal) S8x128x1024 .f32)) (h : Fin 8) (d : Fin 128) (x : Fin 1024) :
    outView.read (Elt Ideal) (outView.writes (Elt Ideal) outView.junk (outPieces fun h => accBuf.view.readCov L (rowA h).toLoadRect)) (ix2 x (ocol h d))
      = Ideal.div (accBuf.view.read (Elt Ideal) (accBuf.view.writes (Elt Ideal) accBuf.view.junk L) (ix3 h d x))
          (accBuf.view.read (Elt Ideal) (accBuf.view.writes (Elt Ideal) accBuf.view.junk L) (ix3 h 64 x)) := by
  rw [View.read_writes_junk_eq_canon, canon_out, hOut_apply]
  unfold View.readCov
  show Ideal.div (accBuf.view.read (Elt Ideal) _ ((rowA h).idx (ix3 0 d x : S1x128x1024.Idx)))
    (accBuf.view.read (Elt Ideal) _ ((rowA h).idx (ix3 0 64 x : S1x128x1024.Idx))) = _
  rw [rowA_idx, rowA_idx]; rfl
end Writes

/-! ## A point -/

variable (m : (ℓ : Loc nD τ sig) → Buf (Elt Ideal) ℓ)

/-- The scores of point `t`'s tile for head `h`'s query `x`: masked where the key tile is the query tile. -/
def tileS (c : Dev nD) (t : Fin cfgA.N) (h : Fin 8) (x y : Fin 1024) : EReal :=
  if Before t then raw (iblk m c 0 t) (iblk m c 1 t) h y x else if y ≤ x then raw (iblk m c 0 t) (iblk m c 1 t) h y x else ⊥
/-- The values of point `t`'s tile. -/
def tileV (c : Dev nD) (t : Fin cfgA.N) (h : Fin 8) (d : Fin 128) (y : Fin 1024) : EReal :=
  (iblk m c 2 t : S8x128x1024.Idx → Elt Ideal .bf16) (ix3 h d y)
/-- The maximum and the sum a point goes on from. -/
def fromM {c : Dev nD} (t : Fin cfgA.N) (s : Scr c) (h : Fin 8) (x : Fin 1024) : EReal := if First t then ⊥ else rdM s h x
def fromA {c : Dev nD} (t : Fin cfgA.N) (s : Scr c) (h : Fin 8) (d : Fin 128) (x : Fin 1024) : EReal := if First t then 0 else rdA s h d x

theorem step_max (c : Dev nD) (t : Fin cfgA.N) (s : Scr c) (h : Fin 8) (x : Fin 1024) :
    rdM (scrStep m c t s) h x = tileM (fromM t s h x) (tileS m c t h x) := by
  unfold fromM tileS
  by_cases q0 : First t
  · by_cases q1 : Before t
    · simp only [if_pos q0, if_pos q1]
      rw [scrStep_B m c t s q0 q1]; unfold rdM; dsimp only
      rw [runB_max, stackM_eq, read_max]; simp only [sc_apply]; rfl
    · simp only [if_pos q0, if_neg q1]
      rw [scrStep_A m c t s q0 q1]; unfold rdM; dsimp only
      rw [runA_max, stackM_eq, read_max]; simp only [msc_apply]; rfl
  · by_cases q1 : Before t
    · simp only [if_neg q0, if_pos q1]
      rw [scrStep_D m c t s q0 q1]; unfold rdM; dsimp only
      rw [runD_max, ← List.append_nil (maxPieces _ _), read_max]; simp only [sc_apply, mr_apply]; rfl
    · simp only [if_neg q0, if_neg q1]
      rw [scrStep_C m c t s q0 q1]; unfold rdM; dsimp only
      rw [runC_max, ← List.append_nil (maxPieces _ _), read_max]; simp only [msc_apply, mr_apply]; rfl

theorem step_acc (c : Dev nD) (t : Fin cfgA.N) (s : Scr c) (h : Fin 8) (d : Fin 128) (x : Fin 1024) :
    rdA (scrStep m c t s) h d x = tileA (fromM t s h x) (fromA t s h d x) (tileS m c t h x) (tileV m c t h d) := by
  unfold fromM fromA tileS tileV
  by_cases q0 : First t
  · by_cases q1 : Before t
    · simp only [if_pos q0, if_pos q1]
      rw [scrStep_B m c t s q0 q1]; unfold rdA; dsimp only
      rw [runB_acc, stackA_eq, read_acc]; simp only [sc_apply, vl_apply]; rfl
    · simp only [if_pos q0, if_neg q1]
      rw [scrStep_A m c t s q0 q1]; unfold rdA; dsimp only
      rw [runA_acc, stackA_eq, read_acc]; simp only [msc_apply, vl_apply]; rfl
  · by_cases q1 : Before t
    · simp only [if_neg q0, if_pos q1]
      rw [scrStep_D m c t s q0 q1]; unfold rdA; dsimp only
      rw [runD_acc, ← List.append_nil (accPieces _ _ _ _), read_acc]; simp only [sc_apply, vl_apply, mr_apply, ar_apply]; rfl
    · simp only [if_neg q0, if_neg q1]
      rw [scrStep_C m c t s q0 q1]; unfold rdA; dsimp only
      rw [runC_acc, ← List.append_nil (accPieces _ _ _ _), read_acc]; simp only [msc_apply, vl_apply, mr_apply, ar_apply]; rfl

theorem step_out (c : Dev nD) (t : Fin cfgA.N) (s : Scr c) (q1 : ¬Before t) (h : Fin 8) (d : Fin 128) (x : Fin 1024) :
    outStep m c t s (ix2 x (ocol h d)) = Ideal.div (rdA (scrStep m c t s) h d x) (rdA (scrStep m c t s) h 64 x) := by
  by_cases q0 : First t
  · rw [outStep_A m c t s q0 q1, scrStep_A m c t s q0 q1]; unfold rdA; dsimp only
    rw [runA_acc]
    refine Eq.trans (congrFun (congrArg (outView.read (Elt Ideal)) (congrArg (outView.writes (Elt Ideal) outView.junk) ?_)) _) (read_out _ h d x)
    exact runA_out ..
  · rw [outStep_C m c t s q0 q1, scrStep_C m c t s q0 q1]; unfold rdA; dsimp only
    rw [runC_acc]
    refine Eq.trans (congrFun (congrArg (outView.read (Elt Ideal)) (congrArg (outView.writes (Elt Ideal) outView.junk) ?_)) _) (read_out _ h d x)
    exact runC_out ..

end Cert.KernelIdeal.Flash
end
end
-- ==== Proof.KernelIdealRows.lean ====
/-
What the scratch buffers of `KernelIdeal` hold after each grid point: the largest score and the weighted sums over the
keys met so far; and from them the output, row by row.
-/
module

public import proofs.«01_k».proof.Proof.Attention
public import proofs.«01_k».proof.Proof.KernelIdealBlocks
public import proofs.«01_k».proof.Proof.KernelIdealStep

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Cert.Attention (dot score value mean)

/-- An array of queries or values, and one of keys, by coordinates. -/
def byRow (a : S8x128x16384.Idx → Elt Ideal .bf16) (h : Fin 8) (j : Fin 128) (x : Fin 16384) : EReal := a (ix3 h j x)
def byKey (a : S8x16384x128.Idx → Elt Ideal .bf16) (h : Fin 8) (y : Fin 16384) (j : Fin 128) : EReal := a (ix3 h y j)

variable (m : (ℓ : Loc nD τ sig) → Buf (Elt Ideal) ℓ)

/-- The queries, the keys and the values before the run. -/
def qIn (c : Dev nD) : Fin 8 → Fin 128 → Fin 16384 → EReal := byRow (m ((cfgA.win (0 : Fin 4)).arr.view.loc (c : Thread nD τ)))
def kIn (c : Dev nD) : Fin 8 → Fin 16384 → Fin 128 → EReal := byKey (m ((cfgA.win (1 : Fin 4)).arr.view.loc (c : Thread nD τ)))
def vIn (c : Dev nD) : Fin 8 → Fin 128 → Fin 16384 → EReal := byRow (m ((cfgA.win (2 : Fin 4)).arr.view.loc (c : Thread nD τ)))

theorem iblk_0 (c : Dev nD) (t : Fin cfgA.N) (h : Fin 8) (j : Fin 128) (x : Fin 1024) :
    (iblk m c 0 t : S8x128x1024.Idx → Elt Ideal .bf16) (ix3 h j x) = qIn m c h j (qRow t x) := by
  unfold iblk qIn byRow
  rw [← emb_0 t h j x]; rfl
theorem iblk_1 (c : Dev nD) (t : Fin cfgA.N) (h : Fin 8) (y : Fin 1024) (j : Fin 128) :
    (iblk m c 1 t : S8x1024x128.Idx → Elt Ideal .bf16) (ix3 h y j) = kIn m c h (kRow t y) j := by
  unfold iblk kIn byKey
  rw [← emb_1 t h y j]; rfl
theorem iblk_2 (c : Dev nD) (t : Fin cfgA.N) (h : Fin 8) (d : Fin 128) (y : Fin 1024) :
    (iblk m c 2 t : S8x128x1024.Idx → Elt Ideal .bf16) (ix3 h d y) = vIn m c h d (kRow t y) := by
  unfold iblk vIn byRow
  rw [← emb_2 t h d y]; rfl

theorem raw_eq (c : Dev nD) (t : Fin cfgA.N) (h : Fin 8) (y x : Fin 1024) :
    raw (iblk m c 0 t) (iblk m c 1 t) h y x = dot (qIn m c) (kIn m c) h (qRow t x) (kRow t y) := by
  unfold raw dot
  refine Finset.sum_congr rfl fun j _ => ?_
  rw [← iblk_0 m c t h j x, ← iblk_1 m c t h y j]

theorem tileS_eq (c : Dev nD) (t : Fin cfgA.N) (h : Fin 8) (x y : Fin 1024) :
    tileS m c t h x y = score (qIn m c) (kIn m c) h (qRow t x) (kT t * 1024 + y.val) := by
  have hk := kRow_lt t y
  obtain ⟨-, -, hle, -, hb, -⟩ := tileAt t
  unfold tileS score
  rw [dif_pos hk, raw_eq]
  show _ = if kT t * 1024 + y.val ≤ qT t * 1024 + x.val then dot (qIn m c) (kIn m c) h (qRow t x) (kRow t y) else ⊥
  have hy := y.isLt
  by_cases h1 : Before t
  · have := hb.1 h1
    rw [if_pos h1, if_pos (by omega)]
  · have h2 : kT t = qT t := by have : ¬kT t < qT t := fun h => h1 (hb.2 h); omega
    rw [if_neg h1, h2]
    refine if_congr ?_ rfl rfl
    rw [Fin.le_def]; omega

theorem tileV_eq (c : Dev nD) (t : Fin cfgA.N) (h : Fin 8) (d : Fin 128) (y : Fin 1024) :
    tileV m c t h d y = value (vIn m c) h d (kT t * 1024 + y.val) := by
  unfold tileV value
  rw [dif_pos (kRow_lt t y), iblk_2]; rfl

/-- One more tile of keys. -/
theorem upto_next (c : Dev nD) (hdot : ∀ h x y, dot (qIn m c) (kIn m c) h x y ≠ ⊤ ∧ dot (qIn m c) (kIn m c) h x y ≠ ⊥)
    (t : Fin cfgA.N) (s : Scr c) (h : Fin 8) (d : Fin 128) (x : Fin 1024)
    (H : Softmax.Upto (score (qIn m c) (kIn m c) h (qRow t x)) (value (vIn m c) h d) (kT t * 1024) (fromM t s h x) (fromA t s h d x)) :
    Softmax.Upto (score (qIn m c) (kIn m c) h (qRow t x)) (value (vIn m c) h d) ((kT t + 1) * 1024)
      (rdM (scrStep m c t s) h x) (rdA (scrStep m c t s) h d x) := by
  rw [step_max, step_acc, Nat.succ_mul, funext (tileS_eq m c t h x), funext (tileV_eq m c t h d)]
  exact Softmax.upto_step _ _ _ 1024 _ _ H fun y _ => Attention.score_ne_top hdot h (qRow t x) y

theorem upto_after (c : Dev nD) (hdot : ∀ h x y, dot (qIn m c) (kIn m c) h x y ≠ ⊤ ∧ dot (qIn m c) (kIn m c) h x y ≠ ⊥)
    (h : Fin 8) (d : Fin 128) (x : Fin 1024) : ∀ (n : ℕ) (hn : n + 1 ≤ cfgA.N),
    Softmax.Upto (score (qIn m c) (kIn m c) h (qRow ⟨n, hn⟩ x)) (value (vIn m c) h d) ((kT ⟨n, hn⟩ + 1) * 1024)
      (rdM (scr m c (n + 1) hn) h x) (rdA (scr m c (n + 1) hn) h d x) := by
  intro n
  induction n with
  | zero =>
    intro hn
    refine upto_next m c hdot ⟨0, hn⟩ _ h d x ?_
    have hf : First (⟨0, hn⟩ : Fin cfgA.N) := (factsAt _).2.2.2 rfl
    unfold fromM fromA
    rw [if_pos hf, if_pos hf, (tileAt _).2.2.2.1.1 hf, Nat.zero_mul]
    exact Softmax.upto_zero _ _
  | succ n ih =>
    intro hn
    refine upto_next m c hdot ⟨n + 1, hn⟩ _ h d x ?_
    unfold fromM fromA
    by_cases hf : First (⟨n + 1, hn⟩ : Fin cfgA.N)
    · rw [if_pos hf, if_pos hf, (tileAt _).2.2.2.1.1 hf, Nat.zero_mul]
      exact Softmax.upto_zero _ _
    · rw [if_neg hf, if_neg hf]
      have hp := (tileAt _).2.2.2.2.2 hf
      have hn' : n + 1 ≤ cfgA.N := Nat.le_of_succ_le hn
      have e : prev (⟨n + 1, hn⟩ : Fin cfgA.N) = ⟨n, hn'⟩ := rfl
      rw [e] at hp
      have hq : qRow (⟨n + 1, hn⟩ : Fin cfgA.N) x = qRow ⟨n, hn'⟩ x := Fin.ext (by show _ * 1024 + _ = _ * 1024 + _; rw [hp.2])
      rw [hq, hp.1]
      exact ih hn'

/-- What a writing-back point leaves in the output block. -/
theorem out_eq (c : Dev nD) (hdot : ∀ h x y, dot (qIn m c) (kIn m c) h x y ≠ ⊤ ∧ dot (qIn m c) (kIn m c) h x y ≠ ⊥)
    (hone : ∀ h y, vIn m c h 64 y = 1) (t : Fin cfgA.N) (hb : ¬Before t) (h : Fin 8) (d : Fin 128) (x : Fin 1024) :
    outStep m c t (scr m c t.val (Nat.le_of_lt t.isLt)) (ix2 x (ocol h d)) = mean (qIn m c) (kIn m c) (vIn m c) h d (qRow t x) := by
  rw [step_out m c t _ hb h d x, ← scr_succ m c t t.isLt]
  obtain ⟨-, hq, hle, -, hbb, -⟩ := tileAt t
  have hkq : kT t = qT t := by have : ¬kT t < qT t := fun h => hb (hbb.2 h); omega
  refine Attention.mean_of_upto hdot hone h d (qRow t x) ((kT t + 1) * 1024) ?_ ?_ _ _ _
    (upto_after m c hdot h d x t.val t.isLt) (upto_after m c hdot h 64 x t.val t.isLt)
  · show qT t * 1024 + x.val < _
    rw [hkq]; omega
  · omega

/-- A column's head and coordinate. -/
def headOf (l : Fin 1024) : Fin 8 := ⟨l.val / 128, by omega⟩
def coordOf (l : Fin 1024) : Fin 128 := ⟨l.val % 128, by omega⟩
theorem ocol_of (l : Fin 1024) : ocol (headOf l) (coordOf l) = l := Fin.ext (by unfold ocol headOf coordOf; dsimp only; omega)

/-- Attention of every head, as the output array lays it out. -/
def attn (q : Fin 8 → Fin 128 → Fin 16384 → EReal) (k : Fin 8 → Fin 16384 → Fin 128 → EReal) (v : Fin 8 → Fin 128 → Fin 16384 → EReal) :
    S16384x1024.Idx → Elt Ideal .bf16 := fun i => mean q k v (headOf (i 1)) (coordOf (i 1)) (i 0)

/-- The output array after the run. -/
theorem arr_out (c : Dev nD) (hdot : ∀ h x y, dot (qIn m c) (kIn m c) h x y ≠ ⊤ ∧ dot (qIn m c) (kIn m c) h x y ≠ ⊥)
    (hone : ∀ h y, vIn m c h 64 y = 1) :
    (dats m 0 c).arrAt (3 : Fin 4) cfgA.N = attn (qIn m c) (kIn m c) (vIn m c) := by
  refine (dats m 0 c).arrAt_eq_of_covers (3 : Fin 4) _ covers_3 fun t hf y => ?_
  have hb : ¬Before t := fun hb => by rw [flush_of_before hb] at hf; exact Bool.noConfusion hf
  obtain ⟨x, l, rfl⟩ : ∃ (x l : Fin 1024), y = (ix2 x l : S1024x1024.Idx) := ⟨y 0, y 1, funext fun a => by fin_cases a <;> rfl⟩
  rw [emb_3 t x l]
  show outStep m c t (scr m c t.val (Nat.le_of_lt t.isLt)) (ix2 x l) = mean (qIn m c) (kIn m c) (vIn m c) (headOf l) (coordOf l) (qRow t x)
  rw [← out_eq m c hdot hone t hb (headOf l) (coordOf l) x, ocol_of]

end Cert.KernelIdeal.Flash
end
end
-- ==== Proof.ReferenceValue.lean ====
/-
The reference read entry by entry: each entry of its result is the softmax-weighted mean of one head's values.
-/
module

public import proofs.«01_k».proof.Proof.Attention
public import proofs.«01_k».proof.Proof.Gen.ReferenceIdeal.Read
public import Idealize.ShloMosaic.Lib.WordCmp
public import Idealize.ShloMosaic.Lib.Pointwise.Index

@[expose] public section

noncomputable section

namespace Cert.ReferenceIdeal.Softmax

open Cert.ReferenceIdeal Cert.ReferenceIdeal.Gen Cert.ReferenceIdeal.Read
open Idealize.ShloMosaic
open Cert.Attention (dot score value logit top mean)

/-- An array of queries or values, and one of keys, by coordinates. -/
def byRow (a : S8x128x16384.Idx → Elt Ideal .bf16) (h : Fin 8) (j : Fin 128) (x : Fin 16384) : EReal := a (ix3 h j x)
def byKey (a : S8x16384x128.Idx → Elt Ideal .bf16) (h : Fin 8) (y : Fin 16384) (j : Fin 128) : EReal := a (ix3 h y j)

variable (q : S8x128x16384.Idx → Elt Ideal .bf16) (k : S8x16384x128.Idx → Elt Ideal .bf16) (v : S8x128x16384.Idx → Elt Ideal .bf16)

theorem ofBits_two : (Ideal.ofBits .f32 0x40000000#32 : EReal) = ((2 : ℝ) : EReal) := by
  simp [Ideal.ofBits, Ideal.ieee, ← EReal.coe_mul]; norm_num
theorem ofBits_bot : (Ideal.ofBits .f32 0xFF800000#32 : EReal) = ⊥ := by simp [Ideal.ofBits, Ideal.ieee]
theorem ofBits_zero : (Ideal.ofBits .f32 0x00000000#32 : EReal) = 0 := by simp [Ideal.ofBits, Ideal.ieee]

theorem dot_read (h : Fin 8) (x y : Fin 16384) :
    val_main_v2 (F := Ideal) q k (ix3 h x y) = dot (byRow q) (byKey k) h x y := by
  rw [val_main_v2_apply]
  unfold dot byRow byKey
  refine Finset.sum_congr rfl fun j _ => ?_
  rw [val_main_v0_apply, val_main_v1_apply]
  have e0 : lidx_main_v2 (ix3 h x y : S8x16384x16384.Idx) j = (ix3 h j x : S8x128x16384.Idx) := funext fun a => by fin_cases a <;> rfl
  have e1 : ridx_main_v2 (ix3 h x y : S8x16384x16384.Idx) j = (ix3 h y j : S8x16384x128.Idx) := funext fun a => by fin_cases a <;> rfl
  rw [e0, e1]
  exact mul_comm _ _

theorem ln2_read (i : S8x16384x16384.Idx) : (val_main_v4 (F := Ideal) i : EReal) = ((Real.log 2 : ℝ) : EReal) := by
  rw [val_main_v4_apply, val_main_v3_apply, val_main_cst_apply]
  show Ideal.log (Ideal.ofBits .f32 0x40000000#32 : EReal) = _
  rw [ofBits_two, Cert.Softmax.log_two]

theorem mask_read (h : Fin 8) (x y : Fin 16384) :
    val_main_call0_v1 (F := Ideal) (ix3 h x y) = if y ≤ x then 1#1 else 0#1 := by
  rw [val_main_call0_v1_apply, val_main_v12_apply, val_main_v11_apply, val_main_v9_apply, val_main_v7_apply, val_main_v6_apply,
    val_main_v10_apply, val_main_v8_apply, val_main_v6_apply]
  show IntOp.cmpi .sle (BitVec.ofNat 32 y.val) (BitVec.ofNat 32 x.val) = _
  rw [WordCmp.cmpi_sle_ofNat (by omega) (by omega)]
  simp only [Fin.le_def]
  by_cases hy : y.val ≤ x.val
  · rw [decide_eq_true hy, if_pos hy]; rfl
  · rw [decide_eq_false hy, if_neg hy]; rfl

theorem logit_read (h : Fin 8) (x y : Fin 16384) :
    val_main_v13 (F := Ideal) q k (ix3 h x y) = logit (byRow q) (byKey k) h x y := by
  rw [val_main_v13_apply, mask_read, val_main_v5_apply, ln2_read, dot_read, val_main_call0_v2_apply, val_main_call0_v0_apply, val_main_cst_0_apply]
  unfold logit score
  rw [dif_pos y.isLt]
  by_cases hy : y ≤ x
  · rw [if_pos hy, if_pos (Fin.le_def.1 hy)]; rfl
  · rw [if_neg hy, if_neg (fun h => hy (Fin.le_def.2 h))]
    show (Ideal.ofBits .f32 0xFF800000#32 : EReal) = _
    rw [ofBits_bot, EReal.bot_mul_coe_of_pos (Real.log_pos (by norm_num))]

theorem top_read (h : Fin 8) (x : Fin 16384) :
    val_main_v16 (F := Ideal) q k (ix2 h x) = top (byRow q) (byKey k) h x := by
  rw [val_main_v16_apply, val_main_v15_apply, val_main_cst_2_apply]
  have e : val_main_v14 (F := Ideal) q k (ix2 h x) = top (byRow q) (byKey k) h x := by
    unfold val_main_v14 top
    rw [Host.reduce_eq_fold_single (FloatOps.maximumf (F := Ideal) (φ := .f32)) _ _ reducesTo_S8x16384x16384_S8x16384_d2 (by decide) h_S_]
    rw [show val_main_cst_1 (F := Ideal) (Shape.Idx.first h_S_) = (⊥ : EReal) from ofBits_bot]
    have hl : ∀ y : Fin 16384, (val_main_v13 (F := Ideal) q k ∘ Shape.Reduces.lift (s := S8x16384x16384) (t := S8x16384) (a := 2) (by decide) (ix2 h x)) y
        = logit (byRow q) (byKey k) h x y := fun y => by
      rw [← logit_read]
      exact congrArg (val_main_v13 (F := Ideal) q k) (funext fun a => by fin_cases a <;> rfl)
    rw [← funext hl]; rfl
  rw [e]
  show max (Ideal.ofBits .f32 0xFF800000#32 : EReal) _ = _
  rw [ofBits_bot]; exact max_eq_right bot_le

theorem weight_read (h : Fin 8) (x y : Fin 16384) :
    val_main_v20 (F := Ideal) q k (ix3 h x y) = Ideal.exp (logit (byRow q) (byKey k) h x y - top (byRow q) (byKey k) h x) := by
  rw [val_main_v20_apply, val_main_v19_apply, logit_read, val_main_v18_apply, val_main_v17_apply]
  have e : idx_main_v17 (idx_main_v18 (ix3 h x y : S8x16384x16384.Idx)) = (ix2 h x : S8x16384.Idx) := funext fun a => by fin_cases a <;> rfl
  rw [e, top_read]; rfl

theorem total_read (h : Fin 8) (x : Fin 16384) :
    val_main_v21 (F := Ideal) q k (ix2 h x) = ∑ y : Fin 16384, Ideal.exp (logit (byRow q) (byKey k) h x y - top (byRow q) (byKey k) h x) := by
  rw [val_main_v21_apply, val_main_cst_3_apply]
  rw [show (FloatOps.ofBits .f32 0x00000000#32 : Ideal .f32) = (0 : EReal) from ofBits_zero, zero_add]
  refine Finset.sum_congr rfl fun y _ => ?_
  rw [← weight_read]
  exact congrArg (val_main_v20 (F := Ideal) q k) (funext fun a => by fin_cases a <;> rfl)

theorem softmax_read (h : Fin 8) (x y : Fin 16384) :
    val_main_v24 (F := Ideal) q k (ix3 h x y)
      = Ideal.div (Ideal.exp (logit (byRow q) (byKey k) h x y - top (byRow q) (byKey k) h x))
          (∑ j : Fin 16384, Ideal.exp (logit (byRow q) (byKey k) h x j - top (byRow q) (byKey k) h x)) := by
  rw [val_main_v24_apply, weight_read, val_main_v23_apply, val_main_v22_apply]
  have e : idx_main_v22 (idx_main_v23 (ix3 h x y : S8x16384x16384.Idx)) = (ix2 h x : S8x16384.Idx) := funext fun a => by fin_cases a <;> rfl
  rw [e, total_read]; rfl

theorem mean_read (h : Fin 8) (d : Fin 128) (x : Fin 16384) :
    val_main_v26 (F := Ideal) q k v (ix3 h d x) = mean (byRow q) (byKey k) (byRow v) h d x := by
  rw [val_main_v26_apply]
  unfold mean
  refine Finset.sum_congr rfl fun y _ => ?_
  have e0 : lidx_main_v26 (ix3 h d x : S8x128x16384.Idx) y = (ix3 h d y : S8x128x16384.Idx) := funext fun a => by fin_cases a <;> rfl
  have e1 : ridx_main_v26 (ix3 h d x : S8x128x16384.Idx) y = (ix3 h x y : S8x16384x16384.Idx) := funext fun a => by fin_cases a <;> rfl
  rw [e0, e1, softmax_read, val_main_v25_apply]
  exact mul_comm _ _

/-- The reference's result at row `x`, column `l`. -/
theorem result_read (x : Fin 16384) (l : Fin 1024) :
    val_main_v29 (F := Ideal) q k v (ix2 x l)
      = mean (byRow q) (byKey k) (byRow v) ⟨l.val / 128, by omega⟩ ⟨l.val % 128, by omega⟩ x := by
  rw [val_main_v29_apply, val_main_v28_apply, val_main_v27_apply]
  have e : idx_main_v27 (idx_main_v28 (ix2 x l : S16384x1024.Idx))
      = (ix3 (⟨l.val / 128, by omega⟩ : Fin 8) (⟨l.val % 128, by omega⟩ : Fin 128) x : S8x128x16384.Idx) := by
    refine funext fun a => Fin.ext ?_
    have hx := x.isLt
    have hl := l.isLt
    match a with
    | ⟨0, _⟩ => show (x.val * 1024 + l.val) / 128 % 8 = l.val / 128; omega
    | ⟨1, _⟩ => show (x.val * 1024 + l.val) % 128 = l.val % 128; omega
    | ⟨2, _⟩ => show (x.val * 1024 + l.val) / 1024 = x.val; omega
  rw [e, mean_read]; rfl

end Cert.ReferenceIdeal.Softmax
end
end
-- ==== Proof.Tame.lean ====
/-
What the precondition says of the arguments, entry by entry: finite queries and keys, and a row of ones among the
values of every head. The products of queries and keys are then finite.
-/
module

public import proofs.«01_k».proof.Pre_tame
public import proofs.«01_k».proof.Proof.Attention
public import Idealize.ShloMosaic.Lib.Pipeline.Value
public import Idealize.ShloMosaic.Lib.Pointwise.Index

@[expose] public section

noncomputable section

namespace Cert.Pre_tame

open Idealize.ShloMosaic
open Facts

variable [Facts] (q : S8x128x16384.Idx → Elt Ideal .bf16) (k : S8x16384x128.Idx → Elt Ideal .bf16) (v : S8x128x16384.Idx → Elt Ideal .bf16)

theorem and_one {a b : BitVec 1} : IntOp.andi a b = 1#1 → a = 1#1 ∧ b = 1#1 := by
  revert a b; decide
theorem ofBits_top : (Ideal.ofBits .f32 0x7F800000#32 : EReal) = ⊤ := by simp [Ideal.ofBits, Ideal.ieee]
theorem ofBits_one : (Ideal.ofBits .f32 0x3F800000#32 : EReal) = 1 := by
  simp [Ideal.ofBits, Ideal.ieee, ← EReal.coe_mul]; norm_num

/-- A value below plus infinity in magnitude is finite. -/
theorem finite_of_cmp {x : EReal} (h : Ideal.cmp .olt (max x (-x)) (Ideal.ofBits .f32 0x7F800000#32) = 1#1) : x ≠ ⊤ ∧ x ≠ ⊥ := by
  rw [ofBits_top] at h
  constructor
  · rintro rfl; simp [Ideal.cmp] at h
  · rintro rfl; simp [Ideal.cmp] at h

theorem one_of_cmp {x : EReal} (h : Ideal.cmp .oeq x (Ideal.ofBits .f32 0x3F800000#32) = 1#1) : x = 1 := by
  rw [ofBits_one] at h
  by_contra hx
  simp [Ideal.cmp, hx] at h

variable {q k v}

theorem tame_apply (H : fn (F := Ideal) q k v = fun _ => 1#1) (h : Fin 8) (j : Fin 128) (x : Fin 16384) :
    ((q (ix3 h j x) : EReal) ≠ ⊤ ∧ (q (ix3 h j x) : EReal) ≠ ⊥) ∧ ((k (ix3 h x j) : EReal) ≠ ⊤ ∧ (k (ix3 h x j) : EReal) ≠ ⊥)
      ∧ (v (ix3 h 64 x) : EReal) = 1 := by
  have hi := congrFun H (ix3 h j x)
  unfold fn at hi
  dsimp only at hi
  obtain ⟨hqk, hv⟩ := and_one hi
  obtain ⟨hq, hk⟩ := and_one hqk
  refine ⟨finite_of_cmp hq, ?_, ?_⟩
  · have e : transpose S8x128x16384 [0, 2, 1] k transposes_S8x16384x128_S8x128x16384_0_2_1 (ix3 h j x) = k (ix3 h x j : S8x16384x128.Idx) :=
      transpose_apply _ k _ _ _ fun b => by fin_cases b <;> rfl
    rw [← e]
    exact finite_of_cmp hk
  · rw [broadcastInDim_apply ![0, 1, 2] bcast_S8x1x16384_S8x128x16384_0_1_2 _ (ix3 h j x : S8x128x16384.Idx) (ix3 h 0 x : S8x1x16384.Idx)
      (fun a => by fin_cases a <;> rfl)] at hv
    have e : extractStridedSlice S8x1x16384 ![0, 64, 0] v slices_S8x128x16384_S8x1x16384_0_64_0 (ix3 h 0 x : S8x1x16384.Idx) = v (ix3 h 64 x : S8x128x16384.Idx) :=
      extractStridedSlice_apply _ v _ _ _ fun a => by fin_cases a <;> simp <;> rfl
    rw [← e]
    exact one_of_cmp hv

end Cert.Pre_tame

namespace Cert.Attention

theorem sum_finite {ι : Type*} (S : Finset ι) (f : ι → EReal) (hf : ∀ i, f i ≠ ⊤ ∧ f i ≠ ⊥) : (∑ i ∈ S, f i) ≠ ⊤ ∧ (∑ i ∈ S, f i) ≠ ⊥ := by
  have e : ∀ i, f i = ((f i).toReal : EReal) := fun i => (EReal.coe_toReal (hf i).1 (hf i).2).symm
  rw [Finset.sum_congr rfl fun i _ => e i, ← Softmax.coe_sum]
  exact ⟨EReal.coe_ne_top _, EReal.coe_ne_bot _⟩

theorem dot_finite {q : Fin 8 → Fin 128 → Fin 16384 → EReal} {k : Fin 8 → Fin 16384 → Fin 128 → EReal}
    (hq : ∀ h j x, q h j x ≠ ⊤ ∧ q h j x ≠ ⊥) (hk : ∀ h y j, k h y j ≠ ⊤ ∧ k h y j ≠ ⊥) (h : Fin 8) (x y : Fin 16384) :
    dot q k h x y ≠ ⊤ ∧ dot q k h x y ≠ ⊥ := by
  refine sum_finite _ _ fun j => ?_
  rw [← EReal.coe_toReal (hq h j x).1 (hq h j x).2, ← EReal.coe_toReal (hk h y j).1 (hk h y j).2, ← EReal.coe_mul]
  exact ⟨EReal.coe_ne_top _, EReal.coe_ne_bot _⟩

end Cert.Attention
end
end
-- ==== Proof.lean ====
/- The claims. About the prompt's attention: the kernel and its idealization end with their arguments unchanged and every
   semaphore at zero, the reference does too, naming the mask is sound, and on tame arguments the idealized kernel and the
   reference end with the same result. The same of the other calls, whose claims are proved in modules of their own and
   need nothing of the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tame
public import proofs.«01_k».proof.Proof.ProjectClaim
public import proofs.«01_k».proof.Proof.PrepareClaim
public import proofs.«01_k».proof.Proof.PrepareSClaim
public import proofs.«01_k».proof.Proof.KernelFrame
public import proofs.«01_k».proof.Proof.KernelIdealFrame
public import proofs.«01_k».proof.Proof.KernelIdealRows
public import proofs.«01_k».proof.Proof.ReferenceValue
public import proofs.«01_k».proof.Proof.Tame
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged. -/
theorem reference_frame : Cert.quiescent_ReferenceIdeal := fun m ρ _ =>
  (θ_run _ _ _).mono (fun _ h => ⟨fun c => (h c).2, sem_eq_zero_of_no_sems rfl _⟩) (Cert.ReferenceIdeal.Value.run m ρ)

/-- The number that stands for the mask in the kernel's text may be read as minus infinity. -/
theorem preserves : Cert.preserves_Kernel_KernelIdeal :=
  IdealRules.named_const.statement _ _ _ _ _ rfl

/-- On tame arguments the idealized kernel's output and the reference's result are both the softmax-weighted means of the
    values, entry by entry. -/
theorem algebraic : Cert.algebraic_KernelIdeal_ReferenceIdeal_pre_tame := fun m ρ m' ρ' hpre hargs => by
  refine ⟨fun c => Cert.KernelIdeal.Flash.attn (Cert.KernelIdeal.Flash.qIn m c) (Cert.KernelIdeal.Flash.kIn m c) (Cert.KernelIdeal.Flash.vIn m c), ?_, ?_⟩
  · refine (θ_run _ _ _).mono (fun r h c => ⟨(h.1 c (3 : Fin 4)).trans ?_,
      (h.1 c (0 : Fin 4)).trans ((Cert.KernelIdeal.Flash.dats m 0 c).arrAt_in (0 : Fin 4) rfl _),
      (h.1 c (1 : Fin 4)).trans ((Cert.KernelIdeal.Flash.dats m 0 c).arrAt_in (1 : Fin 4) rfl _),
      (h.1 c (2 : Fin 4)).trans ((Cert.KernelIdeal.Flash.dats m 0 c).arrAt_in (2 : Fin 4) rfl _)⟩) (Cert.KernelIdeal.Flash.run_main m ρ)
    have T := fun h j x => Cert.Pre_tame.tame_apply (hpre c) h j x
    exact Cert.KernelIdeal.Flash.arr_out m c (Cert.Attention.dot_finite (fun h j x => (T h j x).1) (fun h y j => (T h j y).2.1)) (fun h y => (T h 0 y).2.2)
  · refine (θ_run _ _ _).mono (fun r h c => ⟨(h c).1.trans ?_, (h c).2⟩) (Cert.ReferenceIdeal.Value.run m' ρ')
    obtain ⟨e0, e1, e2⟩ := hargs c
    rw [Cert.ReferenceIdeal.Read.val_main_v29_eq, e0, e1, e2]
    funext i
    obtain ⟨x, l, rfl⟩ : ∃ (x : Fin 16384) (l : Fin 1024), i = (ix2 x l : Cert.ReferenceIdeal.S16384x1024.Idx) := ⟨i 0, i 1, funext fun a => by fin_cases a <;> rfl⟩
    exact Cert.ReferenceIdeal.Softmax.result_read _ _ _ x l

theorem claim : Cert.Claim := ⟨Cert.Kernel.Gen.facts, Cert.KernelIdeal.Gen.facts, Cert.ReferenceIdeal.Gen.facts,
  Cert.Project.Gen.facts, Cert.ProjectIdeal.Gen.facts, Cert.ProjectReferenceIdeal.Gen.facts,
  Cert.Prepare.Gen.facts, Cert.PrepareIdeal.Gen.facts, Cert.PrepareReferenceIdeal.Gen.facts,
  Cert.PrepareS.Gen.facts, Cert.PrepareSIdeal.Gen.facts, Cert.PrepareSReferenceIdeal.Gen.facts, Cert.Pre_tame.Gen.facts,
  fun m ρ _ => Cert.Kernel.Flash.frame_holds m ρ,
  fun m ρ _ => Cert.KernelIdeal.Flash.frame_holds m ρ,
  fun m ρ _ => Cert.KernelIdeal.Flash.frame_holds m ρ,
  reference_frame, fun m ρ _ => reference_frame m ρ trivial,
  Project.kernel_frame, Project.ideal_frame, Project.reference_frame,
  Prepare.kernel_frame, Prepare.ideal_frame, Prepare.reference_frame,
  PrepareS.kernel_frame, PrepareS.ideal_frame, PrepareS.reference_frame, preserves, algebraic,
  Project.preserves, Project.algebraic, Prepare.preserves, Prepare.algebraic, PrepareS.preserves, PrepareS.algebraic⟩

end Cert.Proof

end
